-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_finite_and_in_range : Cert.Pre_finite_and_in_range.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1x2048x256 : Shape := ⟨3, ![1, 2048, 256]⟩
abbrev S1x2048x128 : Shape := ⟨3, ![1, 2048, 128]⟩
abbrev S16x2048 : Shape := ⟨2, ![16, 2048]⟩
abbrev S64x256 : Shape := ⟨2, ![64, 256]⟩
abbrev S256 : Shape := ⟨1, ![256]⟩
abbrev S256x64 : Shape := ⟨2, ![256, 64]⟩
abbrev S64 : Shape := ⟨1, ![64]⟩
abbrev S3x256 : Shape := ⟨2, ![3, 256]⟩
abbrev S256x256 : Shape := ⟨2, ![256, 256]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel
  bcast_S_S1x2048x256 : S_.BroadcastsInDim S1x2048x256 (![] : Fin 0 → Fin S1x2048x256.rank)
  reducesTo_S1x2048x256_S_d0_1_2 : S1x2048x256.ReducesTo [0, 1, 2] S_
  bcast_S_S1x2048x128 : S_.BroadcastsInDim S1x2048x128 (![] : Fin 0 → Fin S1x2048x128.rank)
  reducesTo_S1x2048x128_S_d0_1_2 : S1x2048x128.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg19 : FVec F S256x256 .f32) (main_v82 : IVec S_ 1) (main_v83 : FVec F S256x256 .f32) (main_v84 : FVec F S256x256 .f32) : IVec S_ 1 :=
  let main_v85 : IVec S256x256 1 := cmpf .olt main_v83 main_v84
  let main_c_33 : IVec S_ 1 := constantI S_ 1 1#1
  let main_v86 : IVec S_ 1 := (fun x v => Host.reduce IntOp.andi x v reducesTo_S256x256_S_d0_1 h_S_) main_v85 main_c_33
  let main_v87 : IVec S_ 1 := andi main_v82 main_v86
  let main_v88 : FVec F S256x256 .f32 := Host.absf main_arg19
  let main_cst_34 : FVec F S_ .f32 := constant S_ .f32 0x7F800000#32
  let main_v89 : FVec F S256x256 .f32 := broadcastInDim S256x256 ![] bcast_S_S256x256 main_cst_34
  let main_v90 : IVec S256x256 1 := cmpf .olt main_v88 main_v89
  let main_c_35 : IVec S_ 1 := constantI S_ 1 1#1
  let main_v91 : IVec S_ 1 := (fun x v => Host.reduce IntOp.andi x v reducesTo_S256x256_S_d0_1 h_S_) main_v90 main_c_35
  let main_v92 : IVec S_ 1 := andi main_v87 main_v91
  main_v92

def fn_part4 {F : FTy → Type} [FloatOps F] (main_arg15 : FVec F S256 .f32) (main_arg16 : FVec F S256x256 .f32) (main_arg17 : FVec F S256 .f32) (main_arg18 : FVec F S256x256 .f32) (main_arg19 : FVec F S256x256 .f32) (main_v67 : IVec S_ 1) : IVec S_ 1 :=
  let main_v68 : FVec F S256 .f32 := Host.absf main_arg15
  let main_cst_26 : FVec F S_ .f32 := constant S_ .f32 0x7F800000#32
  let main_v69 : FVec F S256 .f32 := broadcastInDim S256 ![] bcast_S_S256 main_cst_26
  let main_v70 : IVec S256 1 := cmpf .olt main_v68 main_v69
  let main_c_27 : IVec S_ 1 := constantI S_ 1 1#1
  let main_v71 : IVec S_ 1 := (fun x v => Host.reduce IntOp.andi x v reducesTo_S256_S_d0 h_S_) main_v70 main_c_27
  let main_v72 : IVec S_ 1 := andi main_v67 main_v71
  let main_v73 : FVec F S256x256 .f32 := Host.absf main_arg16
  let main_cst_28 : FVec F S_ .f32 := constant S_ .f32 0x7F800000#32
  let main_v74 : FVec F S256x256 .f32 := broadcastInDim S256x256 ![] bcast_S_S256x256 main_cst_28
  let main_v75 : IVec S256x256 1 := cmpf .olt main_v73 main_v74
  let main_c_29 : IVec S_ 1 := constantI S_ 1 1#1
  let main_v76 : IVec S_ 1 := (fun x v => Host.reduce IntOp.andi x v reducesTo_S256x256_S_d0_1 h_S_) main_v75 main_c_29
  let main_v77 : IVec S_ 1 := andi main_v72 main_v76
  let main_v78 : FVec F S256 .f32 := Host.absf main_arg17
  let main_cst_30 : FVec F S_ .f32 := constant S_ .f32 0x7F800000#32
  let main_v79 : FVec F S256 .f32 := broadcastInDim S256 ![] bcast_S_S256 main_cst_30
  let main_v80 : IVec S256 1 := cmpf .olt main_v78 main_v79
  let main_c_31 : IVec S_ 1 := constantI S_ 1 1#1
  let main_v81 : IVec S_ 1 := (fun x v => Host.reduce IntOp.andi x v reducesTo_S256_S_d0 h_S_) main_v80 main_c_31
  let main_v82 : IVec S_ 1 := andi main_v77 main_v81
  let main_v83 : FVec F S256x256 .f32 := Host.absf main_arg18
  let main_cst_32 : FVec F S_ .f32 := constant S_ .f32 0x7F800000#32
  let main_v84 : FVec F S256x256 .f32 := broadcastInDim S256x256 ![] bcast_S_S256x256 main_cst_32
  fn_part5 (F := F) main_arg19 main_v82 main_v83 main_v84

def fn_part3 {F : FTy → Type} [FloatOps F] (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256x256 .f32) (main_v47 : IVec S_ 1) (main_v50 : IVec S256 1) : IVec S_ 1 :=
  let main_c_19 : IVec S_ 1 := constantI S_ 1 1#1
  let main_v51 : IVec S_ 1 := (fun x v => Host.reduce IntOp.andi x v reducesTo_S256_S_d0 h_S_) main_v50 main_c_19
  let main_v52 : IVec S_ 1 := andi main_v47 main_v51
  let main_v53 : FVec F S256x256 .f32 := Host.absf main_arg12
  let main_cst_20 : FVec F S_ .f32 := constant S_ .f32 0x7F800000#32
  let main_v54 : FVec F S256x256 .f32 := broadcastInDim S256x256 ![] bcast_S_S256x256 main_cst_20
  let main_v55 : IVec S256x256 1 := cmpf .olt main_v53 main_v54
  let main_c_21 : IVec S_ 1 := constantI S_ 1 1#1
  let main_v56 : IVec S_ 1 := (fun x v => Host.reduce IntOp.andi x v reducesTo_S256x256_S_d0_1 h_S_) main_v55 main_c_21
  let main_v57 : IVec S_ 1 := andi main_v52 main_v56
  let main_v58 : FVec F S256 .f32 := Host.absf main_arg13
  let main_cst_22 : FVec F S_ .f32 := constant S_ .f32 0x7F800000#32
  let main_v59 : FVec F S256 .f32 := broadcastInDim S256 ![] bcast_S_S256 main_cst_22
  let main_v60 : IVec S256 1 := cmpf .olt main_v58 main_v59
  let main_c_23 : IVec S_ 1 := constantI S_ 1 1#1
  let main_v61 : IVec S_ 1 := (fun x v => Host.reduce IntOp.andi x v reducesTo_S256_S_d0 h_S_) main_v60 main_c_23
  let main_v62 : IVec S_ 1 := andi main_v57 main_v61
  let main_v63 : FVec F S256x256 .f32 := Host.absf main_arg14
  let main_cst_24 : FVec F S_ .f32 := constant S_ .f32 0x7F800000#32
  let main_v64 : FVec F S256x256 .f32 := broadcastInDim S256x256 ![] bcast_S_S256x256 main_cst_24
  let main_v65 : IVec S256x256 1 := cmpf .olt main_v63 main_v64
  let main_c_25 : IVec S_ 1 := constantI S_ 1 1#1
  let main_v66 : IVec S_ 1 := (fun x v => Host.reduce IntOp.andi x v reducesTo_S256x256_S_d0_1 h_S_) main_v65 main_c_25
  let main_v67 : IVec S_ 1 := andi main_v62 main_v66
  fn_part4 (F := F) main_arg15 main_arg16 main_arg17 main_arg18 main_arg19 main_v67

def fn_part2 {F : FTy → Type} [FloatOps F] (main_arg7 : FVec F S256 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256x256 .f32) (main_v32 : IVec S_ 1) (main_v33 : FVec F S64x256 .f32) : IVec S_ 1 :=
  let main_cst_12 : FVec F S_ .f32 := constant S_ .f32 0x7F800000#32
  let main_v34 : FVec F S64x256 .f32 := broadcastInDim S64x256 ![] bcast_S_S64x256 main_cst_12
  let main_v35 : IVec S64x256 1 := cmpf .olt main_v33 main_v34
  let main_c_13 : IVec S_ 1 := constantI S_ 1 1#1
  let main_v36 : IVec S_ 1 := (fun x v => Host.reduce IntOp.andi x v reducesTo_S64x256_S_d0_1 h_S_) main_v35 main_c_13
  let main_v37 : IVec S_ 1 := andi main_v32 main_v36
  let main_v38 : FVec F S256 .f32 := Host.absf main_arg7
  let main_cst_14 : FVec F S_ .f32 := constant S_ .f32 0x7F800000#32
  let main_v39 : FVec F S256 .f32 := broadcastInDim S256 ![] bcast_S_S256 main_cst_14
  let main_v40 : IVec S256 1 := cmpf .olt main_v38 main_v39
  let main_c_15 : IVec S_ 1 := constantI S_ 1 1#1
  let main_v41 : IVec S_ 1 := (fun x v => Host.reduce IntOp.andi x v reducesTo_S256_S_d0 h_S_) main_v40 main_c_15
  let main_v42 : IVec S_ 1 := andi main_v37 main_v41
  let main_v43 : FVec F S3x256 .f32 := Host.absf main_arg10
  let main_cst_16 : FVec F S_ .f32 := constant S_ .f32 0x7F800000#32
  let main_v44 : FVec F S3x256 .f32 := broadcastInDim S3x256 ![] bcast_S_S3x256 main_cst_16
  let main_v45 : IVec S3x256 1 := cmpf .olt main_v43 main_v44
  let main_c_17 : IVec S_ 1 := constantI S_ 1 1#1
  let main_v46 : IVec S_ 1 := (fun x v => Host.reduce IntOp.andi x v reducesTo_S3x256_S_d0_1 h_S_) main_v45 main_c_17
  let main_v47 : IVec S_ 1 := andi main_v42 main_v46
  let main_v48 : FVec F S256 .f32 := Host.absf main_arg11
  let main_cst_18 : FVec F S_ .f32 := constant S_ .f32 0x7F800000#32
  let main_v49 : FVec F S256 .f32 := broadcastInDim S256 ![] bcast_S_S256 main_cst_18
  let main_v50 : IVec S256 1 := cmpf .olt main_v48 main_v49
  fn_part3 (F := F) main_arg12 main_arg13 main_arg14 main_arg15 main_arg16 main_arg17 main_arg18 main_arg19 main_v47 main_v50

def fn_part1 {F : FTy → Type} [FloatOps F] (main_arg1 : FVec F S1x2048x256 .f32) (main_arg2 : FVec F S1x2048x128 .f32) (main_arg3 : FVec F S1x2048x128 .f32) (main_arg6 : FVec F S64x256 .f32) (main_arg7 : FVec F S256 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256x256 .f32) (main_v12 : IVec S_ 1) (main_v15 : IVec S1x2048x256 1) (main_c_5 : IVec S_ 1) : IVec S_ 1 :=
  let main_v16 : IVec S_ 1 := (fun x v => Host.reduce IntOp.andi x v reducesTo_S1x2048x256_S_d0_1_2 h_S_) main_v15 main_c_5
  let main_v17 : IVec S_ 1 := andi main_v12 main_v16
  let main_v18 : FVec F S1x2048x256 .f32 := Host.absf main_arg1
  let main_cst_6 : FVec F S_ .f32 := constant S_ .f32 0x7F800000#32
  let main_v19 : FVec F S1x2048x256 .f32 := broadcastInDim S1x2048x256 ![] bcast_S_S1x2048x256 main_cst_6
  let main_v20 : IVec S1x2048x256 1 := cmpf .olt main_v18 main_v19
  let main_c_7 : IVec S_ 1 := constantI S_ 1 1#1
  let main_v21 : IVec S_ 1 := (fun x v => Host.reduce IntOp.andi x v reducesTo_S1x2048x256_S_d0_1_2 h_S_) main_v20 main_c_7
  let main_v22 : IVec S_ 1 := andi main_v17 main_v21
  let main_v23 : FVec F S1x2048x128 .f32 := Host.absf main_arg2
  let main_cst_8 : FVec F S_ .f32 := constant S_ .f32 0x7F800000#32
  let main_v24 : FVec F S1x2048x128 .f32 := broadcastInDim S1x2048x128 ![] bcast_S_S1x2048x128 main_cst_8
  let main_v25 : IVec S1x2048x128 1 := cmpf .olt main_v23 main_v24
  let main_c_9 : IVec S_ 1 := constantI S_ 1 1#1
  let main_v26 : IVec S_ 1 := (fun x v => Host.reduce IntOp.andi x v reducesTo_S1x2048x128_S_d0_1_2 h_S_) main_v25 main_c_9
  let main_v27 : IVec S_ 1 := andi main_v22 main_v26
  let main_v28 : FVec F S1x2048x128 .f32 := Host.absf main_arg3
  let main_cst_10 : FVec F S_ .f32 := constant S_ .f32 0x7F800000#32
  let main_v29 : FVec F S1x2048x128 .f32 := broadcastInDim S1x2048x128 ![] bcast_S_S1x2048x128 main_cst_10
  let main_v30 : IVec S1x2048x128 1 := cmpf .olt main_v28 main_v29
  let main_c_11 : IVec S_ 1 := constantI S_ 1 1#1
  let main_v31 : IVec S_ 1 := (fun x v => Host.reduce IntOp.andi x v reducesTo_S1x2048x128_S_d0_1_2 h_S_) main_v30 main_c_11
  let main_v32 : IVec S_ 1 := andi main_v27 main_v31
  let main_v33 : FVec F S64x256 .f32 := Host.absf main_arg6
  fn_part2 (F := F) main_arg7 main_arg10 main_arg11 main_arg12 main_arg13 main_arg14 main_arg15 main_arg16 main_arg17 main_arg18 main_arg19 main_v32 main_v33

def fn {F : FTy → Type} [FloatOps F] (main_arg0 : FVec F S1x2048x256 .f32) (main_arg1 : FVec F S1x2048x256 .f32) (main_arg2 : FVec F S1x2048x128 .f32) (main_arg3 : FVec F S1x2048x128 .f32) (main_arg4 : IVec S16x2048 32) (main_arg5 : IVec S16x2048 32) (main_arg6 : FVec F S64x256 .f32) (main_arg7 : FVec F S256 .f32) (main_arg8 : FVec F S256x64 .f32) (main_arg9 : FVec F S64 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256x256 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg4 main_v0
  let main_c_0 : IVec S_ 32 := constantI S_ 32 2048#32
  let main_v2 : IVec S16x2048 32 := broadcastInDim S16x2048 ![] bcast_S_S16x2048 main_c_0
  let main_v3 : IVec S16x2048 1 := cmpi .slt main_arg4 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  let main_c_2 : IVec S_ 32 := constantI S_ 32 0#32
  let main_v6 : IVec S16x2048 32 := broadcastInDim S16x2048 ![] bcast_S_S16x2048 main_c_2
  let main_v7 : IVec S16x2048 1 := cmpi .sge main_arg5 main_v6
  let main_c_3 : IVec S_ 32 := constantI S_ 32 2048#32
  let main_v8 : IVec S16x2048 32 := broadcastInDim S16x2048 ![] bcast_S_S16x2048 main_c_3
  let main_v9 : IVec S16x2048 1 := cmpi .slt main_arg5 main_v8
  let main_v10 : IVec S16x2048 1 := andi main_v7 main_v9
  let main_c_4 : IVec S_ 1 := constantI S_ 1 1#1
  let main_v11 : IVec S_ 1 := (fun x v => Host.reduce IntOp.andi x v reducesTo_S16x2048_S_d0_1 h_S_) main_v10 main_c_4
  let main_v12 : IVec S_ 1 := andi main_v5 main_v11
  let main_v13 : FVec F S1x2048x256 .f32 := Host.absf main_arg0
  let main_cst : FVec F S_ .f32 := constant S_ .f32 0x7F800000#32
  let main_v14 : FVec F S1x2048x256 .f32 := broadcastInDim S1x2048x256 ![] bcast_S_S1x2048x256 main_cst
  let main_v15 : IVec S1x2048x256 1 := cmpf .olt main_v13 main_v14
  let main_c_5 : IVec S_ 1 := constantI S_ 1 1#1
  fn_part1 (F := F) main_arg1 main_arg2 main_arg3 main_arg6 main_arg7 main_arg10 main_arg11 main_arg12 main_arg13 main_arg14 main_arg15 main_arg16 main_arg17 main_arg18 main_arg19 main_v12 main_v15 main_c_5
-- ==== Pre_indices_in_range.lean ====
abbrev S1x2048x256 : Shape := ⟨3, ![1, 2048, 256]⟩
abbrev S1x2048x128 : Shape := ⟨3, ![1, 2048, 128]⟩
abbrev S16x2048 : Shape := ⟨2, ![16, 2048]⟩
abbrev S64x256 : Shape := ⟨2, ![64, 256]⟩
abbrev S256 : Shape := ⟨1, ![256]⟩
abbrev S256x64 : Shape := ⟨2, ![256, 64]⟩
abbrev S64 : Shape := ⟨1, ![64]⟩
abbrev S3x256 : Shape := ⟨2, ![3, 256]⟩
abbrev S256x256 : Shape := ⟨2, ![256, 256]⟩
abbrev S_ : Shape := ⟨0, ![]⟩

class Facts : Prop where
  bcast_S_S16x2048 : S_.BroadcastsInDim S16x2048 (![] : Fin 0 → Fin S16x2048.rank)

variable [Facts]

def fn {F : FTy → Type} [FloatOps F] (main_arg0 : FVec F S1x2048x256 .f32) (main_arg1 : FVec F S1x2048x256 .f32) (main_arg2 : FVec F S1x2048x128 .f32) (main_arg3 : FVec F S1x2048x128 .f32) (main_arg4 : IVec S16x2048 32) (main_arg5 : IVec S16x2048 32) (main_arg6 : FVec F S64x256 .f32) (main_arg7 : FVec F S256 .f32) (main_arg8 : FVec F S256x64 .f32) (main_arg9 : FVec F S64 .f32) (main_arg10 : FVec F S3x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256x256 .f32) : IVec S16x2048 1 :=
  let main_c : IVec S_ 32 := constantI S_ 32 0#32
  let main_v0 : IVec S16x2048 32 := broadcastInDim S16x2048 ![] bcast_S_S16x2048 main_c
  let main_v1 : IVec S16x2048 1 := cmpi .sge main_arg4 main_v0
  let main_c_0 : IVec S_ 32 := constantI S_ 32 2048#32
  let main_v2 : IVec S16x2048 32 := broadcastInDim S16x2048 ![] bcast_S_S16x2048 main_c_0
  let main_v3 : IVec S16x2048 1 := cmpi .slt main_arg4 main_v2
  let main_v4 : IVec S16x2048 1 := andi main_v1 main_v3
  let main_c_1 : IVec S_ 32 := constantI S_ 32 0#32
  let main_v5 : IVec S16x2048 32 := broadcastInDim S16x2048 ![] bcast_S_S16x2048 main_c_1
  let main_v6 : IVec S16x2048 1 := cmpi .sge main_arg5 main_v5
  let main_v7 : IVec S16x2048 1 := andi main_v4 main_v6
  let main_c_2 : IVec S_ 32 := constantI S_ 32 2048#32
  let main_v8 : IVec S16x2048 32 := broadcastInDim S16x2048 ![] bcast_S_S16x2048 main_c_2
  let main_v9 : IVec S16x2048 1 := cmpi .slt main_arg5 main_v8
  let main_v10 : IVec S16x2048 1 := andi main_v7 main_v9
  main_v10
-- ==== Kernel.lean ====
abbrev S1x2048x256 : Shape := ⟨3, ![1, 2048, 256]⟩
abbrev S1x2048x128 : Shape := ⟨3, ![1, 2048, 128]⟩
abbrev S16x2048 : Shape := ⟨2, ![16, 2048]⟩
abbrev S64x256 : Shape := ⟨2, ![64, 256]⟩
abbrev S256 : Shape := ⟨1, ![256]⟩
abbrev S256x64 : Shape := ⟨2, ![256, 64]⟩
abbrev S64 : Shape := ⟨1, ![64]⟩
abbrev S3x256 : Shape := ⟨2, ![3, 256]⟩
abbrev S256x256 : Shape := ⟨2, ![256, 256]⟩
abbrev S_ : Shape := ⟨0, ![]⟩
abbrev S32768 : Shape := ⟨1, ![32768]⟩
abbrev S2048x128 : Shape := ⟨2, ![2048, 128]⟩
abbrev S32768x128 : Shape := ⟨2, ![32768, 128]⟩
abbrev S2x256x128 : Shape := ⟨3, ![2, 256, 128]⟩
abbrev S1x256x128 : Shape := ⟨3, ![1, 256, 128]⟩
abbrev S256x128 : Shape := ⟨2, ![256, 128]⟩
abbrev S16x2048x128 : Shape := ⟨3, ![16, 2048, 128]⟩
abbrev S1x256 : Shape := ⟨2, ![1, 256]⟩
abbrev S1x64 : Shape := ⟨2, ![1, 64]⟩
abbrev S1x2048x64 : Shape := ⟨3, ![1, 2048, 64]⟩
abbrev S16x256x128 : Shape := ⟨3, ![16, 256, 128]⟩
abbrev S1x256x256 : Shape := ⟨3, ![1, 256, 256]⟩
abbrev S1x256x64 : Shape := ⟨3, ![1, 256, 64]⟩
abbrev S16x256x64 : Shape := ⟨3, ![16, 256, 64]⟩
abbrev S4096x64 : Shape := ⟨2, ![4096, 64]⟩
abbrev S16x256x3 : Shape := ⟨3, ![16, 256, 3]⟩
abbrev S4096x3 : Shape := ⟨2, ![4096, 3]⟩
abbrev S4096x256 : Shape := ⟨2, ![4096, 256]⟩
abbrev S256x3 : Shape := ⟨2, ![256, 3]⟩
abbrev S1x256x3 : Shape := ⟨3, ![1, 256, 3]⟩
abbrev S16x256x256 : Shape := ⟨3, ![16, 256, 256]⟩
abbrev S2x2048x64 : Shape := ⟨3, ![2, 2048, 64]⟩

abbrev nBuf : Table → Nat
  | .hbm => 70
  | .local .tc .vmem => 42
  | .local .scVector .vmem => 6
  | _ => 0

abbrev bufTy : (tb : Table) → Fin (nBuf tb) → BufTy
  | .hbm, ⟨0, _⟩ => ⟨S1x2048x256, .f32⟩
  | .hbm, ⟨1, _⟩ => ⟨S1x2048x256, .f32⟩
  | .hbm, ⟨2, _⟩ => ⟨S1x2048x128, .f32⟩
  | .hbm, ⟨3, _⟩ => ⟨S1x2048x128, .f32⟩
  | .hbm, ⟨4, _⟩ => ⟨S16x2048, .i32⟩
  | .hbm, ⟨5, _⟩ => ⟨S16x2048, .i32⟩
  | .hbm, ⟨6, _⟩ => ⟨S64x256, .f32⟩
  | .hbm, ⟨7, _⟩ => ⟨S256, .f32⟩
  | .hbm, ⟨8, _⟩ => ⟨S256x64, .f32⟩
  | .hbm, ⟨9, _⟩ => ⟨S64, .f32⟩
  | .hbm, ⟨10, _⟩ => ⟨S3x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S64x256, .f32⟩
  | .hbm, ⟨22, _⟩ => ⟨S64x256, .f32⟩
  | .hbm, ⟨23, _⟩ => ⟨S256, .f32⟩
  | .hbm, ⟨24, _⟩ => ⟨S256x256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S32768, .i32⟩
  | .hbm, ⟨36, _⟩ => ⟨S32768, .i32⟩
  | .hbm, ⟨37, _⟩ => ⟨S2048x128, .f32⟩
  | .hbm, ⟨38, _⟩ => ⟨S32768x128, .f32⟩
  | .hbm, ⟨39, _⟩ => ⟨S16x2048x128, .f32⟩
  | .hbm, ⟨40, _⟩ => ⟨S2048x128, .f32⟩
  | .hbm, ⟨41, _⟩ => ⟨S32768x128, .f32⟩
  | .hbm, ⟨42, _⟩ => ⟨S16x2048x128, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x64, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x64, .f32⟩
  | .hbm, ⟨55, _⟩ => ⟨S1x2048x64, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x64, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x256, .f32⟩
  | .hbm, ⟨67, _⟩ => ⟨S1x64, .f32⟩
  | .hbm, ⟨68, _⟩ => ⟨S1x2048x64, .f32⟩
  | .hbm, ⟨69, _⟩ => ⟨S2x2048x64, .f32⟩
  | .local .tc .vmem, ⟨0, _⟩ => ⟨S16x256x128, .f32⟩
  | .local .tc .vmem, ⟨1, _⟩ => ⟨S16x256x128, .f32⟩
  | .local .tc .vmem, ⟨2, _⟩ => ⟨S1x256x256, .f32⟩
  | .local .tc .vmem, ⟨3, _⟩ => ⟨S1x256x256, .f32⟩
  | .local .tc .vmem, ⟨4, _⟩ => ⟨S1x256x128, .f32⟩
  | .local .tc .vmem, ⟨5, _⟩ => ⟨S1x256x128, .f32⟩
  | .local .tc .vmem, ⟨6, _⟩ => ⟨S64x256, .f32⟩
  | .local .tc .vmem, ⟨7, _⟩ => ⟨S1x256, .f32⟩
  | .local .tc .vmem, ⟨8, _⟩ => ⟨S64x256, .f32⟩
  | .local .tc .vmem, ⟨9, _⟩ => ⟨S1x256, .f32⟩
  | .local .tc .vmem, ⟨10, _⟩ => ⟨S3x256, .f32⟩
  | .local .tc .vmem, ⟨11, _⟩ => ⟨S1x256, .f32⟩
  | .local .tc .vmem, ⟨12, _⟩ => ⟨S256x256, .f32⟩
  | .local .tc .vmem, ⟨13, _⟩ => ⟨S1x256, .f32⟩
  | .local .tc .vmem, ⟨14, _⟩ => ⟨S256x256, .f32⟩
  | .local .tc .vmem, ⟨15, _⟩ => ⟨S256x256, .f32⟩
  | .local .tc .vmem, ⟨16, _⟩ => ⟨S1x256, .f32⟩
  | .local .tc .vmem, ⟨17, _⟩ => ⟨S256x64, .f32⟩
  | .local .tc .vmem, ⟨18, _⟩ => ⟨S1x64, .f32⟩
  | .local .tc .vmem, ⟨19, _⟩ => ⟨S1x256x64, .f32⟩
  | .local .tc .vmem, ⟨20, _⟩ => ⟨S1x256x64, .f32⟩
  | .local .tc .vmem, ⟨21, _⟩ => ⟨S16x256x128, .f32⟩
  | .local .tc .vmem, ⟨22, _⟩ => ⟨S16x256x128, .f32⟩
  | .local .tc .vmem, ⟨23, _⟩ => ⟨S1x256x256, .f32⟩
  | .local .tc .vmem, ⟨24, _⟩ => ⟨S1x256x256, .f32⟩
  | .local .tc .vmem, ⟨25, _⟩ => ⟨S1x256x128, .f32⟩
  | .local .tc .vmem, ⟨26, _⟩ => ⟨S1x256x128, .f32⟩
  | .local .tc .vmem, ⟨27, _⟩ => ⟨S64x256, .f32⟩
  | .local .tc .vmem, ⟨28, _⟩ => ⟨S1x256, .f32⟩
  | .local .tc .vmem, ⟨29, _⟩ => ⟨S64x256, .f32⟩
  | .local .tc .vmem, ⟨30, _⟩ => ⟨S1x256, .f32⟩
  | .local .tc .vmem, ⟨31, _⟩ => ⟨S3x256, .f32⟩
  | .local .tc .vmem, ⟨32, _⟩ => ⟨S1x256, .f32⟩
  | .local .tc .vmem, ⟨33, _⟩ => ⟨S256x256, .f32⟩
  | .local .tc .vmem, ⟨34, _⟩ => ⟨S1x256, .f32⟩
  | .local .tc .vmem, ⟨35, _⟩ => ⟨S256x256, .f32⟩
  | .local .tc .vmem, ⟨36, _⟩ => ⟨S256x256, .f32⟩
  | .local .tc .vmem, ⟨37, _⟩ => ⟨S1x256, .f32⟩
  | .local .tc .vmem, ⟨38, _⟩ => ⟨S256x64, .f32⟩
  | .local .tc .vmem, ⟨39, _⟩ => ⟨S1x64, .f32⟩
  | .local .tc .vmem, ⟨40, _⟩ => ⟨S1x256x64, .f32⟩
  | .local .tc .vmem, ⟨41, _⟩ => ⟨S1x256x64, .f32⟩
  | .local .scVector .vmem, ⟨0, _⟩ => ⟨S256, .i32⟩
  | .local .scVector .vmem, ⟨1, _⟩ => ⟨S256, .i32⟩
  | .local .scVector .vmem, ⟨2, _⟩ => ⟨S2x256x128, .f32⟩
  | .local .scVector .vmem, ⟨3, _⟩ => ⟨S256, .i32⟩
  | .local .scVector .vmem, ⟨4, _⟩ => ⟨S256, .i32⟩
  | .local .scVector .vmem, ⟨5, _⟩ => ⟨S2x256x128, .f32⟩
  | _, _ => ⟨S1x2048x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 54 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTables nBuf rfl bufTy 4 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v15_scv : Ref sig .scVector := ⟨.hbm, 37, rfl⟩
abbrev main_v13_scv : Ref sig .scVector := ⟨.hbm, 35, rfl⟩
abbrev main_v16_scv : Ref sig .scVector := ⟨.hbm, 38, rfl⟩
abbrev main_v18_scv : Ref sig .scVector := ⟨.hbm, 40, rfl⟩
abbrev main_v14_scv : Ref sig .scVector := ⟨.hbm, 36, rfl⟩
abbrev main_v19_scv : Ref sig .scVector := ⟨.hbm, 41, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg4_0 : Ref sig .tc := ⟨.vmem, 7, rfl⟩
abbrev cc2_stg5_0 : Ref sig .tc := ⟨.vmem, 8, rfl⟩
abbrev cc2_stg6_0 : Ref sig .tc := ⟨.vmem, 9, rfl⟩
abbrev cc2_stg7_0 : Ref sig .tc := ⟨.vmem, 10, rfl⟩
abbrev cc2_stg8_0 : Ref sig .tc := ⟨.vmem, 11, rfl⟩
abbrev cc2_stg9_0 : Ref sig .tc := ⟨.vmem, 12, rfl⟩
abbrev cc2_stg10_0 : Ref sig .tc := ⟨.vmem, 13, rfl⟩
abbrev cc2_stg11_0 : Ref sig .tc := ⟨.vmem, 14, rfl⟩
abbrev cc2_stg12_0 : Ref sig .tc := ⟨.vmem, 15, rfl⟩
abbrev cc2_stg13_0 : Ref sig .tc := ⟨.vmem, 16, rfl⟩
abbrev cc2_stg14_0 : Ref sig .tc := ⟨.vmem, 17, rfl⟩
abbrev cc2_stg15_0 : Ref sig .tc := ⟨.vmem, 18, rfl⟩
abbrev cc2_stg16_0 : Ref sig .tc := ⟨.vmem, 19, rfl⟩
abbrev cc2_stg16_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_stg11_0 : Ref sig .tc := ⟨.vmem, 35, rfl⟩
abbrev cc3_stg12_0 : Ref sig .tc := ⟨.vmem, 36, rfl⟩
abbrev cc3_stg13_0 : Ref sig .tc := ⟨.vmem, 37, rfl⟩
abbrev cc3_stg14_0 : Ref sig .tc := ⟨.vmem, 38, rfl⟩
abbrev cc3_stg15_0 : Ref sig .tc := ⟨.vmem, 39, rfl⟩
abbrev cc3_stg16_0 : Ref sig .tc := ⟨.vmem, 40, rfl⟩
abbrev cc3_stg16_1 : Ref sig .tc := ⟨.vmem, 41, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem12_0 : DmaSem sig := 27
abbrev cc2_sem13_0 : DmaSem sig := 28
abbrev cc2_sem14_0 : DmaSem sig := 29
abbrev cc2_sem15_0 : DmaSem sig := 30
abbrev cc2_sem16_0 : DmaSem sig := 31
abbrev cc2_sem16_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45
abbrev cc3_sem10_0 : DmaSem sig := 46
abbrev cc3_sem11_0 : DmaSem sig := 47
abbrev cc3_sem12_0 : DmaSem sig := 48
abbrev cc3_sem13_0 : DmaSem sig := 49
abbrev cc3_sem14_0 : DmaSem sig := 50
abbrev cc3_sem15_0 : DmaSem sig := 51
abbrev cc3_sem16_0 : DmaSem sig := 52
abbrev cc3_sem16_1 : DmaSem sig := 53
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k0_off2 (i : grid0.Coords) (c256_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c256_i32
  ![v5.toNat]
def k0_off3 (i : grid0.Coords) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v21 : BitVec 32 := Scalar.addi v2 c0_i32_13
  let c0_i32_17 : BitVec 32 := 0#32
  ![v21.toNat, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
def k1_off2 (i : grid1.Coords) (c256_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v5 : BitVec 32 := Scalar.addi v2 c256_i32
  ![v5.toNat]
def k1_off3 (i : grid1.Coords) (c0_i32_13 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v21 : BitVec 32 := Scalar.addi v2 c0_i32_13
  let c0_i32_17 : BitVec 32 := 0#32
  ![v21.toNat, 0]
abbrev grid2 : Pipeline.Grid := ⟨2, ![1, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S16x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S3x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S256x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S256x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S256x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 2 → Memref sig .tc .vmem S1x256x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev grid3 : Pipeline.Grid := ⟨2, ![1, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S16x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S64x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S64x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S3x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S256x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S256x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S256x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S256x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 1 → Memref sig .tc .vmem S1x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false, false]

abbrev stage3_16 : Fin 2 → Memref sig .tc .vmem S1x256x64 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x2048x256 : Shape := ⟨3, ![1, 2048, 256]⟩
abbrev S1x2048x128 : Shape := ⟨3, ![1, 2048, 128]⟩
abbrev S16x2048 : Shape := ⟨2, ![16, 2048]⟩
abbrev S64x256 : Shape := ⟨2, ![64, 256]⟩
abbrev S256 : Shape := ⟨1, ![256]⟩
abbrev S256x64 : Shape := ⟨2, ![256, 64]⟩
abbrev S64 : Shape := ⟨1, ![64]⟩
abbrev S3x256 : Shape := ⟨2, ![3, 256]⟩
abbrev S256x256 : Shape := ⟨2, ![256, 256]⟩
abbrev S2048x256 : Shape := ⟨2, ![2048, 256]⟩
abbrev S2048x128 : Shape := ⟨2, ![2048, 128]⟩
abbrev S2048x16 : Shape := ⟨2, ![2048, 16]⟩
abbrev S2048x64 : Shape := ⟨2, ![2048, 64]⟩
abbrev S2048x3 : Shape := ⟨2, ![2048, 3]⟩
abbrev S1x256 : Shape := ⟨2, ![1, 256]⟩
abbrev S_ : Shape := ⟨0, ![]⟩
abbrev S2048x16x1 : Shape := ⟨3, ![2048, 16, 1]⟩
abbrev S2048x16x256 : Shape := ⟨3, ![2048, 16, 256]⟩
abbrev S2048x1x3 : Shape := ⟨3, ![2048, 1, 3]⟩
abbrev S2048x16x3 : Shape := ⟨3, ![2048, 16, 3]⟩
abbrev S1x1x256 : Shape := ⟨3, ![1, 1, 256]⟩
abbrev S2048x1x256 : Shape := ⟨3, ![2048, 1, 256]⟩
abbrev S1x64 : Shape := ⟨2, ![1, 64]⟩
abbrev S1x2048x64 : Shape := ⟨3, ![1, 2048, 64]⟩
abbrev S2x2048x64 : Shape := ⟨3, ![2, 2048, 64]⟩

abbrev nBuf : Space → Nat
  | .hbm => 209
  | .vmem => 0
  | .smem => 0
  | _ => 0

abbrev hbmTy0_0 (i : Nat) : BufTy := match i % 128 with
  | 0 => ⟨S1x2048x256, .f32⟩
  | 1 => ⟨S1x2048x256, .f32⟩
  | 2 => ⟨S1x2048x128, .f32⟩
  | 3 => ⟨S1x2048x128, .f32⟩
  | 4 => ⟨S16x2048, .i32⟩
  | 5 => ⟨S16x2048, .i32⟩
  | 6 => ⟨S64x256, .f32⟩
  | 7 => ⟨S256, .f32⟩
  | 8 => ⟨S256x64, .f32⟩
  | 9 => ⟨S64, .f32⟩
  | 10 => ⟨S3x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256x256, .f32⟩
  | 20 => ⟨S2048x256, .f32⟩
  | 21 => ⟨S2048x128, .f32⟩
  | 22 => ⟨S2048x16, .i32⟩
  | 23 => ⟨S2048x64, .f32⟩
  | 24 => ⟨S2048x3, .f32⟩
  | 25 => ⟨S2048x256, .f32⟩
  | 26 => ⟨S1x256, .f32⟩
  | 27 => ⟨S2048x256, .f32⟩
  | 28 => ⟨S2048x256, .f32⟩
  | 29 => ⟨S2048x256, .f32⟩
  | 30 => ⟨S_, .i32⟩
  | 31 => ⟨S2048x16, .i32⟩
  | 32 => ⟨S2048x16, .i1⟩
  | 33 => ⟨S_, .i32⟩
  | 34 => ⟨S2048x16, .i32⟩
  | 35 => ⟨S2048x16, .i32⟩
  | 36 => ⟨S2048x16, .i32⟩
  | 37 => ⟨S2048x16x1, .i32⟩
  | 38 => ⟨S2048x16x256, .f32⟩
  | 39 => ⟨S2048x256, .f32⟩
  | 40 => ⟨S_, .i32⟩
  | 41 => ⟨S2048x16, .i32⟩
  | 42 => ⟨S2048x16, .i1⟩
  | 43 => ⟨S_, .i32⟩
  | 44 => ⟨S2048x16, .i32⟩
  | 45 => ⟨S2048x16, .i32⟩
  | 46 => ⟨S2048x16, .i32⟩
  | 47 => ⟨S2048x16x1, .i32⟩
  | 48 => ⟨S2048x16x256, .f32⟩
  | 49 => ⟨S2048x1x3, .f32⟩
  | 50 => ⟨S_, .i32⟩
  | 51 => ⟨S2048x16, .i32⟩
  | 52 => ⟨S2048x16, .i1⟩
  | 53 => ⟨S_, .i32⟩
  | 54 => ⟨S2048x16, .i32⟩
  | 55 => ⟨S2048x16, .i32⟩
  | 56 => ⟨S2048x16, .i32⟩
  | 57 => ⟨S2048x16x1, .i32⟩
  | 58 => ⟨S2048x16x3, .f32⟩
  | 59 => ⟨S2048x16x3, .f32⟩
  | 60 => ⟨S2048x16x3, .f32⟩
  | 61 => ⟨S2048x16x256, .f32⟩
  | 62 => ⟨S1x1x256, .f32⟩
  | 63 => ⟨S2048x16x256, .f32⟩
  | 64 => ⟨S2048x16x256, .f32⟩
  | 65 => ⟨S_, .f32⟩
  | 66 => ⟨S2048x16x256, .f32⟩
  | 67 => ⟨S2048x16x256, .f32⟩
  | 68 => ⟨S2048x16x256, .f32⟩
  | 69 => ⟨S1x1x256, .f32⟩
  | 70 => ⟨S2048x16x256, .f32⟩
  | 71 => ⟨S2048x16x256, .f32⟩
  | 72 => ⟨S2048x1x256, .f32⟩
  | 73 => ⟨S2048x16x256, .f32⟩
  | 74 => ⟨S2048x16x256, .f32⟩
  | 75 => ⟨S2048x16x256, .f32⟩
  | 76 => ⟨S2048x16x256, .f32⟩
  | 77 => ⟨S1x1x256, .f32⟩
  | 78 => ⟨S2048x16x256, .f32⟩
  | 79 => ⟨S2048x16x256, .f32⟩
  | 80 => ⟨S_, .f32⟩
  | 81 => ⟨S2048x16x256, .f32⟩
  | 82 => ⟨S2048x16x256, .f32⟩
  | 83 => ⟨S2048x16x256, .f32⟩
  | 84 => ⟨S1x1x256, .f32⟩
  | 85 => ⟨S2048x16x256, .f32⟩
  | 86 => ⟨S2048x16x256, .f32⟩
  | 87 => ⟨S_, .f32⟩
  | 88 => ⟨S2048x16x256, .f32⟩
  | 89 => ⟨S2048x16x256, .f32⟩
  | 90 => ⟨S_, .f32⟩
  | 91 => ⟨S2048x256, .f32⟩
  | 92 => ⟨S_, .f32⟩
  | 93 => ⟨S2048x256, .f32⟩
  | 94 => ⟨S2048x256, .f32⟩
  | 95 => ⟨S2048x1x256, .f32⟩
  | 96 => ⟨S2048x16x256, .f32⟩
  | 97 => ⟨S2048x16x256, .f32⟩
  | 98 => ⟨S2048x16x256, .f32⟩
  | 99 => ⟨S_, .f32⟩
  | 100 => ⟨S2048x256, .f32⟩
  | 101 => ⟨S2048x1x256, .f32⟩
  | 102 => ⟨S2048x16x256, .f32⟩
  | 103 => ⟨S2048x16x256, .f32⟩
  | 104 => ⟨S2048x16x256, .f32⟩
  | 105 => ⟨S2048x16x256, .f32⟩
  | 106 => ⟨S_, .f32⟩
  | 107 => ⟨S2048x256, .f32⟩
  | 108 => ⟨S2048x64, .f32⟩
  | 109 => ⟨S1x64, .f32⟩
  | 110 => ⟨S2048x64, .f32⟩
  | 111 => ⟨S2048x64, .f32⟩
  | 112 => ⟨S2048x64, .f32⟩
  | 113 => ⟨S2048x256, .f32⟩
  | 114 => ⟨S2048x128, .f32⟩
  | 115 => ⟨S2048x16, .i32⟩
  | 116 => ⟨S2048x64, .f32⟩
  | 117 => ⟨S2048x3, .f32⟩
  | 118 => ⟨S2048x256, .f32⟩
  | 119 => ⟨S1x256, .f32⟩
  | 120 => ⟨S2048x256, .f32⟩
  | 121 => ⟨S2048x256, .f32⟩
  | 122 => ⟨S2048x256, .f32⟩
  | 123 => ⟨S_, .i32⟩
  | 124 => ⟨S2048x16, .i32⟩
  | 125 => ⟨S2048x16, .i1⟩
  | 126 => ⟨S_, .i32⟩
  | 127 => ⟨S2048x16, .i32⟩
  | _ => ⟨S1x2048x256, .f32⟩

abbrev hbmTy0_1 (i : Nat) : BufTy := match i % 128 with
  | 0 => ⟨S2048x16, .i32⟩
  | 1 => ⟨S2048x16, .i32⟩
  | 2 => ⟨S2048x16x1, .i32⟩
  | 3 => ⟨S2048x16x256, .f32⟩
  | 4 => ⟨S2048x256, .f32⟩
  | 5 => ⟨S_, .i32⟩
  | 6 => ⟨S2048x16, .i32⟩
  | 7 => ⟨S2048x16, .i1⟩
  | 8 => ⟨S_, .i32⟩
  | 9 => ⟨S2048x16, .i32⟩
  | 10 => ⟨S2048x16, .i32⟩
  | 11 => ⟨S2048x16, .i32⟩
  | 12 => ⟨S2048x16x1, .i32⟩
  | 13 => ⟨S2048x16x256, .f32⟩
  | 14 => ⟨S2048x1x3, .f32⟩
  | 15 => ⟨S_, .i32⟩
  | 16 => ⟨S2048x16, .i32⟩
  | 17 => ⟨S2048x16, .i1⟩
  | 18 => ⟨S_, .i32⟩
  | 19 => ⟨S2048x16, .i32⟩
  | 20 => ⟨S2048x16, .i32⟩
  | 21 => ⟨S2048x16, .i32⟩
  | 22 => ⟨S2048x16x1, .i32⟩
  | 23 => ⟨S2048x16x3, .f32⟩
  | 24 => ⟨S2048x16x3, .f32⟩
  | 25 => ⟨S2048x16x3, .f32⟩
  | 26 => ⟨S2048x16x256, .f32⟩
  | 27 => ⟨S1x1x256, .f32⟩
  | 28 => ⟨S2048x16x256, .f32⟩
  | 29 => ⟨S2048x16x256, .f32⟩
  | 30 => ⟨S_, .f32⟩
  | 31 => ⟨S2048x16x256, .f32⟩
  | 32 => ⟨S2048x16x256, .f32⟩
  | 33 => ⟨S2048x16x256, .f32⟩
  | 34 => ⟨S1x1x256, .f32⟩
  | 35 => ⟨S2048x16x256, .f32⟩
  | 36 => ⟨S2048x16x256, .f32⟩
  | 37 => ⟨S2048x1x256, .f32⟩
  | 38 => ⟨S2048x16x256, .f32⟩
  | 39 => ⟨S2048x16x256, .f32⟩
  | 40 => ⟨S2048x16x256, .f32⟩
  | 41 => ⟨S2048x16x256, .f32⟩
  | 42 => ⟨S1x1x256, .f32⟩
  | 43 => ⟨S2048x16x256, .f32⟩
  | 44 => ⟨S2048x16x256, .f32⟩
  | 45 => ⟨S_, .f32⟩
  | 46 => ⟨S2048x16x256, .f32⟩
  | 47 => ⟨S2048x16x256, .f32⟩
  | 48 => ⟨S2048x16x256, .f32⟩
  | 49 => ⟨S1x1x256, .f32⟩
  | 50 => ⟨S2048x16x256, .f32⟩
  | 51 => ⟨S2048x16x256, .f32⟩
  | 52 => ⟨S_, .f32⟩
  | 53 => ⟨S2048x16x256, .f32⟩
  | 54 => ⟨S2048x16x256, .f32⟩
  | 55 => ⟨S_, .f32⟩
  | 56 => ⟨S2048x256, .f32⟩
  | 57 => ⟨S_, .f32⟩
  | 58 => ⟨S2048x256, .f32⟩
  | 59 => ⟨S2048x256, .f32⟩
  | 60 => ⟨S2048x1x256, .f32⟩
  | 61 => ⟨S2048x16x256, .f32⟩
  | 62 => ⟨S2048x16x256, .f32⟩
  | 63 => ⟨S2048x16x256, .f32⟩
  | 64 => ⟨S_, .f32⟩
  | 65 => ⟨S2048x256, .f32⟩
  | 66 => ⟨S2048x1x256, .f32⟩
  | 67 => ⟨S2048x16x256, .f32⟩
  | 68 => ⟨S2048x16x256, .f32⟩
  | 69 => ⟨S2048x16x256, .f32⟩
  | 70 => ⟨S2048x16x256, .f32⟩
  | 71 => ⟨S_, .f32⟩
  | 72 => ⟨S2048x256, .f32⟩
  | 73 => ⟨S2048x64, .f32⟩
  | 74 => ⟨S1x64, .f32⟩
  | 75 => ⟨S2048x64, .f32⟩
  | 76 => ⟨S2048x64, .f32⟩
  | 77 => ⟨S2048x64, .f32⟩
  | 78 => ⟨S1x2048x64, .f32⟩
  | 79 => ⟨S1x2048x64, .f32⟩
  | 80 => ⟨S2x2048x64, .f32⟩
  | _ => ⟨S1x2048x256, .f32⟩

abbrev hbmTy (i : Nat) : BufTy := match i / 128 with
  | 0 => hbmTy0_0 i
  | 1 => hbmTy0_1 i
  | _ => ⟨S1x2048x256, .f32⟩

abbrev bufTy : (tb : Table) → Fin (tcTables nBuf tb) → BufTy
  | .hbm, ⟨i, _⟩ => hbmTy i
  | _, _ => ⟨S1x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_c_1 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call0_cst : Ref sig .tc := ⟨.hbm, 65, rfl⟩
abbrev main_call0_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call1_cst : Ref sig .tc := ⟨.hbm, 80, rfl⟩
abbrev main_call1_v0 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst : Ref sig .tc := ⟨.hbm, 87, rfl⟩
abbrev main_v57 : Ref sig .tc := ⟨.hbm, 88, rfl⟩
abbrev main_v58 : Ref sig .tc := ⟨.hbm, 89, rfl⟩
abbrev main_cst_5 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_7 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_8 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_9 : Ref sig .tc := ⟨.hbm, 123, rfl⟩
abbrev main_v88 : Ref sig .tc := ⟨.hbm, 124, rfl⟩
abbrev main_v89 : Ref sig .tc := ⟨.hbm, 125, rfl⟩
abbrev main_c_10 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_11 : Ref sig .tc := ⟨.hbm, 133, rfl⟩
abbrev main_v96 : Ref sig .tc := ⟨.hbm, 134, rfl⟩
abbrev main_v97 : Ref sig .tc := ⟨.hbm, 135, rfl⟩
abbrev main_c_12 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_13 : Ref sig .tc := ⟨.hbm, 143, rfl⟩
abbrev main_v104 : Ref sig .tc := ⟨.hbm, 144, rfl⟩
abbrev main_v105 : Ref sig .tc := ⟨.hbm, 145, rfl⟩
abbrev main_c_14 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call2_cst : Ref sig .tc := ⟨.hbm, 158, rfl⟩
abbrev main_call2_v0 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_call3_cst : Ref sig .tc := ⟨.hbm, 173, rfl⟩
abbrev main_call3_v0 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_15 : Ref sig .tc := ⟨.hbm, 180, rfl⟩
abbrev main_v135 : Ref sig .tc := ⟨.hbm, 181, rfl⟩
abbrev main_v136 : Ref sig .tc := ⟨.hbm, 182, rfl⟩
abbrev main_cst_16 : Ref sig .tc := ⟨.hbm, 183, rfl⟩
abbrev main_v137 : Ref sig .tc := ⟨.hbm, 184, rfl⟩
abbrev main_cst_17 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_18 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_19 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩

abbrev nD : Nat := 1
abbrev τ : Topo := Topo.v7x

variable {F : FTy → Type} [FloatOps F]
-- ==== Proof.Setup.lean ====
/-
  The set-up shared by the proof's modules: the program as the launch theorem sees it, and the resource algebra (the
  launch handshakes' rounds, the pipelines' and the counters of the copies). All of it is over any value family `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Setup

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by fin_cases q <;> rfl⟩

/-! ## The resource algebra -/

abbrev UH : Type := URounds (GSem nD τ sig) ℕ
abbrev UP : Type := URounds (GSem nD τ sig) Unit
abbrev UU : Type := UH × (UP × Counters)

/-- The model the proof's assertions live in. -/
abbrev M2 (F : FTy → Type) := MT nD τ sig (HIx 2) (Elt F) ℕ UU ℕ

abbrev EH : Emb UH (M2 F) := embL
/-- The pipelines' ghost state inside the model. -/
def EP : Emb UP (M2 F) := (Emb.inl : Emb UP (UP × Counters)).trans embR
instance EP_landsIn : (EP : Emb UP (M2 F)).LandsIn (upEmb : UEmb _ (M2 F)) := by unfold EP; infer_instance

end Cert.Proof.Setup

end
-- ==== Proof.Tile.lean ====
/-
  One tile of the row gather: a vector subcore fetches its 1024 row numbers in four chunks of 256, two index buffers
  and two row buffers alternating, gathers the table rows each chunk names and copies them out. Here is what a tile's
  run is to satisfy, over any program and buffers; both calls are shown to satisfy it in the modules beside this one.
-/
module

public import proofs.«01_k».proof.Proof.Setup

@[expose] public section

noncomputable section

namespace Cert.Proof.Tile

open Cert.KernelIdeal Cert.KernelIdeal.Gen Cert.Proof.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M2 F

/-- What a gather of the rows `idx` of the table `tb` delivers. -/
abbrev gathered (tb : S2048x128.Idx → Elt F .f32) (idx : S256.Idx → Elt F .i32)
    (h : ∀ x, (idx x).toNat < S2048x128.size (gathers_S2048x128_S256x128).axis) : S256x128.Idx → Elt F .f32 :=
  SparseCore.gatherPayload gathers_S2048x128_S256x128 tb (SparseCore.rows idx (rfl : S256.numel = S256x128.size (gathers_S2048x128_S256x128).axis') h)

theorem gathered_congr (tb : S2048x128.Idx → Elt F .f32) {idx idx' : S256.Idx → Elt F .i32} (e : idx = idx')
    (h : ∀ x, (idx x).toNat < S2048x128.size (gathers_S2048x128_S256x128).axis)
    (h' : ∀ x, (idx' x).toNat < S2048x128.size (gathers_S2048x128_S256x128).axis) : gathered tb idx h = gathered tb idx' h' := by
  subst e; rfl

/-- A buffer whose latest write covers it all reads as that write's payload. -/
theorem read_writes_whole {κ : Kind} {sp : Space} {s : Shape} {e : EltTy} (v : View sig κ sp s e) (f : v.ty.Contents (Elt F))
    (w : s.Idx → Elt F e) (L : List (View.Piece (Elt F) s e)) :
    v.read (Elt F) (v.writes (Elt F) f (⟨Rect.whole s, w⟩ :: L)) = w := by
  funext y
  have h := View.read_writes_cons_emb v f (Rect.whole s) w L y
  rwa [Rect.emb_whole_apply] at h

/-! ## What one tile does -/

/-- The tile `(c, j)`, started with two shares of the table, its four lists of row numbers, its four output chunks and
    its own buffers, ends with all of them back, each output chunk at the table rows its list names. -/
def BodySpec (d : Dev nD) (c : Fin τ.nSC) (j : Fin τ.nSub) (prog : Prog (TpuEff nD τ sig (Elt F) Λ₀ (.scVector c j)) PUnit)
    (t : Memref sig .scVector .hbm S2048x128 .f32) (x0 x1 x2 x3 : Memref sig .scVector .hbm S256 .i32)
    (o0 o1 o2 o3 : Memref sig .scVector .hbm S256x128 .f32) (a5 a6 : Memref sig .scVector .vmem S256 .i32)
    (rA rB : Memref sig .scVector .vmem S256x128 .f32) (s8 s9 s10 s11 s12 s13 : DmaSems sig S_) : Prop :=
  ∀ (O : CellTallies nD τ sig (HIx 2)) (W : Waits sig (HIx 2)) (q₁ q₂ : PosShare TreeShare)
    (ft : Buf (Elt F) (t.view.loc (V d c j)))
    (fx0 : Buf (Elt F) (x0.view.loc (V d c j)))    (fx1 : Buf (Elt F) (x1.view.loc (V d c j)))
    (fx2 : Buf (Elt F) (x2.view.loc (V d c j)))    (fx3 : Buf (Elt F) (x3.view.loc (V d c j)))
    (fo0 : Buf (Elt F) (o0.view.loc (V d c j)))    (fo1 : Buf (Elt F) (o1.view.loc (V d c j)))
    (fo2 : Buf (Elt F) (o2.view.loc (V d c j)))    (fo3 : Buf (Elt F) (o3.view.loc (V d c j)))
    (fa5 : Buf (Elt F) (a5.view.loc (V d c j)))
    (fa6 : Buf (Elt F) (a6.view.loc (V d c j)))
    (frA : Buf (Elt F) (rA.view.loc (V d c j)))
    (frB : Buf (Elt F) (rB.view.loc (V d c j)))
    (hin0 : ∀ x, (x0.view.read (Elt F) fx0 x).toNat < S2048x128.size (gathers_S2048x128_S256x128).axis)
    (hin1 : ∀ x, (x1.view.read (Elt F) fx1 x).toNat < S2048x128.size (gathers_S2048x128_S256x128).axis)
    (hin2 : ∀ x, (x2.view.read (Elt F) fx2 x).toNat < S2048x128.size (gathers_S2048x128_S256x128).axis)
    (hin3 : ∀ x, (x3.view.read (Elt F) fx3 x).toNat < S2048x128.size (gathers_S2048x128_S256x128).axis),
    iprop(Transfers.MayWaits (V d c j) (default : HIx 2) O
        ∗ (t.view.loc (V d c j) ↦[t.view.set]{q₁} ft) ∗ (t.view.loc (V d c j) ↦[t.view.set]{q₂} ft)
        ∗ (x0.view.loc (V d c j) ↦[x0.view.set]{fullShare} fx0)
        ∗ (x1.view.loc (V d c j) ↦[x1.view.set]{fullShare} fx1)
        ∗ (x2.view.loc (V d c j) ↦[x2.view.set]{fullShare} fx2)
        ∗ (x3.view.loc (V d c j) ↦[x3.view.set]{fullShare} fx3)
        ∗ (o0.view.loc (V d c j) ↦[o0.view.set]{fullShare} fo0)
        ∗ (o1.view.loc (V d c j) ↦[o1.view.set]{fullShare} fo1)
        ∗ (o2.view.loc (V d c j) ↦[o2.view.set]{fullShare} fo2)
        ∗ (o3.view.loc (V d c j) ↦[o3.view.set]{fullShare} fo3)
        ∗ (a5.view.loc (V d c j) ↦[a5.view.set]{fullShare} fa5)
        ∗ (a6.view.loc (V d c j) ↦[a6.view.set]{fullShare} fa6)
        ∗ (rA.view.loc (V d c j) ↦[rA.view.set]{fullShare} frA)
        ∗ (rB.view.loc (V d c j) ↦[rB.view.set]{fullShare} frB)
        ∗ semVal (V d c j, .dma s8.sem) 0 ∗ semVal (V d c j, .dma s9.sem) 0 ∗ semVal (V d c j, .dma s10.sem) 0
        ∗ semVal (V d c j, .dma s11.sem) 0 ∗ semVal (V d c j, .dma s12.sem) 0 ∗ semVal (V d c j, .dma s13.sem) 0
        ∗ owes (V d c j) O W)
      ⊢ (wp frame (wpE (defs₀ (F := F)) 𝒱₀ (V d c j) none) Set.univ prog
          fun _ => iprop((t.view.loc (V d c j) ↦[t.view.set]{q₁} ft) ∗ (t.view.loc (V d c j) ↦[t.view.set]{q₂} ft)
        ∗ (x0.view.loc (V d c j) ↦[x0.view.set]{fullShare} fx0)
        ∗ (x1.view.loc (V d c j) ↦[x1.view.set]{fullShare} fx1)
        ∗ (x2.view.loc (V d c j) ↦[x2.view.set]{fullShare} fx2)
        ∗ (x3.view.loc (V d c j) ↦[x3.view.set]{fullShare} fx3)
        ∗ (∃ g, (o0.view.loc (V d c j) ↦[o0.view.set]{fullShare} g)
          ∗ ⌜o0.view.read (Elt F) g = gathered (t.view.read (Elt F) ft) (x0.view.read (Elt F) fx0) hin0⌝)
        ∗ (∃ g, (o1.view.loc (V d c j) ↦[o1.view.set]{fullShare} g)
          ∗ ⌜o1.view.read (Elt F) g = gathered (t.view.read (Elt F) ft) (x1.view.read (Elt F) fx1) hin1⌝)
        ∗ (∃ g, (o2.view.loc (V d c j) ↦[o2.view.set]{fullShare} g)
          ∗ ⌜o2.view.read (Elt F) g = gathered (t.view.read (Elt F) ft) (x2.view.read (Elt F) fx2) hin2⌝)
        ∗ (∃ g, (o3.view.loc (V d c j) ↦[o3.view.set]{fullShare} g)
          ∗ ⌜o3.view.read (Elt F) g = gathered (t.view.read (Elt F) ft) (x3.view.read (Elt F) fx3) hin3⌝)
        ∗ (∃ f, (a5.view.loc (V d c j) ↦[a5.view.set]{fullShare} f))
        ∗ (∃ f, (a6.view.loc (V d c j) ↦[a6.view.set]{fullShare} f))
        ∗ (∃ f, (rA.view.loc (V d c j) ↦[rA.view.set]{fullShare} f))
        ∗ (∃ f, (rB.view.loc (V d c j) ↦[rB.view.set]{fullShare} f))
        ∗ semVal (V d c j, .dma s8.sem) 0 ∗ semVal (V d c j, .dma s9.sem) 0 ∗ semVal (V d c j, .dma s10.sem) 0
        ∗ semVal (V d c j, .dma s11.sem) 0 ∗ semVal (V d c j, .dma s12.sem) 0 ∗ semVal (V d c j, .dma s13.sem) 0
        ∗ ∃ W', ⌜∀ p ∈ W', p ∈ W ∨ p.2 = none⌝ ∗ owes (V d c j) O W') : sProp 𝕄)

end Cert.Proof.Tile
-- ==== Proof.Body0.lean ====
/-
  A tile of the first gather call.
-/
module

public import proofs.«01_k».proof.Proof.Tile

@[expose] public section

noncomputable section

namespace Cert.Proof.Body0

open Cert.KernelIdeal Cert.KernelIdeal.Gen Cert.Proof.Setup Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M2 F

abbrev cV (i : grid0.Coords) : Fin τ.nSC := (i 0).castLE hcore0
abbrev jV (i : grid0.Coords) : Fin τ.nSub := (i 1).castLE hsub0

/-! ## The views the tile addresses -/

abbrev a2 : Memref sig .scVector .hbm S2048x128 .f32 := Memref.whole main_v15_scv
abbrev a3 : Memref sig .scVector .hbm S32768 .i32 := Memref.whole main_v13_scv
abbrev a4 : Memref sig .scVector .hbm S32768x128 .f32 := Memref.whole main_v16_scv
abbrev a5 : Memref sig .scVector .vmem S256 .i32 := Memref.whole cc0_scratch0
abbrev a6 : Memref sig .scVector .vmem S256 .i32 := Memref.whole cc0_scratch1
abbrev a7 : Memref sig .scVector .vmem S2x256x128 .f32 := Memref.whole cc0_scratch2

/-- The whole table, as the gather's source. -/
abbrev tblV : Memref sig .scVector .hbm S2048x128 .f32 :=
  a2.slice (Rect.unit (s := S2048x128) ![0, 0] S2048x128.size inb_S2048x128_S2048x128_0_0) (fun _ => rfl)
/-- The first chunk of the tile's row numbers. -/
abbrev ixHead (i : grid0.Coords) : Memref sig .scVector .hbm S256 .i32 :=
  a3.slice (Rect.unit (s := S32768) (k0_off1 i) S256.size (k0_off1_inb i)) (fun _ => rfl)
/-- The later chunks of the tile's row numbers. -/
abbrev ixTail (i : grid0.Coords) (w : BitVec 32)
    (h : ∀ a, (k0_off2 i w) a + S256.size a ≤ S32768.size a) : Memref sig .scVector .hbm S256 .i32 :=
  a3.slice (Rect.unit (s := S32768) (k0_off2 i w) S256.size h) (fun _ => rfl)
/-- The output chunks of the tile. -/
abbrev outV (i : grid0.Coords) (w : BitVec 32)
    (h : ∀ a, (k0_off3 i w) a + S256x128.size a ≤ S32768x128.size a) : Memref sig .scVector .hbm S256x128 .f32 :=
  a4.slice (Rect.unit (s := S32768x128) (k0_off3 i w) S256x128.size h) (fun _ => rfl)
/-- The two halves of the row buffer. -/
abbrev rowA : Memref sig .scVector .vmem S256x128 .f32 :=
  (a7.slice (Rect.unit (s := S2x256x128) ![0, 0, 0] S1x256x128.size inb_S2x256x128_S1x256x128_0_0_0) (fun _ => rfl)).squeeze S256x128 squeezes_S1x256x128_S256x128
abbrev rowB : Memref sig .scVector .vmem S256x128 .f32 :=
  (a7.slice (Rect.unit (s := S2x256x128) ![1, 0, 0] S1x256x128.size inb_S2x256x128_S1x256x128_1_0_0) (fun _ => rfl)).squeeze S256x128 squeezes_S1x256x128_S256x128

set_option maxRecDepth 65536 in
set_option maxHeartbeats 8000000 in
theorem body (d : Dev nD) (i : grid0.Coords) :
    BodySpec (F := F) d (cV i) (jV i)
      (cc0_sc_gather i a2 (Memref.isWhole_whole _) a3 (Memref.isWhole_whole _) a4 (Memref.isWhole_whole _) a5 (Memref.isWhole_whole _)
        a6 (Memref.isWhole_whole _) a7 (Memref.isWhole_whole _) cc0_scratch3 cc0_scratch4 cc0_scratch5 cc0_scratch6 cc0_scratch7 cc0_scratch8)
      tblV (ixHead i) (ixTail i 256#32 (k0_off2_inb i 0)) (ixTail i 512#32 (k0_off2_inb i 1)) (ixTail i 768#32 (k0_off2_inb i 2))
      (outV i 0#32 (k0_off3_inb i 0)) (outV i 256#32 (k0_off3_inb i 1)) (outV i 512#32 (k0_off3_inb i 2)) (outV i 768#32 (k0_off3_inb i 3))
      a5 a6 rowA rowB cc0_scratch3 cc0_scratch4 cc0_scratch5 cc0_scratch6 cc0_scratch7 cc0_scratch8 := by
  unfold BodySpec
  intro O W q₁ q₂ ft fx0 fx1 fx2 fx3 fo0 fo1 fo2 fo3 f5 f6 fA fB hin0 hin1 hin2 hin3
  rw [cc0_sc_gather_eq_skeleton]; unfold cc0_sc_gather_skel
  rw [k0_part1_eq_skeleton, k0_part2_eq_skeleton, k0_part3_eq_skeleton]
  unfold k0_part1_skel k0_part2_skel k0_part3_skel
  iintro ⟨Hmw, Ht, Ht', Hi0, Hi1, Hi2, Hi3, Ho0, Ho1, Ho2, Ho3, H5, H6, HA, HB, HS8, HS9, HS10, HS11, HS12, HS13, HO⟩
  sl_exec
  have hr0 : ∀ x : S256.Idx, BitVec.toNat (View.read (Elt F) a5.view (a5.view.writes (Elt F) a5.view.junk [⟨Rect.whole S256, body.sl.dma0 d i fx0⟩]) x)
      < S2048x128.size gathers_S2048x128_S256x128.axis := by rw [read_writes_whole]; exact hin0
  sl_exec
  have hr1 : ∀ x : S256.Idx, BitVec.toNat (View.read (Elt F) a6.view (a6.view.writes (Elt F) a6.view.junk [⟨Rect.whole S256, body.sl.dma0_1 d i fx1⟩]) x)
      < S2048x128.size gathers_S2048x128_S256x128.axis := by rw [read_writes_whole]; exact hin1
  sl_exec
  have hr2 : ∀ x : S256.Idx, BitVec.toNat (View.read (Elt F) a5.view (a5.view.writes (Elt F) a5.view.junk
      [⟨Rect.whole S256, body.sl.dma0_3 d i fx2⟩, ⟨Rect.whole S256, body.sl.dma0 d i fx0⟩]) x)
      < S2048x128.size gathers_S2048x128_S256x128.axis := by rw [read_writes_whole]; exact hin2
  sl_exec
  have hr3 : ∀ x : S256.Idx, BitVec.toNat (View.read (Elt F) a6.view (a6.view.writes (Elt F) a6.view.junk
      [⟨Rect.whole S256, body.sl.dma0_5 d i fx3⟩, ⟨Rect.whole S256, body.sl.dma0_1 d i fx1⟩]) x)
      < S2048x128.size gathers_S2048x128_S256x128.axis := by rw [read_writes_whole]; exact hin3
  sl_exec
  sl_step
  isplitl [Ht]; · iexact Ht
  isplitl [Ht']; · iexact Ht'
  isplitl [Hi0]; · iexact Hi0
  isplitl [Hi1]; · iexact Hi1
  isplitl [Hi2]; · iexact Hi2
  isplitl [Hi3]; · iexact Hi3
  isplitl [Ho0]
  · iexists _; isplitl; · iexact Ho0
    ipureintro; rw [read_writes_whole]; unfold body.sl.dma0_2; rw [read_writes_whole]
    exact gathered_congr _ (read_writes_whole _ _ _ _) _ _
  isplitl [Ho1]
  · iexists _; isplitl; · iexact Ho1
    ipureintro; rw [read_writes_whole]; unfold body.sl.dma0_4; rw [read_writes_whole]
    exact gathered_congr _ (read_writes_whole _ _ _ _) _ _
  isplitl [Ho2]
  · iexists _; isplitl; · iexact Ho2
    ipureintro; rw [read_writes_whole]; unfold body.sl.dma0_6; rw [read_writes_whole]
    exact gathered_congr _ (read_writes_whole _ _ _ _) _ _
  isplitl [Ho3]
  · iexists _; isplitl; · iexact Ho3
    ipureintro; rw [read_writes_whole]; unfold body.sl.dma0_7; rw [read_writes_whole]
    exact gathered_congr _ (read_writes_whole _ _ _ _) _ _
  isplitl [H5]; · iexists _; iexact H5
  isplitl [H6]; · iexists _; iexact H6
  isplitl [HA]; · iexists _; iexact HA
  isplitl [HB]; · iexists _; iexact HB
  isplitl [HS8]; · iexact HS8
  isplitl [HS9]; · iexact HS9
  isplitl [HS10]; · iexact HS10
  isplitl [HS11]; · iexact HS11
  isplitl [HS12]; · iexact HS12
  isplitl [HS13]; · iexact HS13
  iexists _; isplitr
  swap; · iexact HO
  ipureintro; intro p hp
  simp only [Finset.mem_insert] at hp
  rcases hp with hp | hp | hp | hp | hp | hp | hp | hp | hp | hp | hp | hp | hp
  iterate 12 exact .inr (hp ▸ rfl)
  exact .inl hp

end Cert.Proof.Body0
-- ==== Proof.Chunks.lean ====
/-
  How the two calls' arrays are shared out: the 32768 row numbers and the 32768 output rows in 128 chunks of 256, tile
  `(c, i)` of the 2 x 16 taking the four chunks from `8 i + 4 c`; the table a share each. Splitting and joining is an
  equality both ways.
-/
module

public import proofs.«01_k».proof.Proof.Setup

@[expose] public section

noncomputable section

namespace Cert.Proof.Chunks

open Cert.KernelIdeal Cert.KernelIdeal.Gen Cert.Proof.Setup

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => M2 F

/-- Where a device's array of the main program lives. -/
abbrev tcLoc (d : Dev nD) (r : Ref sig .tc) : Loc nD τ sig := (SparseCore.T d : Thread nD τ).loc r

/-- Chunk `k` of tile `(c, i)`. -/
def cid (c i k : ℕ) : Fin 128 := Fin.ofNat 128 (8 * i + 4 * c + k)
/-- The leaf of the table's share that tile `(c, i)` takes. -/
def tid (c i : ℕ) : Fin (2 ^ 5) := Fin.ofNat (2 ^ 5) (2 * i + c)

/-- The elements of chunk `n` of a list of 32768 words. -/
def xSet (n : Fin 128) : Finset S32768.Idx := Finset.univ.filter fun x => (x 0).val / 256 = n.val
/-- The elements of chunk `n` of the 32768 output rows. -/
def oSet (n : Fin 128) : Finset S32768x128.Idx := Finset.univ.filter fun x => (x 0).val / 256 = n.val

theorem xSet_disjoint : ∀ i ∈ (Finset.univ : Finset (Fin 128)), ∀ j ∈ (Finset.univ : Finset (Fin 128)), i ≠ j → Disjoint (xSet i) (xSet j) :=
  fun i _ j _ h => Finset.disjoint_left.mpr fun _ hi hj =>
    h (Fin.ext ((Finset.mem_filter.mp hi).2.symm.trans (Finset.mem_filter.mp hj).2))
theorem oSet_disjoint : ∀ i ∈ (Finset.univ : Finset (Fin 128)), ∀ j ∈ (Finset.univ : Finset (Fin 128)), i ≠ j → Disjoint (oSet i) (oSet j) :=
  fun i _ j _ h => Finset.disjoint_left.mpr fun _ hi hj =>
    h (Fin.ext ((Finset.mem_filter.mp hi).2.symm.trans (Finset.mem_filter.mp hj).2))
theorem xSet_cover : (Finset.univ : Finset (Fin 128)).biUnion xSet = Finset.univ :=
  Finset.eq_univ_iff_forall.mpr fun x => Finset.mem_biUnion.mpr
    ⟨⟨(x 0).val / 256, by have h : (x 0).val < 32768 := (x 0).isLt; omega⟩, Finset.mem_univ _, Finset.mem_filter.mpr ⟨Finset.mem_univ _, rfl⟩⟩
theorem oSet_cover : (Finset.univ : Finset (Fin 128)).biUnion oSet = Finset.univ :=
  Finset.eq_univ_iff_forall.mpr fun x => Finset.mem_biUnion.mpr
    ⟨⟨(x 0).val / 256, by have h : (x 0).val < 32768 := (x 0).isLt; omega⟩, Finset.mem_univ _, Finset.mem_filter.mpr ⟨Finset.mem_univ _, rfl⟩⟩

/-- The chunks, tile by tile. -/
def chunkEquiv : Fin 2 × Fin 16 × Fin 4 ≃ Fin 128 :=
  Equiv.ofBijective (fun p => cid p.1.val p.2.1.val p.2.2.val) <| by
    refine (Fintype.bijective_iff_injective_and_card _).mpr ⟨?_, by simp⟩
    rintro ⟨c, i, k⟩ ⟨c', i', k'⟩ h
    have h := congrArg Fin.val h
    simp only [cid, Fin.ofNat] at h
    have := c.isLt; have := i.isLt; have := k.isLt; have := c'.isLt; have := i'.isLt; have := k'.isLt
    rw [Nat.mod_eq_of_lt (by omega), Nat.mod_eq_of_lt (by omega)] at h
    simp only [Prod.mk.injEq, Fin.ext_iff]
    omega

/-- The tiles. -/
def tileEquiv : Fin 2 × Fin 16 ≃ Fin (2 ^ 5) :=
  Equiv.ofBijective (fun p => tid p.1.val p.2.val) <| by
    refine (Fintype.bijective_iff_injective_and_card _).mpr ⟨?_, by simp⟩
    rintro ⟨c, i⟩ ⟨c', i'⟩ h
    have h := congrArg Fin.val h
    simp only [tid, Fin.ofNat] at h
    have := c.isLt; have := i.isLt; have := c'.isLt; have := i'.isLt
    rw [Nat.mod_eq_of_lt (by omega), Nat.mod_eq_of_lt (by omega)] at h
    simp only [Prod.mk.injEq, Fin.ext_iff]
    omega

theorem bigSep_chunks (Φ : Fin 128 → sProp 𝕄) :
    bigSep Finset.univ Φ = bigSep Finset.univ fun c : Fin 2 => bigSep Finset.univ fun i : Fin 16 => bigSep Finset.univ fun k : Fin 4 => Φ (cid c.val i.val k.val) := by
  rw [bigSep_univ_equiv chunkEquiv, bigSep_univ_prod]
  exact bigSep_congr fun c _ => by rw [bigSep_univ_prod]; rfl
theorem bigSep_tiles (Φ : Fin (2 ^ 5) → sProp 𝕄) :
    bigSep Finset.univ Φ = bigSep Finset.univ fun c : Fin 2 => bigSep Finset.univ fun i : Fin 16 => Φ (tid c.val i.val) := by
  rw [bigSep_univ_equiv tileEquiv, bigSep_univ_prod]; rfl

/-- What tile `(c, i)` holds: its share of the table, its four chunks of row numbers, its four chunks of output rows. -/
def part (ℓt ℓx ℓo : Loc nD τ sig) (X : Fin 128 → Finset (Idx ℓx)) (Os : Fin 128 → Finset (Idx ℓo))
    (ft : Buf (Elt F) ℓt) (fx : Buf (Elt F) ℓx) (fo : Buf (Elt F) ℓo) (c i : ℕ) : sProp 𝕄 :=
  iprop((ℓt ↦{ShareLeaves.leaf 5 fullShare (tid c i)} ft)
    ∗ (bigSep Finset.univ fun k : Fin 4 => ℓx ↦[X (cid c i k.val)]{fullShare} fx)
    ∗ bigSep Finset.univ fun k : Fin 4 => ℓo ↦[Os (cid c i k.val)]{fullShare} fo)

instance part_storable (ℓt ℓx ℓo : Loc nD τ sig) (X : Fin 128 → Finset (Idx ℓx)) (Os : Fin 128 → Finset (Idx ℓo))
    (ft : Buf (Elt F) ℓt) (fx : Buf (Elt F) ℓx) (fo : Buf (Elt F) ℓo) (c i : ℕ) :
    BI.Storable (upEmb : UEmb _ 𝕄) (part ℓt ℓx ℓo X Os ft fx fo c i) := by
  unfold part; infer_instance

/-- The three arrays, whole, are the tiles' parts of them. -/
theorem whole_eq (ℓt ℓx ℓo : Loc nD τ sig) (X : Fin 128 → Finset (Idx ℓx)) (Os : Fin 128 → Finset (Idx ℓo))
    (hXd : ∀ i ∈ (Finset.univ : Finset (Fin 128)), ∀ j ∈ (Finset.univ : Finset (Fin 128)), i ≠ j → Disjoint (X i) (X j))
    (hXc : (Finset.univ : Finset (Fin 128)).biUnion X = Finset.univ)
    (hOd : ∀ i ∈ (Finset.univ : Finset (Fin 128)), ∀ j ∈ (Finset.univ : Finset (Fin 128)), i ≠ j → Disjoint (Os i) (Os j))
    (hOc : (Finset.univ : Finset (Fin 128)).biUnion Os = Finset.univ)
    (ft : Buf (Elt F) ℓt) (fx : Buf (Elt F) ℓx) (fo : Buf (Elt F) ℓo) :
    (iprop((ℓt ↦{fullShare} ft) ∗ (ℓx ↦{fullShare} fx) ∗ ℓo ↦{fullShare} fo) : sProp 𝕄)
      = bigSep Finset.univ fun c : Fin 2 => bigSep Finset.univ fun i : Fin 16 => part ℓt ℓx ℓo X Os ft fx fo c.val i.val := by
  have ht : (ℓt ↦{fullShare} ft : sProp 𝕄) = bigSep Finset.univ fun c : Fin 2 => bigSep Finset.univ fun i : Fin 16 =>
      ℓt ↦{ShareLeaves.leaf 5 fullShare (tid c.val i.val)} ft :=
    (ShareLeaves.pointsTo_leaves Finset.univ ft 5 fullShare).trans (bigSep_tiles _)
  have hx : (ℓx ↦{fullShare} fx : sProp 𝕄) = bigSep Finset.univ fun c : Fin 2 => bigSep Finset.univ fun i : Fin 16 =>
      bigSep Finset.univ fun k : Fin 4 => ℓx ↦[X (cid c.val i.val k.val)]{fullShare} fx := by
    rw [← bigSep_chunks (fun n => ℓx ↦[X n]{fullShare} fx), ← pointsTo_biUnion Finset.univ X hXd, hXc]
  have ho : (ℓo ↦{fullShare} fo : sProp 𝕄) = bigSep Finset.univ fun c : Fin 2 => bigSep Finset.univ fun i : Fin 16 =>
      bigSep Finset.univ fun k : Fin 4 => ℓo ↦[Os (cid c.val i.val k.val)]{fullShare} fo := by
    rw [← bigSep_chunks (fun n => ℓo ↦[Os n]{fullShare} fo), ← pointsTo_biUnion Finset.univ Os hOd, hOc]
  rw [ht, hx, ho]
  unfold part
  simp only [bigSep_sep']

end Cert.Proof.Chunks

end
-- ==== Proof.Rows.lean ====
/-
  What a gather call computes, in closed form, and the sets of elements its chunks' rectangles cover.
-/
module

public import proofs.«01_k».proof.Proof.Chunks
public import proofs.«01_k».proof.Proof.Tile
public import Idealize.ShloMosaic.Lib.Pointwise.Index

@[expose] public section

noncomputable section

namespace Cert.Proof.Rows

open Cert.KernelIdeal Cert.KernelIdeal.Gen Cert.Proof.Setup Cert.Proof.Tile Cert.Proof.Chunks

open Idealize.ShloMosaic

variable {F : FTy → Type} [FloatOps F]

/-- Output row `n` is the table's row that word `n` of the list names. -/
def rowsOf (tb : S2048x128.Idx → Elt F .f32) (ix : S32768.Idx → Elt F .i32) : S32768x128.Idx → Elt F .f32 :=
  fun x => tb (ix2 (Fin.ofNat 2048 (ix (ix1 (x 0))).toNat) (x 1))

theorem gathered_apply (tb : S2048x128.Idx → Elt F .f32) (idx : S256.Idx → Elt F .i32)
    (h : ∀ x, (idx x).toNat < S2048x128.size (gathers_S2048x128_S256x128).axis) (y : S256x128.Idx) :
    gathered tb idx h y = tb (ix2 (Fin.ofNat 2048 (idx (ix1 (y 0))).toNat) (y 1)) := by
  show tb _ = tb _
  congr 1
  have hs : ∀ k : Fin S256.numel, S256.rowMajor.symm k = ix1 (⟨k.val, k.isLt⟩ : Fin 256) := fun k => by
    rw [Equiv.symm_apply_eq]; exact Fin.ext (Shape.rowMajor_val_one (d := ![256]) (ix1 (⟨k.val, k.isLt⟩ : Fin 256))).symm
  funext a
  match a with
  | 0 =>
    have hlt : (idx (ix1 (y 0))).toNat < 2048 := h (ix1 (y 0))
    refine Fin.ext ?_
    show (idx (S256.rowMajor.symm _)).toNat = (idx (ix1 (y 0))).toNat % 2048
    rw [hs, Nat.mod_eq_of_lt hlt]; rfl
  | 1 => exact Fin.ext rfl

theorem unit_xSet (off : Fin 1 → ℕ) (inb : ∀ a, off a + S256.size a ≤ S32768.size a) (n : Fin 128) (h : off 0 = 256 * n.val) :
    (Rect.unit (s := S32768) off S256.size inb).set = xSet n := by
  ext x
  rw [Rect.mem_set_unit, xSet, Finset.mem_filter]
  constructor
  · intro hx
    have := hx 0
    rw [h] at this
    refine ⟨Finset.mem_univ _, ?_⟩
    have h2 : S256.size 0 = 256 := rfl
    rw [h2] at this
    omega
  · rintro ⟨-, hx⟩ a
    match a with
    | 0 =>
      have h2 : S256.size 0 = 256 := rfl
      show off 0 ≤ _ ∧ _ < off 0 + S256.size 0
      rw [h, h2]; omega

theorem unit_oSet (off : Fin 2 → ℕ) (inb : ∀ a, off a + S256x128.size a ≤ S32768x128.size a) (n : Fin 128) (h : off = ![256 * n.val, 0]) :
    (Rect.unit (s := S32768x128) off S256x128.size inb).set = oSet n := by
  subst h
  ext x
  rw [Rect.mem_set_unit, oSet, Finset.mem_filter]
  constructor
  · intro hx
    have h0 : 256 * n.val ≤ (x 0).val ∧ (x 0).val < 256 * n.val + 256 := hx 0
    exact ⟨Finset.mem_univ _, by omega⟩
  · rintro ⟨-, hx⟩ a
    match a with
    | 0 => show 256 * n.val ≤ (x 0).val ∧ (x 0).val < 256 * n.val + 256; omega
    | 1 => exact ⟨Nat.zero_le _, by show (x 1).val < 0 + 128; have : (x 1).val < 128 := (x 1).isLt; omega⟩

theorem unit_tbl (inb : ∀ a, (![0, 0] : Fin 2 → ℕ) a + S2048x128.size a ≤ S2048x128.size a) :
    (Rect.unit (s := S2048x128) ![0, 0] S2048x128.size inb).set = Finset.univ :=
  Finset.eq_univ_iff_forall.mpr fun x => Rect.mem_set_unit.mpr fun a => by
    match a with
    | 0 => exact ⟨Nat.zero_le _, by have : (x 0).val < 2048 := (x 0).isLt; show (x 0).val < 0 + 2048; omega⟩
    | 1 => exact ⟨Nat.zero_le _, by have : (x 1).val < 128 := (x 1).isLt; show (x 1).val < 0 + 128; omega⟩
theorem emb_tbl (inb : ∀ a, (![0, 0] : Fin 2 → ℕ) a + S2048x128.size a ≤ S2048x128.size a) (y : S2048x128.Idx) :
    (Rect.unit (s := S2048x128) ![0, 0] S2048x128.size inb).emb y = y := by
  funext a; refine Fin.ext ?_
  match a with
  | 0 => show 0 + 1 * (y 0).val = (y 0).val; omega
  | 1 => show 0 + 1 * (y 1).val = (y 1).val; omega

/-- The two halves of a row buffer: no element in both, every element in one. -/
theorem half_compl (inb : ∀ a, (![0, 0, 0] : Fin 3 → ℕ) a + S1x256x128.size a ≤ S2x256x128.size a)
    (inb' : ∀ a, (![1, 0, 0] : Fin 3 → ℕ) a + S1x256x128.size a ≤ S2x256x128.size a) :
    (Rect.unit (s := S2x256x128) ![1, 0, 0] S1x256x128.size inb').set
      = Finset.univ \ (Rect.unit (s := S2x256x128) ![0, 0, 0] S1x256x128.size inb).set := by
  ext x
  have h0 : (x 0).val < 2 := (x 0).isLt
  have h1 : (x 1).val < 256 := (x 1).isLt
  have h2 : (x 2).val < 128 := (x 2).isLt
  rw [Finset.mem_sdiff, Rect.mem_set_unit, Rect.mem_set_unit]
  constructor
  · intro h
    have h : 1 ≤ (x 0).val ∧ (x 0).val < 1 + 1 := h 0
    refine ⟨Finset.mem_univ _, fun h' => ?_⟩
    have h' : 0 ≤ (x 0).val ∧ (x 0).val < 0 + 1 := h' 0
    omega
  · rintro ⟨-, h⟩ a
    have hx : (x 0).val ≠ 0 := fun e => h fun a => by
      match a with
      | 0 => show 0 ≤ (x 0).val ∧ (x 0).val < 0 + 1; omega
      | 1 => show 0 ≤ (x 1).val ∧ (x 1).val < 0 + 256; omega
      | 2 => show 0 ≤ (x 2).val ∧ (x 2).val < 0 + 128; omega
    match a with
    | 0 => show 1 ≤ (x 0).val ∧ (x 0).val < 1 + 1; omega
    | 1 => show 0 ≤ (x 1).val ∧ (x 1).val < 0 + 256; omega
    | 2 => show 0 ≤ (x 2).val ∧ (x 2).val < 0 + 128; omega

/-- A chunk gathered by its own list is that chunk of the whole gather. -/
theorem gathered_rowsOf (tb : S2048x128.Idx → Elt F .f32) (ix : S32768.Idx → Elt F .i32) (off : Fin 1 → ℕ) (off' : Fin 2 → ℕ)
    (inb : ∀ a, off a + S256.size a ≤ S32768.size a) (inb' : ∀ a, off' a + S256x128.size a ≤ S32768x128.size a)
    (n : ℕ) (h : off = ![n]) (h' : off' = ![n, 0])
    (hin : ∀ x, (ix ((Rect.unit (s := S32768) off S256.size inb).emb x)).toNat < S2048x128.size (gathers_S2048x128_S256x128).axis) (y : S256x128.Idx) :
    gathered tb (fun x => ix ((Rect.unit (s := S32768) off S256.size inb).emb x)) hin y
      = rowsOf tb ix ((Rect.unit (s := S32768x128) off' S256x128.size inb').emb y) := by
  subst h h'
  rw [gathered_apply]
  unfold rowsOf
  have e0 : (Rect.unit (s := S32768) ![n] S256.size inb).emb (ix1 (y 0))
      = ix1 (((Rect.unit (s := S32768x128) ![n, 0] S256x128.size inb').emb y) 0) := by
    funext a
    match a with
    | 0 => exact Fin.ext rfl
  have e1 : (((Rect.unit (s := S32768x128) ![n, 0] S256x128.size inb').emb y) 1) = y 1 := Fin.ext (by
    show 0 + 1 * (y 1).val = (y 1).val; omega)
  rw [e0, e1]; rfl

end Cert.Proof.Rows

end
-- ==== Proof.Wrap.lean ====
/-
  From a tile's run over its own buffers and semaphores to the task the launch asks for: the tile's scoped buffers and
  semaphores are split off from all it owns, the tile runs, and they are put back.
-/
module

public import proofs.«01_k».proof.Proof.Tile

@[expose] public section

noncomputable section

namespace Cert.Proof.Wrap

open Cert.KernelIdeal Cert.KernelIdeal.Gen Cert.Proof.Setup Cert.Proof.Tile

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M2 F

theorem bigSep_four (Φ : Fin 4 → sProp 𝕄) : bigSep Finset.univ Φ = iprop(Φ 0 ∗ Φ 1 ∗ Φ 2 ∗ Φ 3) := by
  rw [bigSep_univ_succ, bigSep_univ_succ, bigSep_univ_succ, bigSep_univ_of_subsingleton (0 : Fin 1)]; rfl
theorem bigSep_three (Φ : Fin 3 → sProp 𝕄) : bigSep Finset.univ Φ = iprop(Φ 0 ∗ Φ 1 ∗ Φ 2) := by
  rw [bigSep_univ_succ, bigSep_univ_succ, bigSep_univ_of_subsingleton (0 : Fin 1)]; rfl
theorem bigSep_six (Φ : Fin 6 → sProp 𝕄) : bigSep Finset.univ Φ = iprop(Φ 0 ∗ Φ 1 ∗ Φ 2 ∗ Φ 3 ∗ Φ 4 ∗ Φ 5) := by
  rw [bigSep_univ_succ, bigSep_univ_succ, bigSep_univ_succ, bigSep_univ_succ, bigSep_univ_succ,
    bigSep_univ_of_subsingleton (0 : Fin 1)]; rfl

theorem bigSep_image_sdiff {I J : Type} [DecidableEq I] [DecidableEq J] {s : Finset I} {t : Finset J} {f : J → I} (inj : Set.InjOn f t)
    (sub : ∀ j ∈ t, f j ∈ s) (Φ : I → sProp 𝕄) :
    bigSep s Φ = iprop(bigSep t (fun j => Φ (f j)) ∗ bigSep (s \ t.image f) Φ) := by
  rw [SparseCore.bigSep_sdiff_split' (t := t.image f) fun x mem => by obtain ⟨j, among, rfl⟩ := Finset.mem_image.mp mem; exact sub j among,
    bigSep_image_of_injOn inj]

/-- Six of a tile's semaphores, out of all it owns. -/
theorem ownSems0_six (d : Dev nD) (c : Fin τ.nSC) (j : Fin τ.nSub) (s : Fin 6 → DmaSems sig S_)
    (hs : ∀ k, (SemLoc.dma (s k).sem : SemLoc sig).isScoped .scVector = true) (hinj : Function.Injective fun k => (SemLoc.dma (s k).sem : SemLoc sig)) :
    ∃ R : sProp 𝕄, (ownSems0 (V d c j) : sProp 𝕄)
      = iprop((semVal (V d c j, .dma (s 0).sem) 0 ∗ semVal (V d c j, .dma (s 1).sem) 0 ∗ semVal (V d c j, .dma (s 2).sem) 0
        ∗ semVal (V d c j, .dma (s 3).sem) 0 ∗ semVal (V d c j, .dma (s 4).sem) 0 ∗ semVal (V d c j, .dma (s 5).sem) 0) ∗ R) := by
  have h := bigSep_image_sdiff (F := F) (s := ownCells (V d c j)) (t := (Finset.univ : Finset (Fin 6)))
    (f := fun k => ((V d c j, .dma (s k).sem) : GSem nD τ sig))
    (fun a _ b _ h => hinj (congrArg Prod.snd h)) (fun k _ => mem_ownCells.mpr ⟨rfl, hs k⟩) (fun g => semVal g 0)
  rw [bigSep_six] at h
  exact ⟨_, h⟩

/-- Three of a tile's buffers, out of all it owns. -/
theorem ownBufs_three (d : Dev nD) (c : Fin τ.nSC) (j : Fin τ.nSub) (r : Fin 3 → Ref sig .scVector)
    (hr : ∀ k, ((Proc.scVector c j).devRef (r k) : DevRef τ sig).owner = .proc (.scVector c j)) (hinj : Function.Injective r) :
    ∃ R : sProp 𝕄, (ownBufs (V d c j) : sProp 𝕄)
      = iprop(((∃ f, (V d c j).loc (r 0) ↦{fullShare} f) ∗ (∃ f, (V d c j).loc (r 1) ↦{fullShare} f) ∗ (∃ f, (V d c j).loc (r 2) ↦{fullShare} f)) ∗ R) := by
  have h := bigSep_image_sdiff (F := F) (s := ownRefs (τ := τ) (sig := sig) (.scVector c j)) (t := (Finset.univ : Finset (Fin 3)))
    (f := fun k => ((Proc.scVector c j).devRef (r k) : DevRef τ sig))
    (fun a _ b _ h => hinj (Proc.devRef_injective _ h)) (fun k _ => SparseCore.Cfg.mem_ownRefs_of_owner (hr k))
    (fun b => iprop(∃ f, ((d, b) : Loc nD τ sig) ↦{fullShare} f))
  rw [bigSep_three] at h
  exact ⟨_, h⟩

set_option maxHeartbeats 1000000 in
/-- The task, from the tile's run. `hsplit`, `hjoin`: the tile's three buffers are its two index lists and the two
    halves of its row buffer. `hG k`: what the run leaves in output chunk `k` is `G k`. -/
theorem task (d : Dev nD) (c : Fin τ.nSC) (j : Fin τ.nSub) {prog : Prog (TpuEff nD τ sig (Elt F) Λ₀ (.scVector c j)) PUnit}
    {t : Memref sig .scVector .hbm S2048x128 .f32} {x0 x1 x2 x3 : Memref sig .scVector .hbm S256 .i32}
    {o0 o1 o2 o3 : Memref sig .scVector .hbm S256x128 .f32} {a5 a6 : Memref sig .scVector .vmem S256 .i32}
    {rA rB : Memref sig .scVector .vmem S256x128 .f32} (s : Fin 6 → DmaSems sig S_) (r : Fin 3 → Ref sig .scVector)
    (hb : BodySpec (F := F) d c j prog t x0 x1 x2 x3 o0 o1 o2 o3 a5 a6 rA rB (s 0) (s 1) (s 2) (s 3) (s 4) (s 5))
    (hs : ∀ k, (SemLoc.dma (s k).sem : SemLoc sig).isScoped .scVector = true) (hsinj : Function.Injective fun k => (SemLoc.dma (s k).sem : SemLoc sig))
    (hr : ∀ k, ((Proc.scVector c j).devRef (r k) : DevRef τ sig).owner = .proc (.scVector c j)) (hrinj : Function.Injective r)
    (hsplit : iprop((∃ f, (V d c j).loc (r 0) ↦{fullShare} f) ∗ (∃ f, (V d c j).loc (r 1) ↦{fullShare} f) ∗ (∃ f, (V d c j).loc (r 2) ↦{fullShare} f))
      ⊢ (iprop((∃ f, (a5.view.loc (V d c j) ↦[a5.view.set]{fullShare} f)) ∗ (∃ f, (a6.view.loc (V d c j) ↦[a6.view.set]{fullShare} f))
        ∗ (∃ f, (rA.view.loc (V d c j) ↦[rA.view.set]{fullShare} f)) ∗ (∃ f, (rB.view.loc (V d c j) ↦[rB.view.set]{fullShare} f))) : sProp 𝕄))
    (hjoin : iprop((∃ f, (a5.view.loc (V d c j) ↦[a5.view.set]{fullShare} f)) ∗ (∃ f, (a6.view.loc (V d c j) ↦[a6.view.set]{fullShare} f))
        ∗ (∃ f, (rA.view.loc (V d c j) ↦[rA.view.set]{fullShare} f)) ∗ (∃ f, (rB.view.loc (V d c j) ↦[rB.view.set]{fullShare} f)))
      ⊢ (iprop((∃ f, (V d c j).loc (r 0) ↦{fullShare} f) ∗ (∃ f, (V d c j).loc (r 1) ↦{fullShare} f) ∗ (∃ f, (V d c j).loc (r 2) ↦{fullShare} f)) : sProp 𝕄))
    (O : CellTallies nD τ sig (HIx 2)) (W : Waits sig (HIx 2)) (hO : ∀ g, O g none = 0) (q : PosShare TreeShare)
    (ft : Buf (Elt F) (t.view.loc (V d c j)))
    (fx0 : Buf (Elt F) (x0.view.loc (V d c j))) (fx1 : Buf (Elt F) (x1.view.loc (V d c j)))
    (fx2 : Buf (Elt F) (x2.view.loc (V d c j))) (fx3 : Buf (Elt F) (x3.view.loc (V d c j)))
    (fo0 G0 : Buf (Elt F) (o0.view.loc (V d c j))) (fo1 G1 : Buf (Elt F) (o1.view.loc (V d c j)))
    (fo2 G2 : Buf (Elt F) (o2.view.loc (V d c j))) (fo3 G3 : Buf (Elt F) (o3.view.loc (V d c j)))
    (hin0 : ∀ x, (x0.view.read (Elt F) fx0 x).toNat < S2048x128.size (gathers_S2048x128_S256x128).axis)
    (hin1 : ∀ x, (x1.view.read (Elt F) fx1 x).toNat < S2048x128.size (gathers_S2048x128_S256x128).axis)
    (hin2 : ∀ x, (x2.view.read (Elt F) fx2 x).toNat < S2048x128.size (gathers_S2048x128_S256x128).axis)
    (hin3 : ∀ x, (x3.view.read (Elt F) fx3 x).toNat < S2048x128.size (gathers_S2048x128_S256x128).axis)
    (hG0 : ∀ g, o0.view.read (Elt F) g = gathered (t.view.read (Elt F) ft) (x0.view.read (Elt F) fx0) hin0 → ∀ p ∈ o0.view.set, g p = G0 p)
    (hG1 : ∀ g, o1.view.read (Elt F) g = gathered (t.view.read (Elt F) ft) (x1.view.read (Elt F) fx1) hin1 → ∀ p ∈ o1.view.set, g p = G1 p)
    (hG2 : ∀ g, o2.view.read (Elt F) g = gathered (t.view.read (Elt F) ft) (x2.view.read (Elt F) fx2) hin2 → ∀ p ∈ o2.view.set, g p = G2 p)
    (hG3 : ∀ g, o3.view.read (Elt F) g = gathered (t.view.read (Elt F) ft) (x3.view.read (Elt F) fx3) hin3 → ∀ p ∈ o3.view.set, g p = G3 p) :
    iprop(levAts (K (F := F)).L (K (F := F)).lev ∗ emp
        ∗ ((t.view.loc (V d c j) ↦[t.view.set]{q} ft)
          ∗ ((x0.view.loc (V d c j) ↦[x0.view.set]{fullShare} fx0) ∗ (x1.view.loc (V d c j) ↦[x1.view.set]{fullShare} fx1)
            ∗ (x2.view.loc (V d c j) ↦[x2.view.set]{fullShare} fx2) ∗ (x3.view.loc (V d c j) ↦[x3.view.set]{fullShare} fx3))
          ∗ ((o0.view.loc (V d c j) ↦[o0.view.set]{fullShare} fo0) ∗ (o1.view.loc (V d c j) ↦[o1.view.set]{fullShare} fo1)
            ∗ (o2.view.loc (V d c j) ↦[o2.view.set]{fullShare} fo2) ∗ (o3.view.loc (V d c j) ↦[o3.view.set]{fullShare} fo3)))
        ∗ scopedBufs (V d c j) ∗ scopedSems0 (V d c j) ∗ owes (V d c j) O W)
      ⊢ (wp frame (wpE (defs₀ (F := F)) 𝒱₀ (V d c j) none) Set.univ prog
          fun _ => iprop(((t.view.loc (V d c j) ↦[t.view.set]{q} ft)
          ∗ ((x0.view.loc (V d c j) ↦[x0.view.set]{fullShare} fx0) ∗ (x1.view.loc (V d c j) ↦[x1.view.set]{fullShare} fx1)
            ∗ (x2.view.loc (V d c j) ↦[x2.view.set]{fullShare} fx2) ∗ (x3.view.loc (V d c j) ↦[x3.view.set]{fullShare} fx3))
          ∗ ((o0.view.loc (V d c j) ↦[o0.view.set]{fullShare} G0) ∗ (o1.view.loc (V d c j) ↦[o1.view.set]{fullShare} G1)
            ∗ (o2.view.loc (V d c j) ↦[o2.view.set]{fullShare} G2) ∗ (o3.view.loc (V d c j) ↦[o3.view.set]{fullShare} G3)))
        ∗ scopedBufs (V d c j) ∗ scopedSems0 (V d c j)
        ∗ ∃ W', ⌜∀ p ∈ W', p ∈ W ∨ p.2 = none⌝ ∗ owes (V d c j) O W') : sProp 𝕄) := by
  obtain ⟨R, hR⟩ := ownSems0_six (F := F) d c j s hs hsinj
  obtain ⟨R', hR'⟩ := ownBufs_three (F := F) d c j r hr hrinj
  rw [(K (F := F)).scopedBufs_V facts d c j, SparseCore.Cfg.scopedSems0_V (Val := Elt F) d c j, hR, hR']
  iintro ⟨#Hlv, -, ⟨Ht, ⟨Hx0, Hx1, Hx2, Hx3⟩, Ho0, Ho1, Ho2, Ho3⟩, ⟨Hb, HR'⟩, ⟨⟨HS0, HS1, HS2, HS3, HS4, HS5⟩, HR⟩, HO⟩
  ihave Hmw := (show levAts (K (F := F)).L (K (F := F)).lev ⊢ Transfers.MayWaits (V d c j) (default : HIx 2) O from
    (K (F := F)).mayWaits_none (thr := V d c j) hO) $$ Hlv
  ihave Hb := hsplit $$ Hb
  icases Hb with ⟨⟨%f5, H5⟩, ⟨%f6, H6⟩, ⟨%fA, HA⟩, ⟨%fB, HB⟩⟩
  ihave Ht := (pointsTo_share (PosShare.mem_left_op_right q)).1 $$ Ht
  icases Ht with ⟨Ht, Ht'⟩
  iapply (wp_wand_r frame (wpE (defs₀ (F := F)) 𝒱₀ (V d c j) none) Set.univ)
  isplitl [Hmw Ht Ht' Hx0 Hx1 Hx2 Hx3 Ho0 Ho1 Ho2 Ho3 H5 H6 HA HB HS0 HS1 HS2 HS3 HS4 HS5 HO]
  · iapply (hb O W q.left q.right ft fx0 fx1 fx2 fx3 fo0 fo1 fo2 fo3 f5 f6 fA fB hin0 hin1 hin2 hin3)
    isplitl [Hmw]; · iexact Hmw
    isplitl [Ht]; · iexact Ht
    isplitl [Ht']; · iexact Ht'
    isplitl [Hx0]; · iexact Hx0
    isplitl [Hx1]; · iexact Hx1
    isplitl [Hx2]; · iexact Hx2
    isplitl [Hx3]; · iexact Hx3
    isplitl [Ho0]; · iexact Ho0
    isplitl [Ho1]; · iexact Ho1
    isplitl [Ho2]; · iexact Ho2
    isplitl [Ho3]; · iexact Ho3
    isplitl [H5]; · iexact H5
    isplitl [H6]; · iexact H6
    isplitl [HA]; · iexact HA
    isplitl [HB]; · iexact HB
    isplitl [HS0]; · iexact HS0
    isplitl [HS1]; · iexact HS1
    isplitl [HS2]; · iexact HS2
    isplitl [HS3]; · iexact HS3
    isplitl [HS4]; · iexact HS4
    isplitl [HS5]; · iexact HS5
    iexact HO
  iintro %_ ⟨Ht, Ht', Hx0, Hx1, Hx2, Hx3, ⟨%g0, Ho0, %e0⟩, ⟨%g1, Ho1, %e1⟩, ⟨%g2, Ho2, %e2⟩, ⟨%g3, Ho3, %e3⟩, H5, H6, HA, HB, HS0, HS1, HS2, HS3, HS4, HS5, HO⟩
  isplitl [Ht Ht' Hx0 Hx1 Hx2 Hx3 Ho0 Ho1 Ho2 Ho3]
  · isplitl [Ht Ht']
    · iapply (pointsTo_share (PosShare.mem_left_op_right q)).2
      isplitl [Ht] <;> iassumption
    isplitl [Hx0 Hx1 Hx2 Hx3]
    · isplitl [Hx0]; · iexact Hx0
      isplitl [Hx1]; · iexact Hx1
      isplitl [Hx2]; · iexact Hx2
      iexact Hx3
    isplitl [Ho0]; · iapply (Entails.of_eq (pointsTo_congr (hG0 g0 e0))); iexact Ho0
    isplitl [Ho1]; · iapply (Entails.of_eq (pointsTo_congr (hG1 g1 e1))); iexact Ho1
    isplitl [Ho2]; · iapply (Entails.of_eq (pointsTo_congr (hG2 g2 e2))); iexact Ho2
    iapply (Entails.of_eq (pointsTo_congr (hG3 g3 e3))); iexact Ho3
  isplitl [H5 H6 HA HB HR']
  · isplitr [HR']
    · iapply hjoin
      isplitl [H5]; · iexact H5
      isplitl [H6]; · iexact H6
      isplitl [HA]; · iexact HA
      iexact HB
    iexact HR'
  isplitr [HO]
  · isplitr [HR]
    · isplitl [HS0]; · iexact HS0
      isplitl [HS1]; · iexact HS1
      isplitl [HS2]; · iexact HS2
      isplitl [HS3]; · iexact HS3
      isplitl [HS4]; · iexact HS4
      iexact HS5
    iexact HR
  iexact HO

end Cert.Proof.Wrap

end
-- ==== Proof.Call0.lean ====
/-
  The first gather call: a tile's task, in terms of its parts of the call's arrays.
-/
module

public import proofs.«01_k».proof.Proof.Body0
public import proofs.«01_k».proof.Proof.Rows
public import proofs.«01_k».proof.Proof.Wrap

@[expose] public section

noncomputable section

namespace Cert.Proof.Call0

open Cert.KernelIdeal Cert.KernelIdeal.Gen Cert.Proof.Setup Cert.Proof.Tile Cert.Proof.Chunks Cert.Proof.Rows Cert.Proof.Body0

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M2 F

/-! ## The elements the tile's views name -/

theorem cid_val (i : grid0.Coords) (k : Fin 4) : (cid (i 0).val (i 1).val k.val).val = 8 * (i 1).val + 4 * (i 0).val + k.val := by
  have h0 : (i 0).val < 2 := (i 0).isLt
  have h1 : (i 1).val < 16 := (i 1).isLt
  have := k.isLt
  show (8 * (i 1).val + 4 * (i 0).val + k.val) % 128 = _
  exact Nat.mod_eq_of_lt (by omega)

theorem off1_eq (i : grid0.Coords) : k0_off1 i = ![256 * (cid (i 0).val (i 1).val 0).val] := by
  rw [k0_off1_eq, show (cid (i 0).val (i 1).val 0).val = _ from cid_val i 0]; congr 1; show _ = 256 * (_ + _ + 0); omega
theorem off2_eq (i : grid0.Coords) (r : Fin 3) :
    k0_off2 i (BitVec.ofNat 32 (256 + 256 * r.val)) = ![256 * (cid (i 0).val (i 1).val (r.val + 1)).val] := by
  rw [k0_off2_eq, show r.val + 1 = (r.succ : Fin 4).val from rfl, cid_val i r.succ, Fin.val_succ]; congr 1; omega
theorem off3_eq (i : grid0.Coords) (r : Fin 4) :
    k0_off3 i (BitVec.ofNat 32 (256 * r.val)) = ![256 * (cid (i 0).val (i 1).val r.val).val, 0] := by
  rw [k0_off3_eq, cid_val i r]; congr 1; omega

theorem set_tbl : tblV.view.set = Finset.univ :=
  (View.set_slice_whole main_v15_scv _).trans (unit_tbl _)
theorem set_head (i : grid0.Coords) : (ixHead i).view.set = xSet (cid (i 0).val (i 1).val 0) :=
  (View.set_slice_whole main_v13_scv _).trans (unit_xSet _ _ _ (congrFun (off1_eq i) 0))
theorem set_tail (i : grid0.Coords) (r : Fin 3) :
    (ixTail i (BitVec.ofNat 32 (256 + 256 * r.val)) (k0_off2_inb i r)).view.set = xSet (cid (i 0).val (i 1).val (r.val + 1)) :=
  (View.set_slice_whole main_v13_scv _).trans (unit_xSet _ _ _ (congrFun (off2_eq i r) 0))
theorem set_out (i : grid0.Coords) (r : Fin 4) :
    (outV i (BitVec.ofNat 32 (256 * r.val)) (k0_off3_inb i r)).view.set = oSet (cid (i 0).val (i 1).val r.val) :=
  (View.set_slice_whole main_v16_scv _).trans (unit_oSet _ _ _ (off3_eq i r))

theorem set_rowB : rowB.view.set = Finset.univ \ rowA.view.set := by
  have hA : rowA.view.set = _ := (View.set_reshape _ _).trans (View.set_slice_whole cc0_scratch2 _)
  have hB : rowB.view.set = _ := (View.set_reshape _ _).trans (View.set_slice_whole cc0_scratch2 _)
  rw [hA, hB]; exact half_compl _ _

/-! ## The tile's buffers -/

theorem bufs_split (d : Dev nD) (c : Fin τ.nSC) (j : Fin τ.nSub) :
    iprop((∃ f, (V d c j).loc cc0_scratch0 ↦{fullShare} f) ∗ (∃ f, (V d c j).loc cc0_scratch1 ↦{fullShare} f) ∗ (∃ f, (V d c j).loc cc0_scratch2 ↦{fullShare} f))
      ⊢ (iprop((∃ f, (a5.view.loc (V d c j) ↦[a5.view.set]{fullShare} f)) ∗ (∃ f, (a6.view.loc (V d c j) ↦[a6.view.set]{fullShare} f))
        ∗ (∃ f, (rowA.view.loc (V d c j) ↦[rowA.view.set]{fullShare} f)) ∗ (∃ f, (rowB.view.loc (V d c j) ↦[rowB.view.set]{fullShare} f))) : sProp 𝕄) := by
  rw [set_rowB, show a5.view.set = Finset.univ from View.set_whole _, show a6.view.set = Finset.univ from View.set_whole _]
  iintro ⟨⟨%f, H5⟩, ⟨%g, H6⟩, ⟨%h, H7⟩⟩
  ihave H7 := (pointsTo_split_subset (Finset.subset_univ rowA.view.set)).1 $$ H7
  icases H7 with ⟨HA, HB⟩
  isplitl [H5]; · iexists f; iexact H5
  isplitl [H6]; · iexists g; iexact H6
  isplitl [HA]; · iexists h; iexact HA
  iexists h; iexact HB

theorem bufs_join (d : Dev nD) (c : Fin τ.nSC) (j : Fin τ.nSub) :
    iprop((∃ f, (a5.view.loc (V d c j) ↦[a5.view.set]{fullShare} f)) ∗ (∃ f, (a6.view.loc (V d c j) ↦[a6.view.set]{fullShare} f))
        ∗ (∃ f, (rowA.view.loc (V d c j) ↦[rowA.view.set]{fullShare} f)) ∗ (∃ f, (rowB.view.loc (V d c j) ↦[rowB.view.set]{fullShare} f)))
      ⊢ (iprop((∃ f, (V d c j).loc cc0_scratch0 ↦{fullShare} f) ∗ (∃ f, (V d c j).loc cc0_scratch1 ↦{fullShare} f) ∗ (∃ f, (V d c j).loc cc0_scratch2 ↦{fullShare} f)) : sProp 𝕄) := by
  rw [set_rowB, show a5.view.set = Finset.univ from View.set_whole _, show a6.view.set = Finset.univ from View.set_whole _]
  iintro ⟨⟨%f, H5⟩, ⟨%g, H6⟩, ⟨%h, HA⟩, ⟨%h', HB⟩⟩
  isplitl [H5]; · iexists f; iexact H5
  isplitl [H6]; · iexists g; iexact H6
  iexists _
  iapply (pointsTo_join_subset (ℓ := (V d c j).loc cc0_scratch2) (Finset.subset_univ rowA.view.set) (f := h') (g := h))
  isplitl [HA] <;> iassumption

/-! ## The task -/

/-- The words of a chunk, and what the run leaves in an output chunk. -/
theorem out_of_read (tb : S2048x128.Idx → Elt F .f32) (ix : S32768.Idx → Elt F .i32) (off : Fin 1 → ℕ) (off' : Fin 2 → ℕ)
    (inb : ∀ a, off a + S256.size a ≤ S32768.size a) (inb' : ∀ a, off' a + S256x128.size a ≤ S32768x128.size a)
    (n : ℕ) (h : off = ![n]) (h' : off' = ![n, 0])
    (hin : ∀ x, ((a3.slice (Rect.unit (s := S32768) off S256.size inb) (fun _ => rfl)).view.read (Elt F) ix x).toNat < S2048x128.size (gathers_S2048x128_S256x128).axis)
    (g : S32768x128.Idx → Elt F .f32)
    (hg : (a4.slice (Rect.unit (s := S32768x128) off' S256x128.size inb') (fun _ => rfl)).view.read (Elt F) g
      = gathered (tblV.view.read (Elt F) tb) ((a3.slice (Rect.unit (s := S32768) off S256.size inb) (fun _ => rfl)).view.read (Elt F) ix) hin) :
    ∀ p ∈ (a4.slice (Rect.unit (s := S32768x128) off' S256x128.size inb') (fun _ => rfl)).view.set, g p = rowsOf tb ix p := by
  intro p hp
  obtain ⟨y, -, rfl⟩ := Finset.mem_map.mp hp
  have e := congrFun hg y
  have ht : tblV.view.read (Elt F) tb = tb := funext fun y => congrArg tb (emb_tbl _ y)
  rw [ht] at e
  exact e.trans (gathered_rowsOf tb ix off off' inb inb' n h h' hin y)

theorem sems_scoped : ∀ k : Fin 6, (SemLoc.dma ((![cc0_scratch3, cc0_scratch4, cc0_scratch5, cc0_scratch6, cc0_scratch7, cc0_scratch8] : Fin 6 → DmaSems sig S_) k).sem : SemLoc sig).isScoped .scVector = true := by decide
theorem sems_inj : Function.Injective fun k : Fin 6 => (SemLoc.dma ((![cc0_scratch3, cc0_scratch4, cc0_scratch5, cc0_scratch6, cc0_scratch7, cc0_scratch8] : Fin 6 → DmaSems sig S_) k).sem : SemLoc sig) := by decide

set_option maxHeartbeats 1600000 in
/-- The task on vector subcore `(i 0, i 1)`: its part of the arrays back, its output chunks at the rows gathered. -/
theorem task (d : Dev nD) (i : grid0.Coords) (tb : S2048x128.Idx → Elt F .f32) (ix : S32768.Idx → Elt F .i32) (fo : S32768x128.Idx → Elt F .f32)
    (hix : ∀ x, (ix x).toNat < 2048) (O : CellTallies nD τ sig (HIx 2)) (W : Waits sig (HIx 2)) (hO : ∀ g, O g none = 0) :
    iprop(levAts (K (F := F)).L (K (F := F)).lev ∗ emp
        ∗ part (tcLoc d main_v15) (tcLoc d main_v13) (tcLoc d main_v16) xSet oSet tb ix fo (i 0).val (i 1).val
        ∗ scopedBufs (V d (cV i) (jV i)) ∗ scopedSems0 (V d (cV i) (jV i)) ∗ owes (V d (cV i) (jV i)) O W)
      ⊢ (wp frame (wpE (defs₀ (F := F)) 𝒱₀ (V d (cV i) (jV i)) none) Set.univ
          (cc0_sc_gather i a2 (Memref.isWhole_whole _) a3 (Memref.isWhole_whole _) a4 (Memref.isWhole_whole _) a5 (Memref.isWhole_whole _)
            a6 (Memref.isWhole_whole _) a7 (Memref.isWhole_whole _) cc0_scratch3 cc0_scratch4 cc0_scratch5 cc0_scratch6 cc0_scratch7 cc0_scratch8)
          fun _ => iprop(part (tcLoc d main_v15) (tcLoc d main_v13) (tcLoc d main_v16) xSet oSet tb ix (rowsOf tb ix) (i 0).val (i 1).val
            ∗ scopedBufs (V d (cV i) (jV i)) ∗ scopedSems0 (V d (cV i) (jV i))
            ∗ ∃ W', ⌜∀ p ∈ W', p ∈ W ∨ p.2 = none⌝ ∗ owes (V d (cV i) (jV i)) O W') : sProp 𝕄) := by
  unfold part
  rw [Wrap.bigSep_four, Wrap.bigSep_four, Wrap.bigSep_four]
  have h := Wrap.task (F := F) d (cV i) (jV i) ![cc0_scratch3, cc0_scratch4, cc0_scratch5, cc0_scratch6, cc0_scratch7, cc0_scratch8]
    ![cc0_scratch0, cc0_scratch1, cc0_scratch2] (body d i) sems_scoped sems_inj (by decide +revert) (by decide)
    (bufs_split d _ _) (bufs_join d _ _) O W hO (ShareLeaves.leaf 5 fullShare (tid (i 0).val (i 1).val)) tb ix ix ix ix
    fo (rowsOf tb ix) fo (rowsOf tb ix) fo (rowsOf tb ix) fo (rowsOf tb ix)
    (fun _ => hix _) (fun _ => hix _) (fun _ => hix _) (fun _ => hix _)
    (out_of_read tb ix _ _ _ _ _ (off1_eq i) (off3_eq i 0) _) (out_of_read tb ix _ _ _ _ _ (off2_eq i 0) (off3_eq i 1) _)
    (out_of_read tb ix _ _ _ _ _ (off2_eq i 1) (off3_eq i 2) _) (out_of_read tb ix _ _ _ _ _ (off2_eq i 2) (off3_eq i 3) _)
  rw [set_tbl, set_head, show (ixTail i 256#32 (k0_off2_inb i 0)).view.set = _ from set_tail i 0, show (ixTail i 512#32 (k0_off2_inb i 1)).view.set = _ from set_tail i 1,
    show (ixTail i 768#32 (k0_off2_inb i 2)).view.set = _ from set_tail i 2, show (outV i 0#32 (k0_off3_inb i 0)).view.set = _ from set_out i 0,
    show (outV i 256#32 (k0_off3_inb i 1)).view.set = _ from set_out i 1, show (outV i 512#32 (k0_off3_inb i 2)).view.set = _ from set_out i 2,
    show (outV i 768#32 (k0_off3_inb i 3)).view.set = _ from set_out i 3] at h
  exact h

end Cert.Proof.Call0

end
-- ==== Proof.Body1.lean ====
/-
  A tile of the second gather call.
-/
module

public import proofs.«01_k».proof.Proof.Tile

@[expose] public section

noncomputable section

namespace Cert.Proof.Body1

open Cert.KernelIdeal Cert.KernelIdeal.Gen Cert.Proof.Setup Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => M2 F

abbrev cV (i : grid1.Coords) : Fin τ.nSC := (i 0).castLE hcore1
abbrev jV (i : grid1.Coords) : Fin τ.nSub := (i 1).castLE hsub1

/-! ## The views the tile addresses -/

abbrev a2 : Memref sig .scVector .hbm S2048x128 .f32 := Memref.whole main_v18_scv
abbrev a3 : Memref sig .scVector .hbm S32768 .i32 := Memref.whole main_v14_scv
abbrev a4 : Memref sig .scVector .hbm S32768x128 .f32 := Memref.whole main_v19_scv
abbrev a5 : Memref sig .scVector .vmem S256 .i32 := Memref.whole cc1_scratch0
abbrev a6 : Memref sig .scVector .vmem S256 .i32 := Memref.whole cc1_scratch1
abbrev a7 : Memref sig .scVector .vmem S2x256x128 .f32 := Memref.whole cc1_scratch2

/-- The whole table, as the gather's source. -/
abbrev tblV : Memref sig .scVector .hbm S2048x128 .f32 :=
  a2.slice (Rect.unit (s := S2048x128) ![0, 0] S2048x128.size inb_S2048x128_S2048x128_0_0) (fun _ => rfl)
/-- The first chunk of the tile's row numbers. -/
abbrev ixHead (i : grid1.Coords) : Memref sig .scVector .hbm S256 .i32 :=
  a3.slice (Rect.unit (s := S32768) (k1_off1 i) S256.size (k1_off1_inb i)) (fun _ => rfl)
/-- The later chunks of the tile's row numbers. -/
abbrev ixTail (i : grid1.Coords) (w : BitVec 32)
    (h : ∀ a, (k1_off2 i w) a + S256.size a ≤ S32768.size a) : Memref sig .scVector .hbm S256 .i32 :=
  a3.slice (Rect.unit (s := S32768) (k1_off2 i w) S256.size h) (fun _ => rfl)
/-- The output chunks of the tile. -/
abbrev outV (i : grid1.Coords) (w : BitVec 32)
    (h : ∀ a, (k1_off3 i w) a + S256x128.size a ≤ S32768x128.size a) : Memref sig .scVector .hbm S256x128 .f32 :=
  a4.slice (Rect.unit (s := S32768x128) (k1_off3 i w) S256x128.size h) (fun _ => rfl)
/-- The two halves of the row buffer. -/
abbrev rowA : Memref sig .scVector .vmem S256x128 .f32 :=
  (a7.slice (Rect.unit (s := S2x256x128) ![0, 0, 0] S1x256x128.size inb_S2x256x128_S1x256x128_0_0_0) (fun _ => rfl)).squeeze S256x128 squeezes_S1x256x128_S256x128
abbrev rowB : Memref sig .scVector .vmem S256x128 .f32 :=
  (a7.slice (Rect.unit (s := S2x256x128) ![1, 0, 0] S1x256x128.size inb_S2x256x128_S1x256x128_1_0_0) (fun _ => rfl)).squeeze S256x128 squeezes_S1x256x128_S256x128

set_option maxRecDepth 65536 in
set_option maxHeartbeats 8000000 in
theorem body (d : Dev nD) (i : grid1.Coords) :
    BodySpec (F := F) d (cV i) (jV i)
      (cc1_sc_gather i a2 (Memref.isWhole_whole _) a3 (Memref.isWhole_whole _) a4 (Memref.isWhole_whole _) a5 (Memref.isWhole_whole _)
        a6 (Memref.isWhole_whole _) a7 (Memref.isWhole_whole _) cc1_scratch3 cc1_scratch4 cc1_scratch5 cc1_scratch6 cc1_scratch7 cc1_scratch8)
      tblV (ixHead i) (ixTail i 256#32 (k1_off2_inb i 0)) (ixTail i 512#32 (k1_off2_inb i 1)) (ixTail i 768#32 (k1_off2_inb i 2))
      (outV i 0#32 (k1_off3_inb i 0)) (outV i 256#32 (k1_off3_inb i 1)) (outV i 512#32 (k1_off3_inb i 2)) (outV i 768#32 (k1_off3_inb i 3))
      a5 a6 rowA rowB cc1_scratch3 cc1_scratch4 cc1_scratch5 cc1_scratch6 cc1_scratch7 cc1_scratch8 := by
  unfold BodySpec
  intro O W q₁ q₂ ft fx0 fx1 fx2 fx3 fo0 fo1 fo2 fo3 f5 f6 fA fB hin0 hin1 hin2 hin3
  rw [cc1_sc_gather_eq_skeleton]; unfold cc1_sc_gather_skel
  rw [k1_part1_eq_skeleton, k1_part2_eq_skeleton, k1_part3_eq_skeleton]
  unfold k1_part1_skel k1_part2_skel k1_part3_skel
  iintro ⟨Hmw, Ht, Ht', Hi0, Hi1, Hi2, Hi3, Ho0, Ho1, Ho2, Ho3, H5, H6, HA, HB, HS8, HS9, HS10, HS11, HS12, HS13, HO⟩
  sl_exec
  have hr0 : ∀ x : S256.Idx, BitVec.toNat (View.read (Elt F) a5.view (a5.view.writes (Elt F) a5.view.junk [⟨Rect.whole S256, body.sl.dma0 d i fx0⟩]) x)
      < S2048x128.size gathers_S2048x128_S256x128.axis := by rw [read_writes_whole]; exact hin0
  sl_exec
  have hr1 : ∀ x : S256.Idx, BitVec.toNat (View.read (Elt F) a6.view (a6.view.writes (Elt F) a6.view.junk [⟨Rect.whole S256, body.sl.dma0_1 d i fx1⟩]) x)
      < S2048x128.size gathers_S2048x128_S256x128.axis := by rw [read_writes_whole]; exact hin1
  sl_exec
  have hr2 : ∀ x : S256.Idx, BitVec.toNat (View.read (Elt F) a5.view (a5.view.writes (Elt F) a5.view.junk
      [⟨Rect.whole S256, body.sl.dma0_3 d i fx2⟩, ⟨Rect.whole S256, body.sl.dma0 d i fx0⟩]) x)
      < S2048x128.size gathers_S2048x128_S256x128.axis := by rw [read_writes_whole]; exact hin2
  sl_exec
  have hr3 : ∀ x : S256.Idx, BitVec.toNat (View.read (Elt F) a6.view (a6.view.writes (Elt F) a6.view.junk
      [⟨Rect.whole S256, body.sl.dma0_5 d i fx3⟩, ⟨Rect.whole S256, body.sl.dma0_1 d i fx1⟩]) x)
      < S2048x128.size gathers_S2048x128_S256x128.axis := by rw [read_writes_whole]; exact hin3
  sl_exec
  sl_step
  isplitl [Ht]; · iexact Ht
  isplitl [Ht']; · iexact Ht'
  isplitl [Hi0]; · iexact Hi0
  isplitl [Hi1]; · iexact Hi1
  isplitl [Hi2]; · iexact Hi2
  isplitl [Hi3]; · iexact Hi3
  isplitl [Ho0]
  · iexists _; isplitl; · iexact Ho0
    ipureintro; rw [read_writes_whole]; unfold body.sl.dma0_2; rw [read_writes_whole]
    exact gathered_congr _ (read_writes_whole _ _ _ _) _ _
  isplitl [Ho1]
  · iexists _; isplitl; · iexact Ho1
    ipureintro; rw [read_writes_whole]; unfold body.sl.dma0_4; rw [read_writes_whole]
    exact gathered_congr _ (read_writes_whole _ _ _ _) _ _
  isplitl [Ho2]
  · iexists _; isplitl; · iexact Ho2
    ipureintro; rw [read_writes_whole]; unfold body.sl.dma0_6; rw [read_writes_whole]
    exact gathered_congr _ (read_writes_whole _ _ _ _) _ _
  isplitl [Ho3]
  · iexists _; isplitl; · iexact Ho3
    ipureintro; rw [read_writes_whole]; unfold body.sl.dma0_7; rw [read_writes_whole]
    exact gathered_congr _ (read_writes_whole _ _ _ _) _ _
  isplitl [H5]; · iexists _; iexact H5
  isplitl [H6]; · iexists _; iexact H6
  isplitl [HA]; · iexists _; iexact HA
  isplitl [HB]; · iexists _; iexact HB
  isplitl [HS8]; · iexact HS8
  isplitl [HS9]; · iexact HS9
  isplitl [HS10]; · iexact HS10
  isplitl [HS11]; · iexact HS11
  isplitl [HS12]; · iexact HS12
  isplitl [HS13]; · iexact HS13
  iexists _; isplitr
  swap; · iexact HO
  ipureintro; intro p hp
  simp only [Finset.mem_insert] at hp
  rcases hp with hp | hp | hp | hp | hp | hp | hp | hp | hp | hp | hp | hp | hp
  iterate 12 exact .inr (hp ▸ rfl)
  exact .inl hp

end Cert.Proof.Body1
-- ==== Proof.Call1.lean ====
/-
  The second gather call: a tile's task, in terms of its parts of the call's arrays.
-/
module

public import proofs.«01_k».proof.Proof.Body1
public import proofs.«01_k».proof.Proof.Rows
public import proofs.«01_k».proof.Proof.Wrap

@[expose] public section

noncomputable section

namespace Cert.Proof.Call1

open Cert.KernelIdeal Cert.KernelIdeal.Gen Cert.Proof.Setup Cert.Proof.Tile Cert.Proof.Chunks Cert.Proof.Rows Cert.Proof.Body1

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M2 F

/-! ## The elements the tile's views name -/

theorem cid_val (i : grid1.Coords) (k : Fin 4) : (cid (i 0).val (i 1).val k.val).val = 8 * (i 1).val + 4 * (i 0).val + k.val := by
  have h0 : (i 0).val < 2 := (i 0).isLt
  have h1 : (i 1).val < 16 := (i 1).isLt
  have := k.isLt
  show (8 * (i 1).val + 4 * (i 0).val + k.val) % 128 = _
  exact Nat.mod_eq_of_lt (by omega)

theorem off1_eq (i : grid1.Coords) : k1_off1 i = ![256 * (cid (i 0).val (i 1).val 0).val] := by
  rw [k1_off1_eq, show (cid (i 0).val (i 1).val 0).val = _ from cid_val i 0]; congr 1; show _ = 256 * (_ + _ + 0); omega
theorem off2_eq (i : grid1.Coords) (r : Fin 3) :
    k1_off2 i (BitVec.ofNat 32 (256 + 256 * r.val)) = ![256 * (cid (i 0).val (i 1).val (r.val + 1)).val] := by
  rw [k1_off2_eq, show r.val + 1 = (r.succ : Fin 4).val from rfl, cid_val i r.succ, Fin.val_succ]; congr 1; omega
theorem off3_eq (i : grid1.Coords) (r : Fin 4) :
    k1_off3 i (BitVec.ofNat 32 (256 * r.val)) = ![256 * (cid (i 0).val (i 1).val r.val).val, 0] := by
  rw [k1_off3_eq, cid_val i r]; congr 1; omega

theorem set_tbl : tblV.view.set = Finset.univ :=
  (View.set_slice_whole main_v18_scv _).trans (unit_tbl _)
theorem set_head (i : grid1.Coords) : (ixHead i).view.set = xSet (cid (i 0).val (i 1).val 0) :=
  (View.set_slice_whole main_v14_scv _).trans (unit_xSet _ _ _ (congrFun (off1_eq i) 0))
theorem set_tail (i : grid1.Coords) (r : Fin 3) :
    (ixTail i (BitVec.ofNat 32 (256 + 256 * r.val)) (k1_off2_inb i r)).view.set = xSet (cid (i 0).val (i 1).val (r.val + 1)) :=
  (View.set_slice_whole main_v14_scv _).trans (unit_xSet _ _ _ (congrFun (off2_eq i r) 0))
theorem set_out (i : grid1.Coords) (r : Fin 4) :
    (outV i (BitVec.ofNat 32 (256 * r.val)) (k1_off3_inb i r)).view.set = oSet (cid (i 0).val (i 1).val r.val) :=
  (View.set_slice_whole main_v19_scv _).trans (unit_oSet _ _ _ (off3_eq i r))

theorem set_rowB : rowB.view.set = Finset.univ \ rowA.view.set := by
  have hA : rowA.view.set = _ := (View.set_reshape _ _).trans (View.set_slice_whole cc1_scratch2 _)
  have hB : rowB.view.set = _ := (View.set_reshape _ _).trans (View.set_slice_whole cc1_scratch2 _)
  rw [hA, hB]; exact half_compl _ _

/-! ## The tile's buffers -/

theorem bufs_split (d : Dev nD) (c : Fin τ.nSC) (j : Fin τ.nSub) :
    iprop((∃ f, (V d c j).loc cc1_scratch0 ↦{fullShare} f) ∗ (∃ f, (V d c j).loc cc1_scratch1 ↦{fullShare} f) ∗ (∃ f, (V d c j).loc cc1_scratch2 ↦{fullShare} f))
      ⊢ (iprop((∃ f, (a5.view.loc (V d c j) ↦[a5.view.set]{fullShare} f)) ∗ (∃ f, (a6.view.loc (V d c j) ↦[a6.view.set]{fullShare} f))
        ∗ (∃ f, (rowA.view.loc (V d c j) ↦[rowA.view.set]{fullShare} f)) ∗ (∃ f, (rowB.view.loc (V d c j) ↦[rowB.view.set]{fullShare} f))) : sProp 𝕄) := by
  rw [set_rowB, show a5.view.set = Finset.univ from View.set_whole _, show a6.view.set = Finset.univ from View.set_whole _]
  iintro ⟨⟨%f, H5⟩, ⟨%g, H6⟩, ⟨%h, H7⟩⟩
  ihave H7 := (pointsTo_split_subset (Finset.subset_univ rowA.view.set)).1 $$ H7
  icases H7 with ⟨HA, HB⟩
  isplitl [H5]; · iexists f; iexact H5
  isplitl [H6]; · iexists g; iexact H6
  isplitl [HA]; · iexists h; iexact HA
  iexists h; iexact HB

theorem bufs_join (d : Dev nD) (c : Fin τ.nSC) (j : Fin τ.nSub) :
    iprop((∃ f, (a5.view.loc (V d c j) ↦[a5.view.set]{fullShare} f)) ∗ (∃ f, (a6.view.loc (V d c j) ↦[a6.view.set]{fullShare} f))
        ∗ (∃ f, (rowA.view.loc (V d c j) ↦[rowA.view.set]{fullShare} f)) ∗ (∃ f, (rowB.view.loc (V d c j) ↦[rowB.view.set]{fullShare} f)))
      ⊢ (iprop((∃ f, (V d c j).loc cc1_scratch0 ↦{fullShare} f) ∗ (∃ f, (V d c j).loc cc1_scratch1 ↦{fullShare} f) ∗ (∃ f, (V d c j).loc cc1_scratch2 ↦{fullShare} f)) : sProp 𝕄) := by
  rw [set_rowB, show a5.view.set = Finset.univ from View.set_whole _, show a6.view.set = Finset.univ from View.set_whole _]
  iintro ⟨⟨%f, H5⟩, ⟨%g, H6⟩, ⟨%h, HA⟩, ⟨%h', HB⟩⟩
  isplitl [H5]; · iexists f; iexact H5
  isplitl [H6]; · iexists g; iexact H6
  iexists _
  iapply (pointsTo_join_subset (ℓ := (V d c j).loc cc1_scratch2) (Finset.subset_univ rowA.view.set) (f := h') (g := h))
  isplitl [HA] <;> iassumption

/-! ## The task -/

/-- The words of a chunk, and what the run leaves in an output chunk. -/
theorem out_of_read (tb : S2048x128.Idx → Elt F .f32) (ix : S32768.Idx → Elt F .i32) (off : Fin 1 → ℕ) (off' : Fin 2 → ℕ)
    (inb : ∀ a, off a + S256.size a ≤ S32768.size a) (inb' : ∀ a, off' a + S256x128.size a ≤ S32768x128.size a)
    (n : ℕ) (h : off = ![n]) (h' : off' = ![n, 0])
    (hin : ∀ x, ((a3.slice (Rect.unit (s := S32768) off S256.size inb) (fun _ => rfl)).view.read (Elt F) ix x).toNat < S2048x128.size (gathers_S2048x128_S256x128).axis)
    (g : S32768x128.Idx → Elt F .f32)
    (hg : (a4.slice (Rect.unit (s := S32768x128) off' S256x128.size inb') (fun _ => rfl)).view.read (Elt F) g
      = gathered (tblV.view.read (Elt F) tb) ((a3.slice (Rect.unit (s := S32768) off S256.size inb) (fun _ => rfl)).view.read (Elt F) ix) hin) :
    ∀ p ∈ (a4.slice (Rect.unit (s := S32768x128) off' S256x128.size inb') (fun _ => rfl)).view.set, g p = rowsOf tb ix p := by
  intro p hp
  obtain ⟨y, -, rfl⟩ := Finset.mem_map.mp hp
  have e := congrFun hg y
  have ht : tblV.view.read (Elt F) tb = tb := funext fun y => congrArg tb (emb_tbl _ y)
  rw [ht] at e
  exact e.trans (gathered_rowsOf tb ix off off' inb inb' n h h' hin y)

theorem sems_scoped : ∀ k : Fin 6, (SemLoc.dma ((![cc1_scratch3, cc1_scratch4, cc1_scratch5, cc1_scratch6, cc1_scratch7, cc1_scratch8] : Fin 6 → DmaSems sig S_) k).sem : SemLoc sig).isScoped .scVector = true := by decide
theorem sems_inj : Function.Injective fun k : Fin 6 => (SemLoc.dma ((![cc1_scratch3, cc1_scratch4, cc1_scratch5, cc1_scratch6, cc1_scratch7, cc1_scratch8] : Fin 6 → DmaSems sig S_) k).sem : SemLoc sig) := by decide

set_option maxHeartbeats 1600000 in
/-- The task on vector subcore `(i 0, i 1)`: its part of the arrays back, its output chunks at the rows gathered. -/
theorem task (d : Dev nD) (i : grid1.Coords) (tb : S2048x128.Idx → Elt F .f32) (ix : S32768.Idx → Elt F .i32) (fo : S32768x128.Idx → Elt F .f32)
    (hix : ∀ x, (ix x).toNat < 2048) (O : CellTallies nD τ sig (HIx 2)) (W : Waits sig (HIx 2)) (hO : ∀ g, O g none = 0) :
    iprop(levAts (K (F := F)).L (K (F := F)).lev ∗ emp
        ∗ part (tcLoc d main_v18) (tcLoc d main_v14) (tcLoc d main_v19) xSet oSet tb ix fo (i 0).val (i 1).val
        ∗ scopedBufs (V d (cV i) (jV i)) ∗ scopedSems0 (V d (cV i) (jV i)) ∗ owes (V d (cV i) (jV i)) O W)
      ⊢ (wp frame (wpE (defs₀ (F := F)) 𝒱₀ (V d (cV i) (jV i)) none) Set.univ
          (cc1_sc_gather i a2 (Memref.isWhole_whole _) a3 (Memref.isWhole_whole _) a4 (Memref.isWhole_whole _) a5 (Memref.isWhole_whole _)
            a6 (Memref.isWhole_whole _) a7 (Memref.isWhole_whole _) cc1_scratch3 cc1_scratch4 cc1_scratch5 cc1_scratch6 cc1_scratch7 cc1_scratch8)
          fun _ => iprop(part (tcLoc d main_v18) (tcLoc d main_v14) (tcLoc d main_v19) xSet oSet tb ix (rowsOf tb ix) (i 0).val (i 1).val
            ∗ scopedBufs (V d (cV i) (jV i)) ∗ scopedSems0 (V d (cV i) (jV i))
            ∗ ∃ W', ⌜∀ p ∈ W', p ∈ W ∨ p.2 = none⌝ ∗ owes (V d (cV i) (jV i)) O W') : sProp 𝕄) := by
  unfold part
  rw [Wrap.bigSep_four, Wrap.bigSep_four, Wrap.bigSep_four]
  have h := Wrap.task (F := F) d (cV i) (jV i) ![cc1_scratch3, cc1_scratch4, cc1_scratch5, cc1_scratch6, cc1_scratch7, cc1_scratch8]
    ![cc1_scratch0, cc1_scratch1, cc1_scratch2] (body d i) sems_scoped sems_inj (by decide +revert) (by decide)
    (bufs_split d _ _) (bufs_join d _ _) O W hO (ShareLeaves.leaf 5 fullShare (tid (i 0).val (i 1).val)) tb ix ix ix ix
    fo (rowsOf tb ix) fo (rowsOf tb ix) fo (rowsOf tb ix) fo (rowsOf tb ix)
    (fun _ => hix _) (fun _ => hix _) (fun _ => hix _) (fun _ => hix _)
    (out_of_read tb ix _ _ _ _ _ (off1_eq i) (off3_eq i 0) _) (out_of_read tb ix _ _ _ _ _ (off2_eq i 0) (off3_eq i 1) _)
    (out_of_read tb ix _ _ _ _ _ (off2_eq i 1) (off3_eq i 2) _) (out_of_read tb ix _ _ _ _ _ (off2_eq i 2) (off3_eq i 3) _)
  rw [set_tbl, set_head, show (ixTail i 256#32 (k1_off2_inb i 0)).view.set = _ from set_tail i 0, show (ixTail i 512#32 (k1_off2_inb i 1)).view.set = _ from set_tail i 1,
    show (ixTail i 768#32 (k1_off2_inb i 2)).view.set = _ from set_tail i 2, show (outV i 0#32 (k1_off3_inb i 0)).view.set = _ from set_out i 0,
    show (outV i 256#32 (k1_off3_inb i 1)).view.set = _ from set_out i 1, show (outV i 512#32 (k1_off3_inb i 2)).view.set = _ from set_out i 2,
    show (outV i 768#32 (k1_off3_inb i 3)).view.set = _ from set_out i 3] at h
  exact h

end Cert.Proof.Call1

end
-- ==== Proof.Launch.lean ====
/-
  The launch of the two gather calls: what each call's hand-over carries, that every tile meets its task, and that a
  call's arrays split into the tiles' parts and join from them.
-/
module

public import proofs.«01_k».proof.Proof.Call0
public import proofs.«01_k».proof.Proof.Call1

@[expose] public section

noncomputable section

namespace Cert.Proof.Launch

open Cert.KernelIdeal Cert.KernelIdeal.Gen Cert.Proof.Setup Cert.Proof.Tile Cert.Proof.Chunks Cert.Proof.Rows

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M2 F

/-- What the two calls find in their arrays: each call's table, its list, and what its output array held before. -/
structure Vals (F : FTy → Type) where
  tb0 : Dev nD → S2048x128.Idx → Elt F .f32
  ix0 : Dev nD → S32768.Idx → Elt F .i32
  fo0 : Dev nD → S32768x128.Idx → Elt F .f32
  tb1 : Dev nD → S2048x128.Idx → Elt F .f32
  ix1 : Dev nD → S32768.Idx → Elt F .i32
  fo1 : Dev nD → S32768x128.Idx → Elt F .f32

variable (v : Vals F)

/-- Tile `(c, i)`'s part of the first call's arrays, the output array at `fo`. -/
abbrev part0 (d : Dev nD) (fo : S32768x128.Idx → Elt F .f32) (c i : ℕ) : sProp 𝕄 :=
  part (tcLoc d main_v15) (tcLoc d main_v13) (tcLoc d main_v16) xSet oSet (v.tb0 d) (v.ix0 d) fo c i
/-- Tile `(c, i)`'s part of the second call's arrays. -/
abbrev part1 (d : Dev nD) (fo : S32768x128.Idx → Elt F .f32) (c i : ℕ) : sProp 𝕄 :=
  part (tcLoc d main_v18) (tcLoc d main_v14) (tcLoc d main_v19) xSet oSet (v.tb1 d) (v.ix1 d) fo c i

abbrev all0 (d : Dev nD) (fo : S32768x128.Idx → Elt F .f32) (c : ℕ) : sProp 𝕄 := bigSep Finset.univ fun i : Fin 16 => part0 v d fo c i.val
abbrev all1 (d : Dev nD) (fo : S32768x128.Idx → Elt F .f32) (c : ℕ) : sProp 𝕄 := bigSep Finset.univ fun i : Fin 16 => part1 v d fo c i.val

/-- A call hands each SparseCore its tiles' parts and gets them back with the output rows gathered. -/
def P : (K (F := F)).Pay (nD := nD) (Val := Elt F) (Name := ℕ) (U := UU) where
  st := fun q d c => match q with | 0 => all0 v d (v.fo0 d) c.val | 1 => all1 v d (v.fo1 d) c.val
  dn := fun q d c => match q with | 0 => all0 v d (rowsOf (v.tb0 d) (v.ix0 d)) c.val | 1 => all1 v d (rowsOf (v.tb1 d) (v.ix1 d)) c.val
  go := fun q d c i => match q with | 0 => part0 v d (v.fo0 d) c.val i.val | 1 => part1 v d (v.fo1 d) c.val i.val
  td := fun q d c i => match q with
    | 0 => part0 v d (rowsOf (v.tb0 d) (v.ix0 d)) c.val i.val
    | 1 => part1 v d (rowsOf (v.tb1 d) (v.ix1 d)) c.val i.val
  x := fun _ _ => iprop(emp)

instance P_storable : (P (F := F) v).IsStorable where
  st q d c := match q with
    | 0 => (inferInstance : BI.Storable (upEmb : UEmb _ 𝕄) (all0 v d (v.fo0 d) c.val))
    | 1 => (inferInstance : BI.Storable (upEmb : UEmb _ 𝕄) (all1 v d (v.fo1 d) c.val))
  dn q d c := match q with
    | 0 => (inferInstance : BI.Storable (upEmb : UEmb _ 𝕄) (all0 v d (rowsOf (v.tb0 d) (v.ix0 d)) c.val))
    | 1 => (inferInstance : BI.Storable (upEmb : UEmb _ 𝕄) (all1 v d (rowsOf (v.tb1 d) (v.ix1 d)) c.val))
  go q d c i := match q with
    | 0 => (inferInstance : BI.Storable (upEmb : UEmb _ 𝕄) (part0 v d (v.fo0 d) c.val i.val))
    | 1 => (inferInstance : BI.Storable (upEmb : UEmb _ 𝕄) (part1 v d (v.fo1 d) c.val i.val))
  td q d c i := match q with
    | 0 => (inferInstance : BI.Storable (upEmb : UEmb _ 𝕄) (part0 v d (rowsOf (v.tb0 d) (v.ix0 d)) c.val i.val))
    | 1 => (inferInstance : BI.Storable (upEmb : UEmb _ 𝕄) (part1 v d (rowsOf (v.tb1 d) (v.ix1 d)) c.val i.val))

/-- Every listed row number names a row of the table. -/
def InRange : Prop := (∀ d x, (v.ix0 d x).toNat < 2048) ∧ ∀ d x, (v.ix1 d x).toNat < 2048

/-! ## The tiles' tasks -/

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))

theorem defs₀_zero (c : Fin τ.nSC) (s : Fin τ.nSub) :
    defs₀ (F := F) (.scVector c s) 0 ()
      = SparseCore.onTile hcore0 hsub0 (fun c s => cc0_sc_gather (coords0 c s) Body0.a2 (Memref.isWhole_whole _) Body0.a3 (Memref.isWhole_whole _)
          Body0.a4 (Memref.isWhole_whole _) Body0.a5 (Memref.isWhole_whole _) Body0.a6 (Memref.isWhole_whole _) Body0.a7 (Memref.isWhole_whole _)
          cc0_scratch3 cc0_scratch4 cc0_scratch5 cc0_scratch6 cc0_scratch7 cc0_scratch8) ⟨⟩ c s := rfl
theorem defs₀_one (c : Fin τ.nSC) (s : Fin τ.nSub) :
    defs₀ (F := F) (.scVector c s) 1 ()
      = SparseCore.onTile hcore1 hsub1 (fun c s => cc1_sc_gather (coords1 c s) Body1.a2 (Memref.isWhole_whole _) Body1.a3 (Memref.isWhole_whole _)
          Body1.a4 (Memref.isWhole_whole _) Body1.a5 (Memref.isWhole_whole _) Body1.a6 (Memref.isWhole_whole _) Body1.a7 (Memref.isWhole_whole _)
          cc1_scratch3 cc1_scratch4 cc1_scratch5 cc1_scratch6 cc1_scratch7 cc1_scratch8) ⟨⟩ c s := rfl

set_option maxRecDepth 16384 in
theorem tileObl0 (hv : InRange v) : (K (F := F)).TileObl (D (F := F)) 𝒱 (P v) v₀ 0 := by
  intro d c i O W hO _ _
  simp only [show (P v).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_zero]; simp only [SparseCore.onTile, hci, and_self, ↓reduceDIte]
  exact (Call0.task d (coords0 ⟨_, hci.1⟩ ⟨_, hci.2⟩) (v.tb0 d) (v.ix0 d) (v.fo0 d) (hv.1 d) O W hO).trans (wp_mono frame _ _ fun _ => obl_post)

set_option maxRecDepth 16384 in
theorem tileObl1 (hv : InRange v) : (K (F := F)).TileObl (D (F := F)) 𝒱 (P v) v₀ 1 := by
  intro d c i O W hO _ _
  simp only [show (P v).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_one]; simp only [SparseCore.onTile, hci, and_self, ↓reduceDIte]
  exact (Call1.task d (coords1 ⟨_, hci.1⟩ ⟨_, hci.2⟩) (v.tb1 d) (v.ix1 d) (v.fo1 d) (hv.2 d) O W hO).trans (wp_mono frame _ _ fun _ => obl_post)

theorem tileObl (hv : InRange v) : ∀ q, (K (F := F)).TileObl (D (F := F)) 𝒱 (P v) v₀ q
  | 0 => tileObl0 v hv
  | 1 => tileObl1 v hv

/-! ## The arrays and the tiles' parts -/

theorem vecSplit : ∀ q, (K (F := F)).VecSplit' (P v) q
  | 0 => fun d c => by
    show all0 v d (v.fo0 d) c.val ⊢ |={Set.univ}=> iprop(all0 v d (v.fo0 d) c.val
      ∗ (all0 v d (rowsOf (v.tb0 d) (v.ix0 d)) c.val -∗ all0 v d (rowsOf (v.tb0 d) (v.ix0 d)) c.val))
    iintro H; imodintro
    isplitl [H]; · iexact H
    iintro H; iexact H
  | 1 => fun d c => by
    show all1 v d (v.fo1 d) c.val ⊢ |={Set.univ}=> iprop(all1 v d (v.fo1 d) c.val
      ∗ (all1 v d (rowsOf (v.tb1 d) (v.ix1 d)) c.val -∗ all1 v d (rowsOf (v.tb1 d) (v.ix1 d)) c.val))
    iintro H; imodintro
    isplitl [H]; · iexact H
    iintro H; iexact H

theorem st0_eq (d : Dev nD) : (bigSep Finset.univ fun c : Fin ((K (F := F)).nCore 0) => (P v).st 0 d c)
    = (iprop((tcLoc d main_v15 ↦{fullShare} v.tb0 d) ∗ (tcLoc d main_v13 ↦{fullShare} v.ix0 d) ∗ tcLoc d main_v16 ↦{fullShare} v.fo0 d) : sProp 𝕄) :=
  (whole_eq (tcLoc d main_v15) (tcLoc d main_v13) (tcLoc d main_v16) xSet oSet xSet_disjoint xSet_cover oSet_disjoint oSet_cover _ _ _).symm
theorem dn0_eq (d : Dev nD) : (bigSep Finset.univ fun c : Fin ((K (F := F)).nCore 0) => (P v).dn 0 d c)
    = (iprop((tcLoc d main_v15 ↦{fullShare} v.tb0 d) ∗ (tcLoc d main_v13 ↦{fullShare} v.ix0 d)
        ∗ tcLoc d main_v16 ↦{fullShare} rowsOf (v.tb0 d) (v.ix0 d)) : sProp 𝕄) :=
  (whole_eq (tcLoc d main_v15) (tcLoc d main_v13) (tcLoc d main_v16) xSet oSet xSet_disjoint xSet_cover oSet_disjoint oSet_cover _ _ _).symm
theorem st1_eq (d : Dev nD) : (bigSep Finset.univ fun c : Fin ((K (F := F)).nCore 1) => (P v).st 1 d c)
    = (iprop((tcLoc d main_v18 ↦{fullShare} v.tb1 d) ∗ (tcLoc d main_v14 ↦{fullShare} v.ix1 d) ∗ tcLoc d main_v19 ↦{fullShare} v.fo1 d) : sProp 𝕄) :=
  (whole_eq (tcLoc d main_v18) (tcLoc d main_v14) (tcLoc d main_v19) xSet oSet xSet_disjoint xSet_cover oSet_disjoint oSet_cover _ _ _).symm
theorem dn1_eq (d : Dev nD) : (bigSep Finset.univ fun c : Fin ((K (F := F)).nCore 1) => (P v).dn 1 d c)
    = (iprop((tcLoc d main_v18 ↦{fullShare} v.tb1 d) ∗ (tcLoc d main_v14 ↦{fullShare} v.ix1 d)
        ∗ tcLoc d main_v19 ↦{fullShare} rowsOf (v.tb1 d) (v.ix1 d)) : sProp 𝕄) :=
  (whole_eq (tcLoc d main_v18) (tcLoc d main_v14) (tcLoc d main_v19) xSet oSet xSet_disjoint xSet_cover oSet_disjoint oSet_cover _ _ _).symm

/-! ## The launch element of the ghost state -/

theorem bigSep_emp' {I : Type} (s : Finset I) : (bigSep s fun _ => iprop(emp)) = (iprop(emp) : sProp 𝕄) := bigSep_emp_const s

/-- The pipelines' part of the launch's ghost state, per device. -/
abbrev G (d : Dev nD) : sProp 𝕄 :=
  iprop((bigSep Finset.univ fun p : Fin 2 => Pipeline.cellsGhost (cfgs) (EP (F := F)) p d)
    ∗ bigSep Finset.univ fun p : Fin 2 => Pipeline.toksInit (cfgs) (EP (F := F)) p d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 2 => (P v).x q thr) := by
  unfold u₀
  iintro Hu
  ihave H := (ownU_pair (initOf (K (F := F)).hsCells (K (F := F)).hsToks)
    ((initOf (Pipeline.cells (nD := nD) (τ := τ) cfgs cellOf_inj) (Pipeline.launchToks (nD := nD) (τ := τ) cfgs cellOf_inj), 1) : UP × Counters)) $$ Hu
  icases H with ⟨HH, HR⟩
  ihave H := (own_pair_emb (embR : Emb (UP × Counters) 𝕄)
    (initOf (Pipeline.cells (nD := nD) (τ := τ) cfgs cellOf_inj) (Pipeline.launchToks (nD := nD) (τ := τ) cfgs cellOf_inj)) (1 : Counters)) $$ HR
  icases H with ⟨HP', -⟩
  ihave HP := (Entails.of_eq (show BI.own (((Emb.inl : Emb UP (UP × Counters)).trans (embR : Emb (UP × Counters) 𝕄))
      (initOf (Pipeline.cells (nD := nD) (τ := τ) cfgs cellOf_inj) (Pipeline.launchToks (nD := nD) (τ := τ) cfgs cellOf_inj)))
    = BI.own ((EP : Emb UP 𝕄) (initOf (Pipeline.cells (nD := nD) (τ := τ) cfgs cellOf_inj) (Pipeline.launchToks (nD := nD) (τ := τ) cfgs cellOf_inj))) from rfl)) $$ HP'
  imod (Pipeline.fund_ghost (nD := nD) (τ := τ) cfgs (EP (F := F)) cellOf_inj) $$ HP with ⟨Hg, Ht⟩
  imodintro
  isplitl [HH]; · iexact HH
  isplitl [Hg Ht]
  · simp only [G]
    rw [bigSep_sep']
    isplitl [Hg]; · iexact Hg
    iexact Ht
  rw [show (bigSep Finset.univ fun thr : Thread nD τ => bigSep Finset.univ fun q : Fin 2 => (P (F := F) v).x q thr) = bigSep Finset.univ fun _ => iprop(emp) from
    bigSep_congr fun _ _ => bigSep_emp' _, bigSep_emp']
  iempintro

end Cert.Proof.Launch

end
-- ==== Proof.Region2.lean ====
/-
  The attention stage of one half as a TensorCore call: the body's run, what it leaves in its output block, the
  pipeline's proof data from the contents the call finds, and the call as a step of the main program.
-/
module

public import proofs.«01_k».proof.Proof.Setup
public import Idealize.ShloMosaic.Lib.Pipeline.FrameBody
public import Idealize.ShloMosaic.Lib.Pipeline.RegionsLoop
public import proofs.«01_k».proof.Proof.Gen.KernelIdeal.Points
public import Idealize.ShloMosaic.Lib.Tactic

@[expose] public section

set_option maxRecDepth 16384

noncomputable section

namespace Cert.Proof.Region2

open Cert.KernelIdeal Cert.KernelIdeal.Gen Cert.Proof.Setup

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => M2 F

/-- The waits a TensorCore may have recorded when both gather calls are over. -/
abbrev Rw (c : Dev nD) : Set (SemLoc sig × HIx 2) := {p | (K (F := F)).lev ((SparseCore.T c : Thread nD τ), p.1) p.2 ≤ 16}

/-- Proof data for the pipeline a step does not run: anything. -/
def junkDat [∀ e, Nonempty (Elt F e)] {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- No pipeline has prefetched tables. -/
abbrev adm : (p : Fin 2) → (pcfgs (F := F) p).Adm := fun p => (cfgs p).toPCfg_adm

variable (V : (c : Dev nD) → (b : Ref sig .tc) → Buf (Elt F) ((c.tc : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not. -/

theorem before2_0_of {c : Dev nD} (dat : Dat τ (Elt F) (HIx 2) ℕ UU ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) (HIx 2) ℕ UU ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) (HIx 2) ℕ UU ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) (HIx 2) ℕ UU ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) (HIx 2) ℕ UU ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before2_5_of {c : Dev nD} (dat : Dat τ (Elt F) (HIx 2) ℕ UU ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before2_6_of {c : Dev nD} (dat : Dat τ (Elt F) (HIx 2) ℕ UU ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before2_7_of {c : Dev nD} (dat : Dat τ (Elt F) (HIx 2) ℕ UU ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before2_8_of {c : Dev nD} (dat : Dat τ (Elt F) (HIx 2) ℕ UU ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before2_9_of {c : Dev nD} (dat : Dat τ (Elt F) (HIx 2) ℕ UU ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before2_10_of {c : Dev nD} (dat : Dat τ (Elt F) (HIx 2) ℕ UU ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before2_11_of {c : Dev nD} (dat : Dat τ (Elt F) (HIx 2) ℕ UU ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before2_12_of {c : Dev nD} (dat : Dat τ (Elt F) (HIx 2) ℕ UU ℕ cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before2_13_of {c : Dev nD} (dat : Dat τ (Elt F) (HIx 2) ℕ UU ℕ cfg2 c) (hA : dat.A 13 = V c (Pipeline.arrRef spec2 13))
    (hafter : ∀ t, dat.after 13 t = iblk V c 13 t) (t : Fin cfg2.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before2_14_of {c : Dev nD} (dat : Dat τ (Elt F) (HIx 2) ℕ UU ℕ cfg2 c) (hA : dat.A 14 = V c (Pipeline.arrRef spec2 14))
    (hafter : ∀ t, dat.after 14 t = iblk V c 14 t) (t : Fin cfg2.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before2_15_of {c : Dev nD} (dat : Dat τ (Elt F) (HIx 2) ℕ UU ℕ cfg2 c) (hA : dat.A 15 = V c (Pipeline.arrRef spec2 15))
    (hafter : ∀ t, dat.after 15 t = iblk V c 15 t) (t : Fin cfg2.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r2_0 : Rect S16x256x128 := Rect.unit (s := S16x256x128) ![0, 0, 0] S16x256x128.size inb_S16x256x128_S16x256x128_0_0_0
abbrev r2_1 : Rect S64x256 := Rect.unit (s := S64x256) ![0, 0] S64x256.size inb_S64x256_S64x256_0_0
abbrev r2_2 : Rect S1x256 := Rect.unit (s := S1x256) ![0, 0] S1x256.size inb_S1x256_S1x256_0_0
abbrev r2_3 : Rect S1x256x128 := Rect.unit (s := S1x256x128) ![0, 0, 0] S1x256x128.size inb_S1x256x128_S1x256x128_0_0_0
abbrev r2_4 : Rect S3x256 := Rect.unit (s := S3x256) ![0, 0] S3x256.size inb_S3x256_S3x256_0_0
abbrev r2_5 : Rect S256x256 := Rect.unit (s := S256x256) ![0, 0] S256x256.size inb_S256x256_S256x256_0_0
abbrev r2_6 : Rect S1x256x256 := Rect.unit (s := S1x256x256) ![0, 0, 0] S1x256x256.size inb_S1x256x256_S1x256x256_0_0_0
abbrev r2_7 : Rect S256x64 := Rect.unit (s := S256x64) ![0, 0] S256x64.size inb_S256x64_S256x64_0_0
abbrev r2_8 : Rect S1x64 := Rect.unit (s := S1x64) ![0, 0] S1x64.size inb_S1x64_S1x64_0_0
abbrev r2_9 : Rect S1x256x64 := Rect.unit (s := S1x256x64) ![0, 0, 0] S1x256x64.size inb_S1x256x64_S1x256x64_0_0_0

/-! ## What the body leaves in each output window's buffer -/

/-- The output window's staging buffer after the body, from the input windows' blocks: its one store. -/
def out2_16 (x0 : Vec F S16x256x128 .f32) (x1 : Vec F S1x256x256 .f32) (x2 : Vec F S1x256x128 .f32) (x3 : Vec F S64x256 .f32) (x4 : Vec F S1x256 .f32) (x5 : Vec F S64x256 .f32) (x6 : Vec F S1x256 .f32) (x7 : Vec F S3x256 .f32) (x8 : Vec F S1x256 .f32) (x9 : Vec F S256x256 .f32) (x10 : Vec F S1x256 .f32) (x11 : Vec F S256x256 .f32) (x12 : Vec F S256x256 .f32) (x13 : Vec F S1x256 .f32) (x14 : Vec F S256x64 .f32) (x15 : Vec F S1x64 .f32) : Vec F S1x256x64 .f32 :=
  View.canon [⟨r2_9, k2_pay1 (k2_pay6 (View.ld x2 r2_3)) (k2_pay9 (k2_pay4 (View.ld x0 r2_0) (View.ld x3 r2_1)) (k2_pay5 (View.ld x0 r2_0) (View.ld x5 r2_1) (View.ld x6 r2_2)) (k2_pay7 (View.ld x0 r2_0) (View.ld x2 r2_3) (View.ld x7 r2_4) (View.ld x8 r2_2)) (k2_pay8 (View.ld x0 r2_0) (View.ld x2 r2_3) (View.ld x7 r2_4) (View.ld x8 r2_2) (View.ld x9 r2_5)) (View.ld x10 r2_2) (View.ld x11 r2_5) (View.ld x1 r2_6) (View.ld x4 r2_2) (View.ld x12 r2_5) (View.ld x13 r2_2)) (View.ld x14 r2_7) (View.ld x15 r2_8)⟩]

theorem cover2_16 (p0 : Vec F S1x256x64 .f32) (y : S1x256x64.Idx) :
    ∃ pc ∈ ([⟨r2_9, p0⟩] : List (View.Piece (Elt F) S1x256x64 .f32)), y ∈ pc.1.set :=
  View.cover_of_tiled [⟨r2_9, p0⟩] S1x256x64.size (by rfl) y

/-! ## The body's triple -/

set_option maxHeartbeats 1000000 in
/-- The body on whole staging buffers runs, leaves the inputs as they were and the output at `out2_16` of them. -/
theorem sound_kernel (c : Dev nD) (E : Set ℕ) (i : grid2.Coords) (arg2 : Memref sig .tc .vmem S16x256x128 .f32) (harg2 : arg2.IsWhole) (arg3 : Memref sig .tc .vmem S1x256x256 .f32) (harg3 : arg3.IsWhole) (arg4 : Memref sig .tc .vmem S1x256x128 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x64 .f32) (harg16 : arg16.IsWhole) (arg17 : Memref sig .tc .vmem S1x64 .f32) (harg17 : arg17.IsWhole) (arg18 : Memref sig .tc .vmem S1x256x64 .f32) (harg18 : arg18.IsWhole)
    (x0 : Vec F S16x256x128 .f32) (x1 : Vec F S1x256x256 .f32) (x2 : Vec F S1x256x128 .f32) (x3 : Vec F S64x256 .f32) (x4 : Vec F S1x256 .f32) (x5 : Vec F S64x256 .f32) (x6 : Vec F S1x256 .f32) (x7 : Vec F S3x256 .f32) (x8 : Vec F S1x256 .f32) (x9 : Vec F S256x256 .f32) (x10 : Vec F S1x256 .f32) (x11 : Vec F S256x256 .f32) (x12 : Vec F S256x256 .f32) (x13 : Vec F S1x256 .f32) (x14 : Vec F S256x64 .f32) (x15 : Vec F S1x64 .f32) (K : PUnit → sProp 𝕄) :
    iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ owns (c.tc : Thread nD τ) arg11 fullShare x9 ∗ owns (c.tc : Thread nD τ) arg12 fullShare x10 ∗ owns (c.tc : Thread nD τ) arg13 fullShare x11 ∗ owns (c.tc : Thread nD τ) arg14 fullShare x12 ∗ owns (c.tc : Thread nD τ) arg15 fullShare x13 ∗ owns (c.tc : Thread nD τ) arg16 fullShare x14 ∗ owns (c.tc : Thread nD τ) arg17 fullShare x15 ∗ (∃ d, owns (c.tc : Thread nD τ) arg18 fullShare d)
        ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ owns (c.tc : Thread nD τ) arg11 fullShare x9 ∗ owns (c.tc : Thread nD τ) arg12 fullShare x10 ∗ owns (c.tc : Thread nD τ) arg13 fullShare x11 ∗ owns (c.tc : Thread nD τ) arg14 fullShare x12 ∗ owns (c.tc : Thread nD τ) arg15 fullShare x13 ∗ owns (c.tc : Thread nD τ) arg16 fullShare x14 ∗ owns (c.tc : Thread nD τ) arg17 fullShare x15 ∗ owns (c.tc : Thread nD τ) arg18 fullShare (out2_16 x0 x1 x2 x3 x4 x5 x6 x7 x8 x9 x10 x11 x12 x13 x14 x15)) -∗ K ⟨⟩))
      ⊢ wp frame (wpE (defs₀ (F := F)) Variants.none (c.tc : Thread nD τ) none) E (cc2__stage_c_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc2__stage_c_body_eq_skeleton]; unfold cc2__stage_c_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover2_16 _)

/-! ## The pipeline's proof data -/

/-- The pipeline's proof data on core `c`. -/
def dats (c : Dev nD) : Dat τ (Elt F) (HIx 2) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => out2_16 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t)
    | ⟨_ + 17, h⟩ => absurd h (Nat.not_lt.2 (Nat.le_add_left _ _))
  Φ _ := Pipeline.scopedRest (Ix := HIx 2) (Name := ℕ) (U := UU) (Lvl := ℕ) (Val := Elt F) spec2 c
  q _ := fullShare
  owed _ := 0
  recorded _ := Rw (F := F) c

theorem A_eq (c : Dev nD) (w : Fin cfg2.W) : (dats V c).A w = V c (Pipeline.arrRef spec2 w) := by
  dsimp only [dats]

theorem after2_0 (c : Dev nD) (t : Fin cfg2.N) : (dats V c).after 0 t = iblk V c 0 t := by dsimp only [dats]
theorem after2_1 (c : Dev nD) (t : Fin cfg2.N) : (dats V c).after 1 t = iblk V c 1 t := by dsimp only [dats]
theorem after2_2 (c : Dev nD) (t : Fin cfg2.N) : (dats V c).after 2 t = iblk V c 2 t := by dsimp only [dats]
theorem after2_3 (c : Dev nD) (t : Fin cfg2.N) : (dats V c).after 3 t = iblk V c 3 t := by dsimp only [dats]
theorem after2_4 (c : Dev nD) (t : Fin cfg2.N) : (dats V c).after 4 t = iblk V c 4 t := by dsimp only [dats]
theorem after2_5 (c : Dev nD) (t : Fin cfg2.N) : (dats V c).after 5 t = iblk V c 5 t := by dsimp only [dats]
theorem after2_6 (c : Dev nD) (t : Fin cfg2.N) : (dats V c).after 6 t = iblk V c 6 t := by dsimp only [dats]
theorem after2_7 (c : Dev nD) (t : Fin cfg2.N) : (dats V c).after 7 t = iblk V c 7 t := by dsimp only [dats]
theorem after2_8 (c : Dev nD) (t : Fin cfg2.N) : (dats V c).after 8 t = iblk V c 8 t := by dsimp only [dats]
theorem after2_9 (c : Dev nD) (t : Fin cfg2.N) : (dats V c).after 9 t = iblk V c 9 t := by dsimp only [dats]
theorem after2_10 (c : Dev nD) (t : Fin cfg2.N) : (dats V c).after 10 t = iblk V c 10 t := by dsimp only [dats]
theorem after2_11 (c : Dev nD) (t : Fin cfg2.N) : (dats V c).after 11 t = iblk V c 11 t := by dsimp only [dats]
theorem after2_12 (c : Dev nD) (t : Fin cfg2.N) : (dats V c).after 12 t = iblk V c 12 t := by dsimp only [dats]
theorem after2_13 (c : Dev nD) (t : Fin cfg2.N) : (dats V c).after 13 t = iblk V c 13 t := by dsimp only [dats]
theorem after2_14 (c : Dev nD) (t : Fin cfg2.N) : (dats V c).after 14 t = iblk V c 14 t := by dsimp only [dats]
theorem after2_15 (c : Dev nD) (t : Fin cfg2.N) : (dats V c).after 15 t = iblk V c 15 t := by dsimp only [dats]
theorem after2_16 (c : Dev nD) (t : Fin cfg2.N) : (dats V c).after 16 t = out2_16 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) := by dsimp only [dats]

theorem before2_0 (c : Dev nD) (t : Fin cfg2.N) (d) : (dats V c).before 0 t d = iblk V c 0 t :=
  before2_0_of V (dats V c) (A_eq V c 0) (after2_0 V c) t d
theorem before2_1 (c : Dev nD) (t : Fin cfg2.N) (d) : (dats V c).before 1 t d = iblk V c 1 t :=
  before2_1_of V (dats V c) (A_eq V c 1) (after2_1 V c) t d
theorem before2_2 (c : Dev nD) (t : Fin cfg2.N) (d) : (dats V c).before 2 t d = iblk V c 2 t :=
  before2_2_of V (dats V c) (A_eq V c 2) (after2_2 V c) t d
theorem before2_3 (c : Dev nD) (t : Fin cfg2.N) (d) : (dats V c).before 3 t d = iblk V c 3 t :=
  before2_3_of V (dats V c) (A_eq V c 3) (after2_3 V c) t d
theorem before2_4 (c : Dev nD) (t : Fin cfg2.N) (d) : (dats V c).before 4 t d = iblk V c 4 t :=
  before2_4_of V (dats V c) (A_eq V c 4) (after2_4 V c) t d
theorem before2_5 (c : Dev nD) (t : Fin cfg2.N) (d) : (dats V c).before 5 t d = iblk V c 5 t :=
  before2_5_of V (dats V c) (A_eq V c 5) (after2_5 V c) t d
theorem before2_6 (c : Dev nD) (t : Fin cfg2.N) (d) : (dats V c).before 6 t d = iblk V c 6 t :=
  before2_6_of V (dats V c) (A_eq V c 6) (after2_6 V c) t d
theorem before2_7 (c : Dev nD) (t : Fin cfg2.N) (d) : (dats V c).before 7 t d = iblk V c 7 t :=
  before2_7_of V (dats V c) (A_eq V c 7) (after2_7 V c) t d
theorem before2_8 (c : Dev nD) (t : Fin cfg2.N) (d) : (dats V c).before 8 t d = iblk V c 8 t :=
  before2_8_of V (dats V c) (A_eq V c 8) (after2_8 V c) t d
theorem before2_9 (c : Dev nD) (t : Fin cfg2.N) (d) : (dats V c).before 9 t d = iblk V c 9 t :=
  before2_9_of V (dats V c) (A_eq V c 9) (after2_9 V c) t d
theorem before2_10 (c : Dev nD) (t : Fin cfg2.N) (d) : (dats V c).before 10 t d = iblk V c 10 t :=
  before2_10_of V (dats V c) (A_eq V c 10) (after2_10 V c) t d
theorem before2_11 (c : Dev nD) (t : Fin cfg2.N) (d) : (dats V c).before 11 t d = iblk V c 11 t :=
  before2_11_of V (dats V c) (A_eq V c 11) (after2_11 V c) t d
theorem before2_12 (c : Dev nD) (t : Fin cfg2.N) (d) : (dats V c).before 12 t d = iblk V c 12 t :=
  before2_12_of V (dats V c) (A_eq V c 12) (after2_12 V c) t d
theorem before2_13 (c : Dev nD) (t : Fin cfg2.N) (d) : (dats V c).before 13 t d = iblk V c 13 t :=
  before2_13_of V (dats V c) (A_eq V c 13) (after2_13 V c) t d
theorem before2_14 (c : Dev nD) (t : Fin cfg2.N) (d) : (dats V c).before 14 t d = iblk V c 14 t :=
  before2_14_of V (dats V c) (A_eq V c 14) (after2_14 V c) t d
theorem before2_15 (c : Dev nD) (t : Fin cfg2.N) (d) : (dats V c).before 15 t d = iblk V c 15 t :=
  before2_15_of V (dats V c) (A_eq V c 15) (after2_15 V c) t d

/-! ## The body obligation, at a generic point -/

/-- What the body is called with at point `t`. -/
def bodyPre (c : Dev nD) (t : Fin cfg2.N) : sProp 𝕄 :=
  iprop((dats V c).Φ t.castSucc ∗ (dats V c).owesAt none t.castSucc
    ∗ (∃ d, owns (c.tc : Thread nD τ) (st2_0 t) fullShare ((dats V c).before 0 t d))
    ∗ (∃ d, owns (c.tc : Thread nD τ) (st2_1 t) fullShare ((dats V c).before 1 t d))
    ∗ (∃ d, owns (c.tc : Thread nD τ) (st2_2 t) fullShare ((dats V c).before 2 t d))
    ∗ (∃ d, owns (c.tc : Thread nD τ) (st2_3 t) fullShare ((dats V c).before 3 t d))
    ∗ (∃ d, owns (c.tc : Thread nD τ) (st2_4 t) fullShare ((dats V c).before 4 t d))
    ∗ (∃ d, owns (c.tc : Thread nD τ) (st2_5 t) fullShare ((dats V c).before 5 t d))
    ∗ (∃ d, owns (c.tc : Thread nD τ) (st2_6 t) fullShare ((dats V c).before 6 t d))
    ∗ (∃ d, owns (c.tc : Thread nD τ) (st2_7 t) fullShare ((dats V c).before 7 t d))
    ∗ (∃ d, owns (c.tc : Thread nD τ) (st2_8 t) fullShare ((dats V c).before 8 t d))
    ∗ (∃ d, owns (c.tc : Thread nD τ) (st2_9 t) fullShare ((dats V c).before 9 t d))
    ∗ (∃ d, owns (c.tc : Thread nD τ) (st2_10 t) fullShare ((dats V c).before 10 t d))
    ∗ (∃ d, owns (c.tc : Thread nD τ) (st2_11 t) fullShare ((dats V c).before 11 t d))
    ∗ (∃ d, owns (c.tc : Thread nD τ) (st2_12 t) fullShare ((dats V c).before 12 t d))
    ∗ (∃ d, owns (c.tc : Thread nD τ) (st2_13 t) fullShare ((dats V c).before 13 t d))
    ∗ (∃ d, owns (c.tc : Thread nD τ) (st2_14 t) fullShare ((dats V c).before 14 t d))
    ∗ (∃ d, owns (c.tc : Thread nD τ) (st2_15 t) fullShare ((dats V c).before 15 t d))
    ∗ (∃ d, owns (c.tc : Thread nD τ) (st2_16 t) fullShare ((dats V c).before 16 t d)))

/-- and what it returns. -/
def bodyPost (c : Dev nD) (t : Fin cfg2.N) : sProp 𝕄 :=
  iprop((dats V c).Φ t.succ ∗ (dats V c).owesAt none t.succ
    ∗ owns (c.tc : Thread nD τ) (st2_0 t) fullShare ((dats V c).after 0 t)
    ∗ owns (c.tc : Thread nD τ) (st2_1 t) fullShare ((dats V c).after 1 t)
    ∗ owns (c.tc : Thread nD τ) (st2_2 t) fullShare ((dats V c).after 2 t)
    ∗ owns (c.tc : Thread nD τ) (st2_3 t) fullShare ((dats V c).after 3 t)
    ∗ owns (c.tc : Thread nD τ) (st2_4 t) fullShare ((dats V c).after 4 t)
    ∗ owns (c.tc : Thread nD τ) (st2_5 t) fullShare ((dats V c).after 5 t)
    ∗ owns (c.tc : Thread nD τ) (st2_6 t) fullShare ((dats V c).after 6 t)
    ∗ owns (c.tc : Thread nD τ) (st2_7 t) fullShare ((dats V c).after 7 t)
    ∗ owns (c.tc : Thread nD τ) (st2_8 t) fullShare ((dats V c).after 8 t)
    ∗ owns (c.tc : Thread nD τ) (st2_9 t) fullShare ((dats V c).after 9 t)
    ∗ owns (c.tc : Thread nD τ) (st2_10 t) fullShare ((dats V c).after 10 t)
    ∗ owns (c.tc : Thread nD τ) (st2_11 t) fullShare ((dats V c).after 11 t)
    ∗ owns (c.tc : Thread nD τ) (st2_12 t) fullShare ((dats V c).after 12 t)
    ∗ owns (c.tc : Thread nD τ) (st2_13 t) fullShare ((dats V c).after 13 t)
    ∗ owns (c.tc : Thread nD τ) (st2_14 t) fullShare ((dats V c).after 14 t)
    ∗ owns (c.tc : Thread nD τ) (st2_15 t) fullShare ((dats V c).after 15 t)
    ∗ owns (c.tc : Thread nD τ) (st2_16 t) fullShare ((dats V c).after 16 t))

theorem sound_body (c : Dev nD) (t : Fin cfg2.N) :
    bodyPre V c t ⊢ wp frame (wpE (defs₀ (F := F)) Variants.none (c.tc : Thread nD τ) none) Set.univ (bodyAt2 t) (fun _ => bodyPost V c t) := by
  unfold bodyPre bodyPost bodyAt2
  simp only [before2_0, before2_1, before2_2, before2_3, before2_4, before2_5, before2_6, before2_7, before2_8, before2_9, before2_10, before2_11, before2_12, before2_13, before2_14, before2_15]
  rw [show (dats V c).Φ t.succ = (dats V c).Φ t.castSucc from rfl,
    show (dats V c).owesAt none t.succ = (dats V c).owesAt none t.castSucc from rfl,
    after2_0, after2_1, after2_2, after2_3, after2_4, after2_5, after2_6, after2_7, after2_8, after2_9, after2_10, after2_11, after2_12, after2_13, after2_14, after2_15, after2_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid2.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg2.N) :
    defs₀ (F := F) .tc cfg2.body (cfg2.bodyArgs t (cfg2.slots t)) = bodyAt2 t := rfl

theorem body_obligation (c : Dev nD) : BodyObligation (dats (F := F) V c) (defs₀ (F := F)) Variants.none none Set.univ := fun t => by
  rw [bigSep_W2, bigSep_W2, defs₀_row]
  exact triple_restated (sound_body V c t) rfl .rfl fun _ => .rfl

/-! ## The call as a step of the main program -/

/-- The result array after the call. -/
def result (c : Dev nD) : Buf (Elt F) ((c.tc : Thread nD τ).loc main_v33) := (dats V c).arrAt 16 cfg2.N

variable [∀ e, Nonempty (Elt F e)]

/-- The family of proof data: this call's, and anything for the other. -/
def pdats : (p : Fin 2) → (c : Dev nD) → Dat τ (Elt F) (HIx 2) ℕ UU ℕ (Pipeline.pin (pcfgs (F := F)) adm p) c
  | ⟨0, _⟩ => fun c => dats V c
  | ⟨1, _⟩ => fun c => junkDat c

variable (Vp : (c : Dev nD) → (b : Ref sig .tc) → Buf (Elt F) ((c.tc : Thread nD τ).loc b))

/-- What the TensorCore owes: nothing, its waits bounded. -/
abbrev owe (c : Dev nD) : sProp 𝕄 := iprop(∃ W : Waits sig (HIx 2), ⌜∀ p ∈ W, p ∈ Rw (F := F) c⌝ ∗ owes (c.tc : Thread nD τ) (0 : CellTallies nD τ sig (HIx 2)) W)

theorem arr_ne : ∀ w : Fin 17, w ≠ 16 → Pipeline.arrRef spec2 w ≠ main_v33 := by decide
theorem out_ne : ∀ w : Fin 17, w ≠ 16 → (spec2 w).isOut = false := by decide

/-- Every window's array at the end: an input as it was, the output at the result. -/
theorem arrs (hVp_out : ∀ c, Vp c main_v33 = result V c) (hVp_ne : ∀ c (b : Ref sig .tc), b ≠ main_v33 → Vp c b = V c b) (c : Dev nD) (w : Fin 17) :
    (dats V c).arrAt w cfg2.N = Vp c (Pipeline.arrRef spec2 w) := by
  by_cases h : w = 16
  · subst h; exact (hVp_out c).symm
  · rw [(dats V c).arrAt_in w (out_ne w h), hVp_ne c _ (arr_ne w h)]; rfl

set_option maxHeartbeats 1000000 in
set_option backward.isDefEq.respectTransparency.types false in
/-- From every array at `V` the call leaves every array at `V` but the result, which is at `result V`. -/
def reg (hVp_out : ∀ c, Vp c main_v33 = result V c)
    (hVp_ne : ∀ c (b : Ref sig .tc), b ≠ main_v33 → Vp c b = V c b) :
    Pipeline.RegionSeg (pcfgs (F := F)) adm (pdats V) none defs₀ 𝒱₀ (K (F := F)).L (K (F := F)).lev 0 where
  win := (launch2).win.to₀
  block_pos := (launch2).block_pos
  stage_whole := (launch2).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owe c)
  post c := iprop(unscopedBufs c (Vp c) ∗ owe c)
  X _ := BI.emp
  Y _ := BI.emp
  Z c := iprop(Pipeline.unscopedRest (Ix := HIx 2) (Name := ℕ) (U := UU) (Lvl := ℕ) spec2 c (V c))
  hentry c := by
    rw [Pipeline.ownSems0_none]
    have hsplit := Pipeline.arrays_of_unscopedBufs (p := 0) (pcfgs (F := F)) adm (pdats V) (launch2).win (launch2).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 2) (Name := ℕ) (U := UU) (Lvl := ℕ) (Val := Elt F) spec2 c from rfl]
    iintro ⟨-, -, Hr⟩; iexact Hr
  hout c := by
    rw [Pipeline.ownSems0_none, show (pdats V 0 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) (launch2).win (launch2).arr_whole c
      (pdats V) ((pdats V 0 c).share_full fun _ => rfl) (V c) (Vp c) ((pdats V 0 c).arrAt · cfg2.N)
      (arrs V Vp hVp_out hVp_ne c)
      (fun b hb => hVp_ne c b fun h => hb (h ▸ Finset.mem_image.mpr ⟨16, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Region2

end
-- ==== Proof.Region3.lean ====
/-
  The attention stage of one half as a TensorCore call: the body's run, what it leaves in its output block, the
  pipeline's proof data from the contents the call finds, and the call as a step of the main program.
-/
module

public import proofs.«01_k».proof.Proof.Region2
public import Idealize.ShloMosaic.Lib.Pipeline.FrameBody
public import Idealize.ShloMosaic.Lib.Pipeline.RegionsLoop
public import proofs.«01_k».proof.Proof.Gen.KernelIdeal.Points
public import Idealize.ShloMosaic.Lib.Tactic

@[expose] public section

set_option maxRecDepth 16384

noncomputable section

namespace Cert.Proof.Region3

open Cert.KernelIdeal Cert.KernelIdeal.Gen Cert.Proof.Setup
open Cert.Proof.Region2 (Rw junkDat adm)

open Idealize.ShloMosaic Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => M2 F

variable (V : (c : Dev nD) → (b : Ref sig .tc) → Buf (Elt F) ((c.tc : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point, fetched there or not. -/

theorem before3_0_of {c : Dev nD} (dat : Dat τ (Elt F) (HIx 2) ℕ UU ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) (HIx 2) ℕ UU ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) (HIx 2) ℕ UU ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) (HIx 2) ℕ UU ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) (HIx 2) ℕ UU ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before3_5_of {c : Dev nD} (dat : Dat τ (Elt F) (HIx 2) ℕ UU ℕ cfg3 c) (hA : dat.A 5 = V c (Pipeline.arrRef spec3 5))
    (hafter : ∀ t, dat.after 5 t = iblk V c 5 t) (t : Fin cfg3.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before3_6_of {c : Dev nD} (dat : Dat τ (Elt F) (HIx 2) ℕ UU ℕ cfg3 c) (hA : dat.A 6 = V c (Pipeline.arrRef spec3 6))
    (hafter : ∀ t, dat.after 6 t = iblk V c 6 t) (t : Fin cfg3.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before3_7_of {c : Dev nD} (dat : Dat τ (Elt F) (HIx 2) ℕ UU ℕ cfg3 c) (hA : dat.A 7 = V c (Pipeline.arrRef spec3 7))
    (hafter : ∀ t, dat.after 7 t = iblk V c 7 t) (t : Fin cfg3.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before3_8_of {c : Dev nD} (dat : Dat τ (Elt F) (HIx 2) ℕ UU ℕ cfg3 c) (hA : dat.A 8 = V c (Pipeline.arrRef spec3 8))
    (hafter : ∀ t, dat.after 8 t = iblk V c 8 t) (t : Fin cfg3.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before3_9_of {c : Dev nD} (dat : Dat τ (Elt F) (HIx 2) ℕ UU ℕ cfg3 c) (hA : dat.A 9 = V c (Pipeline.arrRef spec3 9))
    (hafter : ∀ t, dat.after 9 t = iblk V c 9 t) (t : Fin cfg3.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before3_10_of {c : Dev nD} (dat : Dat τ (Elt F) (HIx 2) ℕ UU ℕ cfg3 c) (hA : dat.A 10 = V c (Pipeline.arrRef spec3 10))
    (hafter : ∀ t, dat.after 10 t = iblk V c 10 t) (t : Fin cfg3.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before3_11_of {c : Dev nD} (dat : Dat τ (Elt F) (HIx 2) ℕ UU ℕ cfg3 c) (hA : dat.A 11 = V c (Pipeline.arrRef spec3 11))
    (hafter : ∀ t, dat.after 11 t = iblk V c 11 t) (t : Fin cfg3.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before3_12_of {c : Dev nD} (dat : Dat τ (Elt F) (HIx 2) ℕ UU ℕ cfg3 c) (hA : dat.A 12 = V c (Pipeline.arrRef spec3 12))
    (hafter : ∀ t, dat.after 12 t = iblk V c 12 t) (t : Fin cfg3.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before3_13_of {c : Dev nD} (dat : Dat τ (Elt F) (HIx 2) ℕ UU ℕ cfg3 c) (hA : dat.A 13 = V c (Pipeline.arrRef spec3 13))
    (hafter : ∀ t, dat.after 13 t = iblk V c 13 t) (t : Fin cfg3.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before3_14_of {c : Dev nD} (dat : Dat τ (Elt F) (HIx 2) ℕ UU ℕ cfg3 c) (hA : dat.A 14 = V c (Pipeline.arrRef spec3 14))
    (hafter : ∀ t, dat.after 14 t = iblk V c 14 t) (t : Fin cfg3.N) (d) : dat.before 14 t d = iblk V c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before3_15_of {c : Dev nD} (dat : Dat τ (Elt F) (HIx 2) ℕ UU ℕ cfg3 c) (hA : dat.A 15 = V c (Pipeline.arrRef spec3 15))
    (hafter : ∀ t, dat.after 15 t = iblk V c 15 t) (t : Fin cfg3.N) (d) : dat.before 15 t d = iblk V c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r3_0 : Rect S16x256x128 := Rect.unit (s := S16x256x128) ![0, 0, 0] S16x256x128.size inb_S16x256x128_S16x256x128_0_0_0
abbrev r3_1 : Rect S64x256 := Rect.unit (s := S64x256) ![0, 0] S64x256.size inb_S64x256_S64x256_0_0
abbrev r3_2 : Rect S1x256 := Rect.unit (s := S1x256) ![0, 0] S1x256.size inb_S1x256_S1x256_0_0
abbrev r3_3 : Rect S1x256x128 := Rect.unit (s := S1x256x128) ![0, 0, 0] S1x256x128.size inb_S1x256x128_S1x256x128_0_0_0
abbrev r3_4 : Rect S3x256 := Rect.unit (s := S3x256) ![0, 0] S3x256.size inb_S3x256_S3x256_0_0
abbrev r3_5 : Rect S256x256 := Rect.unit (s := S256x256) ![0, 0] S256x256.size inb_S256x256_S256x256_0_0
abbrev r3_6 : Rect S1x256x256 := Rect.unit (s := S1x256x256) ![0, 0, 0] S1x256x256.size inb_S1x256x256_S1x256x256_0_0_0
abbrev r3_7 : Rect S256x64 := Rect.unit (s := S256x64) ![0, 0] S256x64.size inb_S256x64_S256x64_0_0
abbrev r3_8 : Rect S1x64 := Rect.unit (s := S1x64) ![0, 0] S1x64.size inb_S1x64_S1x64_0_0
abbrev r3_9 : Rect S1x256x64 := Rect.unit (s := S1x256x64) ![0, 0, 0] S1x256x64.size inb_S1x256x64_S1x256x64_0_0_0

/-! ## What the body leaves in each output window's buffer -/

/-- The output window's staging buffer after the body, from the input windows' blocks: its one store. -/
def out3_16 (x0 : Vec F S16x256x128 .f32) (x1 : Vec F S1x256x256 .f32) (x2 : Vec F S1x256x128 .f32) (x3 : Vec F S64x256 .f32) (x4 : Vec F S1x256 .f32) (x5 : Vec F S64x256 .f32) (x6 : Vec F S1x256 .f32) (x7 : Vec F S3x256 .f32) (x8 : Vec F S1x256 .f32) (x9 : Vec F S256x256 .f32) (x10 : Vec F S1x256 .f32) (x11 : Vec F S256x256 .f32) (x12 : Vec F S256x256 .f32) (x13 : Vec F S1x256 .f32) (x14 : Vec F S256x64 .f32) (x15 : Vec F S1x64 .f32) : Vec F S1x256x64 .f32 :=
  View.canon [⟨r3_9, k3_pay1 (k3_pay6 (View.ld x2 r3_3)) (k3_pay9 (k3_pay4 (View.ld x0 r3_0) (View.ld x3 r3_1)) (k3_pay5 (View.ld x0 r3_0) (View.ld x5 r3_1) (View.ld x6 r3_2)) (k3_pay7 (View.ld x0 r3_0) (View.ld x2 r3_3) (View.ld x7 r3_4) (View.ld x8 r3_2)) (k3_pay8 (View.ld x0 r3_0) (View.ld x2 r3_3) (View.ld x7 r3_4) (View.ld x8 r3_2) (View.ld x9 r3_5)) (View.ld x10 r3_2) (View.ld x11 r3_5) (View.ld x1 r3_6) (View.ld x4 r3_2) (View.ld x12 r3_5) (View.ld x13 r3_2)) (View.ld x14 r3_7) (View.ld x15 r3_8)⟩]

theorem cover3_16 (p0 : Vec F S1x256x64 .f32) (y : S1x256x64.Idx) :
    ∃ pc ∈ ([⟨r3_9, p0⟩] : List (View.Piece (Elt F) S1x256x64 .f32)), y ∈ pc.1.set :=
  View.cover_of_tiled [⟨r3_9, p0⟩] S1x256x64.size (by rfl) y

/-! ## The body's triple -/

set_option maxHeartbeats 1000000 in
/-- The body on whole staging buffers runs, leaves the inputs as they were and the output at `out3_16` of them. -/
theorem sound_kernel (c : Dev nD) (E : Set ℕ) (i : grid3.Coords) (arg2 : Memref sig .tc .vmem S16x256x128 .f32) (harg2 : arg2.IsWhole) (arg3 : Memref sig .tc .vmem S1x256x256 .f32) (harg3 : arg3.IsWhole) (arg4 : Memref sig .tc .vmem S1x256x128 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S1x256 .f32) (harg8 : arg8.IsWhole) (arg9 : Memref sig .tc .vmem S3x256 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x256 .f32) (harg12 : arg12.IsWhole) (arg13 : Memref sig .tc .vmem S256x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x64 .f32) (harg16 : arg16.IsWhole) (arg17 : Memref sig .tc .vmem S1x64 .f32) (harg17 : arg17.IsWhole) (arg18 : Memref sig .tc .vmem S1x256x64 .f32) (harg18 : arg18.IsWhole)
    (x0 : Vec F S16x256x128 .f32) (x1 : Vec F S1x256x256 .f32) (x2 : Vec F S1x256x128 .f32) (x3 : Vec F S64x256 .f32) (x4 : Vec F S1x256 .f32) (x5 : Vec F S64x256 .f32) (x6 : Vec F S1x256 .f32) (x7 : Vec F S3x256 .f32) (x8 : Vec F S1x256 .f32) (x9 : Vec F S256x256 .f32) (x10 : Vec F S1x256 .f32) (x11 : Vec F S256x256 .f32) (x12 : Vec F S256x256 .f32) (x13 : Vec F S1x256 .f32) (x14 : Vec F S256x64 .f32) (x15 : Vec F S1x64 .f32) (K : PUnit → sProp 𝕄) :
    iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ owns (c.tc : Thread nD τ) arg11 fullShare x9 ∗ owns (c.tc : Thread nD τ) arg12 fullShare x10 ∗ owns (c.tc : Thread nD τ) arg13 fullShare x11 ∗ owns (c.tc : Thread nD τ) arg14 fullShare x12 ∗ owns (c.tc : Thread nD τ) arg15 fullShare x13 ∗ owns (c.tc : Thread nD τ) arg16 fullShare x14 ∗ owns (c.tc : Thread nD τ) arg17 fullShare x15 ∗ (∃ d, owns (c.tc : Thread nD τ) arg18 fullShare d)
        ∗ (iprop(owns (c.tc : Thread nD τ) arg2 fullShare x0 ∗ owns (c.tc : Thread nD τ) arg3 fullShare x1 ∗ owns (c.tc : Thread nD τ) arg4 fullShare x2 ∗ owns (c.tc : Thread nD τ) arg5 fullShare x3 ∗ owns (c.tc : Thread nD τ) arg6 fullShare x4 ∗ owns (c.tc : Thread nD τ) arg7 fullShare x5 ∗ owns (c.tc : Thread nD τ) arg8 fullShare x6 ∗ owns (c.tc : Thread nD τ) arg9 fullShare x7 ∗ owns (c.tc : Thread nD τ) arg10 fullShare x8 ∗ owns (c.tc : Thread nD τ) arg11 fullShare x9 ∗ owns (c.tc : Thread nD τ) arg12 fullShare x10 ∗ owns (c.tc : Thread nD τ) arg13 fullShare x11 ∗ owns (c.tc : Thread nD τ) arg14 fullShare x12 ∗ owns (c.tc : Thread nD τ) arg15 fullShare x13 ∗ owns (c.tc : Thread nD τ) arg16 fullShare x14 ∗ owns (c.tc : Thread nD τ) arg17 fullShare x15 ∗ owns (c.tc : Thread nD τ) arg18 fullShare (out3_16 x0 x1 x2 x3 x4 x5 x6 x7 x8 x9 x10 x11 x12 x13 x14 x15)) -∗ K ⟨⟩))
      ⊢ wp frame (wpE (defs₀ (F := F)) Variants.none (c.tc : Thread nD τ) none) E (cc3__stage_c_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__stage_c_body_eq_skeleton]; unfold cc3__stage_c_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  exact View.read_writes_eq_canon _ _ _ (cover3_16 _)

/-! ## The pipeline's proof data -/

/-- The pipeline's proof data on core `c`. -/
def dats (c : Dev nD) : Dat τ (Elt F) (HIx 2) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => iblk V c 14 t
    | ⟨15, _⟩ => iblk V c 15 t
    | ⟨16, _⟩ => out3_16 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t)
    | ⟨_ + 17, h⟩ => absurd h (Nat.not_lt.2 (Nat.le_add_left _ _))
  Φ _ := Pipeline.scopedRest (Ix := HIx 2) (Name := ℕ) (U := UU) (Lvl := ℕ) (Val := Elt F) spec3 c
  q _ := fullShare
  owed _ := 0
  recorded _ := Rw (F := F) c

theorem A_eq (c : Dev nD) (w : Fin cfg3.W) : (dats V c).A w = V c (Pipeline.arrRef spec3 w) := by
  dsimp only [dats]

theorem after3_0 (c : Dev nD) (t : Fin cfg3.N) : (dats V c).after 0 t = iblk V c 0 t := by dsimp only [dats]
theorem after3_1 (c : Dev nD) (t : Fin cfg3.N) : (dats V c).after 1 t = iblk V c 1 t := by dsimp only [dats]
theorem after3_2 (c : Dev nD) (t : Fin cfg3.N) : (dats V c).after 2 t = iblk V c 2 t := by dsimp only [dats]
theorem after3_3 (c : Dev nD) (t : Fin cfg3.N) : (dats V c).after 3 t = iblk V c 3 t := by dsimp only [dats]
theorem after3_4 (c : Dev nD) (t : Fin cfg3.N) : (dats V c).after 4 t = iblk V c 4 t := by dsimp only [dats]
theorem after3_5 (c : Dev nD) (t : Fin cfg3.N) : (dats V c).after 5 t = iblk V c 5 t := by dsimp only [dats]
theorem after3_6 (c : Dev nD) (t : Fin cfg3.N) : (dats V c).after 6 t = iblk V c 6 t := by dsimp only [dats]
theorem after3_7 (c : Dev nD) (t : Fin cfg3.N) : (dats V c).after 7 t = iblk V c 7 t := by dsimp only [dats]
theorem after3_8 (c : Dev nD) (t : Fin cfg3.N) : (dats V c).after 8 t = iblk V c 8 t := by dsimp only [dats]
theorem after3_9 (c : Dev nD) (t : Fin cfg3.N) : (dats V c).after 9 t = iblk V c 9 t := by dsimp only [dats]
theorem after3_10 (c : Dev nD) (t : Fin cfg3.N) : (dats V c).after 10 t = iblk V c 10 t := by dsimp only [dats]
theorem after3_11 (c : Dev nD) (t : Fin cfg3.N) : (dats V c).after 11 t = iblk V c 11 t := by dsimp only [dats]
theorem after3_12 (c : Dev nD) (t : Fin cfg3.N) : (dats V c).after 12 t = iblk V c 12 t := by dsimp only [dats]
theorem after3_13 (c : Dev nD) (t : Fin cfg3.N) : (dats V c).after 13 t = iblk V c 13 t := by dsimp only [dats]
theorem after3_14 (c : Dev nD) (t : Fin cfg3.N) : (dats V c).after 14 t = iblk V c 14 t := by dsimp only [dats]
theorem after3_15 (c : Dev nD) (t : Fin cfg3.N) : (dats V c).after 15 t = iblk V c 15 t := by dsimp only [dats]
theorem after3_16 (c : Dev nD) (t : Fin cfg3.N) : (dats V c).after 16 t = out3_16 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) := by dsimp only [dats]

theorem before3_0 (c : Dev nD) (t : Fin cfg3.N) (d) : (dats V c).before 0 t d = iblk V c 0 t :=
  before3_0_of V (dats V c) (A_eq V c 0) (after3_0 V c) t d
theorem before3_1 (c : Dev nD) (t : Fin cfg3.N) (d) : (dats V c).before 1 t d = iblk V c 1 t :=
  before3_1_of V (dats V c) (A_eq V c 1) (after3_1 V c) t d
theorem before3_2 (c : Dev nD) (t : Fin cfg3.N) (d) : (dats V c).before 2 t d = iblk V c 2 t :=
  before3_2_of V (dats V c) (A_eq V c 2) (after3_2 V c) t d
theorem before3_3 (c : Dev nD) (t : Fin cfg3.N) (d) : (dats V c).before 3 t d = iblk V c 3 t :=
  before3_3_of V (dats V c) (A_eq V c 3) (after3_3 V c) t d
theorem before3_4 (c : Dev nD) (t : Fin cfg3.N) (d) : (dats V c).before 4 t d = iblk V c 4 t :=
  before3_4_of V (dats V c) (A_eq V c 4) (after3_4 V c) t d
theorem before3_5 (c : Dev nD) (t : Fin cfg3.N) (d) : (dats V c).before 5 t d = iblk V c 5 t :=
  before3_5_of V (dats V c) (A_eq V c 5) (after3_5 V c) t d
theorem before3_6 (c : Dev nD) (t : Fin cfg3.N) (d) : (dats V c).before 6 t d = iblk V c 6 t :=
  before3_6_of V (dats V c) (A_eq V c 6) (after3_6 V c) t d
theorem before3_7 (c : Dev nD) (t : Fin cfg3.N) (d) : (dats V c).before 7 t d = iblk V c 7 t :=
  before3_7_of V (dats V c) (A_eq V c 7) (after3_7 V c) t d
theorem before3_8 (c : Dev nD) (t : Fin cfg3.N) (d) : (dats V c).before 8 t d = iblk V c 8 t :=
  before3_8_of V (dats V c) (A_eq V c 8) (after3_8 V c) t d
theorem before3_9 (c : Dev nD) (t : Fin cfg3.N) (d) : (dats V c).before 9 t d = iblk V c 9 t :=
  before3_9_of V (dats V c) (A_eq V c 9) (after3_9 V c) t d
theorem before3_10 (c : Dev nD) (t : Fin cfg3.N) (d) : (dats V c).before 10 t d = iblk V c 10 t :=
  before3_10_of V (dats V c) (A_eq V c 10) (after3_10 V c) t d
theorem before3_11 (c : Dev nD) (t : Fin cfg3.N) (d) : (dats V c).before 11 t d = iblk V c 11 t :=
  before3_11_of V (dats V c) (A_eq V c 11) (after3_11 V c) t d
theorem before3_12 (c : Dev nD) (t : Fin cfg3.N) (d) : (dats V c).before 12 t d = iblk V c 12 t :=
  before3_12_of V (dats V c) (A_eq V c 12) (after3_12 V c) t d
theorem before3_13 (c : Dev nD) (t : Fin cfg3.N) (d) : (dats V c).before 13 t d = iblk V c 13 t :=
  before3_13_of V (dats V c) (A_eq V c 13) (after3_13 V c) t d
theorem before3_14 (c : Dev nD) (t : Fin cfg3.N) (d) : (dats V c).before 14 t d = iblk V c 14 t :=
  before3_14_of V (dats V c) (A_eq V c 14) (after3_14 V c) t d
theorem before3_15 (c : Dev nD) (t : Fin cfg3.N) (d) : (dats V c).before 15 t d = iblk V c 15 t :=
  before3_15_of V (dats V c) (A_eq V c 15) (after3_15 V c) t d

/-! ## The body obligation, at a generic point -/

/-- What the body is called with at point `t`. -/
def bodyPre (c : Dev nD) (t : Fin cfg3.N) : sProp 𝕄 :=
  iprop((dats V c).Φ t.castSucc ∗ (dats V c).owesAt none t.castSucc
    ∗ (∃ d, owns (c.tc : Thread nD τ) (st3_0 t) fullShare ((dats V c).before 0 t d))
    ∗ (∃ d, owns (c.tc : Thread nD τ) (st3_1 t) fullShare ((dats V c).before 1 t d))
    ∗ (∃ d, owns (c.tc : Thread nD τ) (st3_2 t) fullShare ((dats V c).before 2 t d))
    ∗ (∃ d, owns (c.tc : Thread nD τ) (st3_3 t) fullShare ((dats V c).before 3 t d))
    ∗ (∃ d, owns (c.tc : Thread nD τ) (st3_4 t) fullShare ((dats V c).before 4 t d))
    ∗ (∃ d, owns (c.tc : Thread nD τ) (st3_5 t) fullShare ((dats V c).before 5 t d))
    ∗ (∃ d, owns (c.tc : Thread nD τ) (st3_6 t) fullShare ((dats V c).before 6 t d))
    ∗ (∃ d, owns (c.tc : Thread nD τ) (st3_7 t) fullShare ((dats V c).before 7 t d))
    ∗ (∃ d, owns (c.tc : Thread nD τ) (st3_8 t) fullShare ((dats V c).before 8 t d))
    ∗ (∃ d, owns (c.tc : Thread nD τ) (st3_9 t) fullShare ((dats V c).before 9 t d))
    ∗ (∃ d, owns (c.tc : Thread nD τ) (st3_10 t) fullShare ((dats V c).before 10 t d))
    ∗ (∃ d, owns (c.tc : Thread nD τ) (st3_11 t) fullShare ((dats V c).before 11 t d))
    ∗ (∃ d, owns (c.tc : Thread nD τ) (st3_12 t) fullShare ((dats V c).before 12 t d))
    ∗ (∃ d, owns (c.tc : Thread nD τ) (st3_13 t) fullShare ((dats V c).before 13 t d))
    ∗ (∃ d, owns (c.tc : Thread nD τ) (st3_14 t) fullShare ((dats V c).before 14 t d))
    ∗ (∃ d, owns (c.tc : Thread nD τ) (st3_15 t) fullShare ((dats V c).before 15 t d))
    ∗ (∃ d, owns (c.tc : Thread nD τ) (st3_16 t) fullShare ((dats V c).before 16 t d)))

/-- and what it returns. -/
def bodyPost (c : Dev nD) (t : Fin cfg3.N) : sProp 𝕄 :=
  iprop((dats V c).Φ t.succ ∗ (dats V c).owesAt none t.succ
    ∗ owns (c.tc : Thread nD τ) (st3_0 t) fullShare ((dats V c).after 0 t)
    ∗ owns (c.tc : Thread nD τ) (st3_1 t) fullShare ((dats V c).after 1 t)
    ∗ owns (c.tc : Thread nD τ) (st3_2 t) fullShare ((dats V c).after 2 t)
    ∗ owns (c.tc : Thread nD τ) (st3_3 t) fullShare ((dats V c).after 3 t)
    ∗ owns (c.tc : Thread nD τ) (st3_4 t) fullShare ((dats V c).after 4 t)
    ∗ owns (c.tc : Thread nD τ) (st3_5 t) fullShare ((dats V c).after 5 t)
    ∗ owns (c.tc : Thread nD τ) (st3_6 t) fullShare ((dats V c).after 6 t)
    ∗ owns (c.tc : Thread nD τ) (st3_7 t) fullShare ((dats V c).after 7 t)
    ∗ owns (c.tc : Thread nD τ) (st3_8 t) fullShare ((dats V c).after 8 t)
    ∗ owns (c.tc : Thread nD τ) (st3_9 t) fullShare ((dats V c).after 9 t)
    ∗ owns (c.tc : Thread nD τ) (st3_10 t) fullShare ((dats V c).after 10 t)
    ∗ owns (c.tc : Thread nD τ) (st3_11 t) fullShare ((dats V c).after 11 t)
    ∗ owns (c.tc : Thread nD τ) (st3_12 t) fullShare ((dats V c).after 12 t)
    ∗ owns (c.tc : Thread nD τ) (st3_13 t) fullShare ((dats V c).after 13 t)
    ∗ owns (c.tc : Thread nD τ) (st3_14 t) fullShare ((dats V c).after 14 t)
    ∗ owns (c.tc : Thread nD τ) (st3_15 t) fullShare ((dats V c).after 15 t)
    ∗ owns (c.tc : Thread nD τ) (st3_16 t) fullShare ((dats V c).after 16 t))

theorem sound_body (c : Dev nD) (t : Fin cfg3.N) :
    bodyPre V c t ⊢ wp frame (wpE (defs₀ (F := F)) Variants.none (c.tc : Thread nD τ) none) Set.univ (bodyAt3 t) (fun _ => bodyPost V c t) := by
  unfold bodyPre bodyPost bodyAt3
  simp only [before3_0, before3_1, before3_2, before3_3, before3_4, before3_5, before3_6, before3_7, before3_8, before3_9, before3_10, before3_11, before3_12, before3_13, before3_14, before3_15]
  rw [show (dats V c).Φ t.succ = (dats V c).Φ t.castSucc from rfl,
    show (dats V c).owesAt none t.succ = (dats V c).owesAt none t.castSucc from rfl,
    after3_0, after3_1, after3_2, after3_3, after3_4, after3_5, after3_6, after3_7, after3_8, after3_9, after3_10, after3_11, after3_12, after3_13, after3_14, after3_15, after3_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid3.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (iblk V c 14 t) (iblk V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg3.N) :
    defs₀ (F := F) .tc cfg3.body (cfg3.bodyArgs t (cfg3.slots t)) = bodyAt3 t := rfl

theorem body_obligation (c : Dev nD) : BodyObligation (dats (F := F) V c) (defs₀ (F := F)) Variants.none none Set.univ := fun t => by
  rw [bigSep_W3, bigSep_W3, defs₀_row]
  exact triple_restated (sound_body V c t) rfl .rfl fun _ => .rfl

/-! ## The call as a step of the main program -/

/-- The result array after the call. -/
def result (c : Dev nD) : Buf (Elt F) ((c.tc : Thread nD τ).loc main_v46) := (dats V c).arrAt 16 cfg3.N

variable [∀ e, Nonempty (Elt F e)]

/-- The family of proof data: this call's, and anything for the other. -/
def pdats : (p : Fin 2) → (c : Dev nD) → Dat τ (Elt F) (HIx 2) ℕ UU ℕ (Pipeline.pin (pcfgs (F := F)) adm p) c
  | ⟨0, _⟩ => fun c => junkDat c
  | ⟨1, _⟩ => fun c => dats V c

variable (Vp : (c : Dev nD) → (b : Ref sig .tc) → Buf (Elt F) ((c.tc : Thread nD τ).loc b))

/-- What the TensorCore owes: nothing, its waits bounded. -/
abbrev owe (c : Dev nD) : sProp 𝕄 := iprop(∃ W : Waits sig (HIx 2), ⌜∀ p ∈ W, p ∈ Rw (F := F) c⌝ ∗ owes (c.tc : Thread nD τ) (0 : CellTallies nD τ sig (HIx 2)) W)

theorem arr_ne : ∀ w : Fin 17, w ≠ 16 → Pipeline.arrRef spec3 w ≠ main_v46 := by decide
theorem out_ne : ∀ w : Fin 17, w ≠ 16 → (spec3 w).isOut = false := by decide

/-- Every window's array at the end: an input as it was, the output at the result. -/
theorem arrs (hVp_out : ∀ c, Vp c main_v46 = result V c) (hVp_ne : ∀ c (b : Ref sig .tc), b ≠ main_v46 → Vp c b = V c b) (c : Dev nD) (w : Fin 17) :
    (dats V c).arrAt w cfg3.N = Vp c (Pipeline.arrRef spec3 w) := by
  by_cases h : w = 16
  · subst h; exact (hVp_out c).symm
  · rw [(dats V c).arrAt_in w (out_ne w h), hVp_ne c _ (arr_ne w h)]; rfl

set_option maxHeartbeats 1000000 in
set_option backward.isDefEq.respectTransparency.types false in
/-- From every array at `V` the call leaves every array at `V` but the result, which is at `result V`. -/
def reg (hVp_out : ∀ c, Vp c main_v46 = result V c)
    (hVp_ne : ∀ c (b : Ref sig .tc), b ≠ main_v46 → Vp c b = V c b) :
    Pipeline.RegionSeg (pcfgs (F := F)) adm (pdats V) none defs₀ 𝒱₀ (K (F := F)).L (K (F := F)).lev 1 where
  win := (launch3).win.to₀
  block_pos := (launch3).block_pos
  stage_whole := (launch3).stage_whole
  K := PEmpty
  osem k := k.elim
  ho := Pipeline.OwnSemFacts.none _
  hbody c := (body_obligation V c).loose
  hwaits := Pipeline.hwaits_of_owed_zero _ _ _ _ (K (F := F)).L (K (F := F)).lev 1 fun _ _ => rfl
  pre c := iprop(unscopedBufs c (V c) ∗ owe c)
  post c := iprop(unscopedBufs c (Vp c) ∗ owe c)
  X _ := BI.emp
  Y _ := BI.emp
  Z c := iprop(Pipeline.unscopedRest (Ix := HIx 2) (Name := ℕ) (U := UU) (Lvl := ℕ) spec3 c (V c))
  hentry c := by
    rw [Pipeline.ownSems0_none]
    have hsplit := Pipeline.arrays_of_unscopedBufs (p := 1) (pcfgs (F := F)) adm (pdats V) (launch3).win (launch3).arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 1 c).Φ 0 = Pipeline.scopedRest (Ix := HIx 2) (Name := ℕ) (U := UU) (Lvl := ℕ) (Val := Elt F) spec3 c from rfl]
    iintro ⟨-, -, Hr⟩; iexact Hr
  hout c := by
    rw [Pipeline.ownSems0_none, show (pdats V 1 c).Φ (Fin.last _) = Pipeline.scopedRest (Ix := HIx 2) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) (launch3).win (launch3).arr_whole c
      (pdats V) ((pdats V 1 c).share_full fun _ => rfl) (V c) (Vp c) ((pdats V 1 c).arrAt · cfg3.N)
      (arrs V Vp hVp_out hVp_ne c)
      (fun b hb => hVp_ne c b fun h => hb (h ▸ Finset.mem_image.mpr ⟨16, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Region3

end
-- ==== Proof.Main.lean ====
/-
  The main program: the host's operations, the two gather calls and the two attention calls in order, what every array holds after each step, and
  the run of the whole program.
-/
module

public import proofs.«01_k».proof.Proof.Launch
public import proofs.«01_k».proof.Proof.Region2
public import proofs.«01_k».proof.Proof.Region3
public import Idealize.ShloMosaic.Lib.Pipeline.FrameTail

@[expose] public section

noncomputable section

namespace Cert.Proof.Main

open Cert.KernelIdeal Cert.KernelIdeal.Gen Cert.Proof.Setup Cert.Proof.Tile Cert.Proof.Chunks Cert.Proof.Rows Cert.Proof.Launch

open Idealize.ShloMosaic
open Idealize.ShloMosaic.SparseCore (S V)
open Idealize.ShloMosaic.SparseCore.Cfg (HIx Pay)
open Idealize.ShloMosaic.StableHlo (held launchContents after)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => M2 F

/-! ## What the arrays hold, step by step -/

abbrev dr (r : Ref sig .tc) : DevRef τ sig := Proc.devRef .tc r

/-- The host's operations: before the first gather call, between the two, before the first attention call, before the
    second, after it. -/
abbrev pre : List (HloOp τ sig (Elt F)) :=
  [StableHlo.binary main_arg18 main_arg14 main_v0 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
   StableHlo.binary main_arg6 main_v0 main_v1 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
   StableHlo.binary main_arg6 main_arg19 main_v2 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F)),
   StableHlo.binary main_arg7 main_arg19 main_v3 ((fun l r => Host.dotGeneral dot_S256_S256x256_S256_0_0_n_1_n_n none l r) : (⟨S256, .f32⟩ : BufTy).Contents (Elt F) → (⟨S256x256, .f32⟩ : BufTy).Contents (Elt F) → (⟨S256, .f32⟩ : BufTy).Contents (Elt F)),
   StableHlo.binary main_arg12 main_arg14 main_v4 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
   StableHlo.binary main_arg13 main_arg14 main_v5 ((fun l r => Host.dotGeneral dot_S256_S256x256_S256_0_0_n_1_n_n none l r) : (⟨S256, .f32⟩ : BufTy).Contents (Elt F) → (⟨S256x256, .f32⟩ : BufTy).Contents (Elt F) → (⟨S256, .f32⟩ : BufTy).Contents (Elt F)),
   StableHlo.binary main_arg7 main_v0 main_v6 ((fun l r => Host.dotGeneral dot_S256_S256x256_S256_0_0_n_1_n_n none l r) : (⟨S256, .f32⟩ : BufTy).Contents (Elt F) → (⟨S256x256, .f32⟩ : BufTy).Contents (Elt F) → (⟨S256, .f32⟩ : BufTy).Contents (Elt F)),
   StableHlo.binary main_v6 main_arg15 main_v7 (subf : (⟨S256, .f32⟩ : BufTy).Contents (Elt F) → (⟨S256, .f32⟩ : BufTy).Contents (Elt F) → (⟨S256, .f32⟩ : BufTy).Contents (Elt F)),
   StableHlo.binary main_v5 main_v7 main_v8 (subf : (⟨S256, .f32⟩ : BufTy).Contents (Elt F) → (⟨S256, .f32⟩ : BufTy).Contents (Elt F) → (⟨S256, .f32⟩ : BufTy).Contents (Elt F)),
   StableHlo.nullary main_cst (constant S_ .f32 0x3D800000#32),
   StableHlo.unary main_cst main_v9 (broadcastInDim S256x256 ![] bcast_S_S256x256 : (⟨S_, .f32⟩ : BufTy).Contents (Elt F) → (⟨S256x256, .f32⟩ : BufTy).Contents (Elt F)),
   StableHlo.binary main_arg16 main_v9 main_v10 (mulf : (⟨S256x256, .f32⟩ : BufTy).Contents (Elt F) → (⟨S256x256, .f32⟩ : BufTy).Contents (Elt F) → (⟨S256x256, .f32⟩ : BufTy).Contents (Elt F)),
   StableHlo.nullary main_cst_0 (constant S_ .f32 0x3D800000#32),
   StableHlo.unary main_cst_0 main_v11 (broadcastInDim S256 ![] bcast_S_S256 : (⟨S_, .f32⟩ : BufTy).Contents (Elt F) → (⟨S256, .f32⟩ : BufTy).Contents (Elt F)),
   StableHlo.binary main_arg17 main_v11 main_v12 (mulf : (⟨S256, .f32⟩ : BufTy).Contents (Elt F) → (⟨S256, .f32⟩ : BufTy).Contents (Elt F) → (⟨S256, .f32⟩ : BufTy).Contents (Elt F)),
   StableHlo.reshape main_arg4 main_v13 (rfl : (.i32 : EltTy) = .i32) shapeCasts_S16x2048_S32768,
   StableHlo.reshape main_arg5 main_v14 (rfl : (.i32 : EltTy) = .i32) shapeCasts_S16x2048_S32768,
   StableHlo.reshape main_arg2 main_v15 (rfl : (.f32 : EltTy) = .f32) shapeCasts_S1x2048x128_S2048x128]
abbrev mid : List (HloOp τ sig (Elt F)) :=
  [StableHlo.reshape main_v16 main_v17 (rfl : (.f32 : EltTy) = .f32) shapeCasts_S32768x128_S16x2048x128,
   StableHlo.reshape main_arg3 main_v18 (rfl : (.f32 : EltTy) = .f32) shapeCasts_S1x2048x128_S2048x128]
abbrev mid2 : List (HloOp τ sig (Elt F)) :=
  [StableHlo.reshape main_v19 main_v20 (rfl : (.f32 : EltTy) = .f32) shapeCasts_S32768x128_S16x2048x128,
   StableHlo.reshape main_v8 main_v21 (rfl : (.f32 : EltTy) = .f32) shapeCasts_S256_S1x256,
   StableHlo.reshape main_v3 main_v22 (rfl : (.f32 : EltTy) = .f32) shapeCasts_S256_S1x256,
   StableHlo.reshape main_arg11 main_v23 (rfl : (.f32 : EltTy) = .f32) shapeCasts_S256_S1x256,
   StableHlo.reshape main_arg13 main_v24 (rfl : (.f32 : EltTy) = .f32) shapeCasts_S256_S1x256,
   StableHlo.reshape main_v12 main_v25 (rfl : (.f32 : EltTy) = .f32) shapeCasts_S256_S1x256,
   StableHlo.reshape main_arg9 main_v26 (rfl : (.f32 : EltTy) = .f32) shapeCasts_S64_S1x64,
   StableHlo.reshape main_v8 main_v27 (rfl : (.f32 : EltTy) = .f32) shapeCasts_S256_S1x256,
   StableHlo.reshape main_v3 main_v28 (rfl : (.f32 : EltTy) = .f32) shapeCasts_S256_S1x256,
   StableHlo.reshape main_arg11 main_v29 (rfl : (.f32 : EltTy) = .f32) shapeCasts_S256_S1x256,
   StableHlo.reshape main_arg13 main_v30 (rfl : (.f32 : EltTy) = .f32) shapeCasts_S256_S1x256,
   StableHlo.reshape main_v12 main_v31 (rfl : (.f32 : EltTy) = .f32) shapeCasts_S256_S1x256,
   StableHlo.reshape main_arg9 main_v32 (rfl : (.f32 : EltTy) = .f32) shapeCasts_S64_S1x64]
abbrev mid3 : List (HloOp τ sig (Elt F)) :=
  [StableHlo.reshape main_v8 main_v34 (rfl : (.f32 : EltTy) = .f32) shapeCasts_S256_S1x256,
   StableHlo.reshape main_v3 main_v35 (rfl : (.f32 : EltTy) = .f32) shapeCasts_S256_S1x256,
   StableHlo.reshape main_arg11 main_v36 (rfl : (.f32 : EltTy) = .f32) shapeCasts_S256_S1x256,
   StableHlo.reshape main_arg13 main_v37 (rfl : (.f32 : EltTy) = .f32) shapeCasts_S256_S1x256,
   StableHlo.reshape main_v12 main_v38 (rfl : (.f32 : EltTy) = .f32) shapeCasts_S256_S1x256,
   StableHlo.reshape main_arg9 main_v39 (rfl : (.f32 : EltTy) = .f32) shapeCasts_S64_S1x64,
   StableHlo.reshape main_v8 main_v40 (rfl : (.f32 : EltTy) = .f32) shapeCasts_S256_S1x256,
   StableHlo.reshape main_v3 main_v41 (rfl : (.f32 : EltTy) = .f32) shapeCasts_S256_S1x256,
   StableHlo.reshape main_arg11 main_v42 (rfl : (.f32 : EltTy) = .f32) shapeCasts_S256_S1x256,
   StableHlo.reshape main_arg13 main_v43 (rfl : (.f32 : EltTy) = .f32) shapeCasts_S256_S1x256,
   StableHlo.reshape main_v12 main_v44 (rfl : (.f32 : EltTy) = .f32) shapeCasts_S256_S1x256,
   StableHlo.reshape main_arg9 main_v45 (rfl : (.f32 : EltTy) = .f32) shapeCasts_S64_S1x64]
abbrev post : List (HloOp τ sig (Elt F)) :=
  [StableHlo.binary main_v33 main_v46 main_v47 ((fun a b => concatenate S2x2048x64 0 [⟨S1x2048x64, a⟩, ⟨S1x2048x64, b⟩] concatenates_S1x2048x64_S1x2048x64_S2x2048x64_d0) : (⟨S1x2048x64, .f32⟩ : BufTy).Contents (Elt F) → (⟨S1x2048x64, .f32⟩ : BufTy).Contents (Elt F) → (⟨S2x2048x64, .f32⟩ : BufTy).Contents (Elt F))]

variable (m : (ℓ : Loc nD τ sig) → Buf (Elt F) ℓ) (ρ : Dev nD → PrngReg)

def VA (d : Dev nD) : Valuation τ sig (Elt F) := after pre (launchContents m d)
def VB (d : Dev nD) : Valuation τ sig (Elt F) := Function.update (VA m d) (dr main_v16) (rowsOf (VA m d (dr main_v15)) (VA m d (dr main_v13)))
def VC (d : Dev nD) : Valuation τ sig (Elt F) := after mid (VB m d)
def VD (d : Dev nD) : Valuation τ sig (Elt F) := Function.update (VC m d) (dr main_v19) (rowsOf (VC m d (dr main_v18)) (VC m d (dr main_v14)))
def VE (d : Dev nD) : Valuation τ sig (Elt F) := after mid2 (VD m d)
def VF (d : Dev nD) : Valuation τ sig (Elt F) := Function.update (VE m d) (dr main_v33) (Region2.result (fun c b => VE m c (dr b)) d)
def VG (d : Dev nD) : Valuation τ sig (Elt F) := after mid3 (VF m d)
def VH (d : Dev nD) : Valuation τ sig (Elt F) := Function.update (VG m d) (dr main_v46) (Region3.result (fun c b => VG m c (dr b)) d)
def VI (d : Dev nD) : Valuation τ sig (Elt F) := after post (VH m d)

/-- What the two calls find. -/
def vals : Vals F where
  tb0 d := VA m d (dr main_v15)
  ix0 d := VA m d (dr main_v13)
  fo0 d := VA m d (dr main_v16)
  tb1 d := VC m d (dr main_v18)
  ix1 d := VC m d (dr main_v14)
  fo1 d := VC m d (dr main_v19)

/-- Three arrays out of all the held ones. -/
theorem held_three (d : Dev nD) (x y z : Ref sig .tc) (hx : x.isScoped = false) (hy : y.isScoped = false) (hz : z.isScoped = false)
    (hxy : x ≠ y) (hxz : x ≠ z) (hyz : y ≠ z) (V : Valuation τ sig (Elt F)) :
    (held (SparseCore.T d : Thread nD τ) (ucRefs τ sig) V : sProp 𝕄)
      = iprop(((tcLoc d x ↦{fullShare} V (dr x)) ∗ (tcLoc d y ↦{fullShare} V (dr y)) ∗ tcLoc d z ↦{fullShare} V (dr z))
        ∗ held (SparseCore.T d : Thread nD τ) (ucRefs τ sig \ {dr x, dr y, dr z}) V) := by
  have hsub : ({dr x, dr y, dr z} : Finset (DevRef τ sig)) ⊆ ucRefs τ sig := by
    intro b hb
    simp only [Finset.mem_insert, Finset.mem_singleton] at hb
    rcases hb with rfl | rfl | rfl
    · exact Pipeline.devRef_mem_ucRefs hx
    · exact Pipeline.devRef_mem_ucRefs hy
    · exact Pipeline.devRef_mem_ucRefs hz
  have nxy : dr x ≠ dr y := StableHlo.devRef_ne_of_ne hxy
  have nxz : dr x ≠ dr z := StableHlo.devRef_ne_of_ne hxz
  have nyz : dr y ≠ dr z := StableHlo.devRef_ne_of_ne hyz
  rw [StableHlo.held_sub_split _ hsub]
  congr 1
  unfold StableHlo.held
  rw [SparseCore.bigSep_insert' (by simp [nxy, nxz]), SparseCore.bigSep_insert' (by simp [nyz]), bigSep_singleton]

/-- The rest of the arrays is as it was when one of the three is rewritten. -/
theorem held_rest (d : Dev nD) (x y z : Ref sig .tc) (V : Valuation τ sig (Elt F)) (g : z.ty.Contents (Elt F)) :
    (held (SparseCore.T d : Thread nD τ) (ucRefs τ sig \ {dr x, dr y, dr z}) (Function.update V (dr z) g) : sProp 𝕄)
      = held (SparseCore.T d : Thread nD τ) (ucRefs τ sig \ {dr x, dr y, dr z}) V :=
  StableHlo.held_congr _ fun b hb => Function.update_of_ne (fun e => (Finset.mem_sdiff.mp hb).2 (by rw [e]; simp)) _ _

theorem held_call0 (d : Dev nD) :
    (iprop((bigSep Finset.univ fun c : Fin ((K (F := F)).nCore 0) => (P (vals m)).dn 0 d c)
      ∗ held (SparseCore.T d : Thread nD τ) (ucRefs τ sig \ {dr main_v15, dr main_v13, dr main_v16}) (VA m d)) : sProp 𝕄)
      = held (SparseCore.T d : Thread nD τ) (ucRefs τ sig) (VB m d) := by
  rw [dn0_eq, held_three d main_v15 main_v13 main_v16 (by decide) (by decide) (by decide) (by decide) (by decide) (by decide) (VB m d)]
  unfold VB
  rw [held_rest, Function.update_of_ne (StableHlo.devRef_ne_of_ne (by decide)), Function.update_of_ne (StableHlo.devRef_ne_of_ne (by decide)), Function.update_self]
  rfl
theorem held_call1 (d : Dev nD) :
    (iprop((bigSep Finset.univ fun c : Fin ((K (F := F)).nCore 1) => (P (vals m)).dn 1 d c)
      ∗ held (SparseCore.T d : Thread nD τ) (ucRefs τ sig \ {dr main_v18, dr main_v14, dr main_v19}) (VC m d)) : sProp 𝕄)
      = held (SparseCore.T d : Thread nD τ) (ucRefs τ sig) (VD m d) := by
  rw [dn1_eq, held_three d main_v18 main_v14 main_v19 (by decide) (by decide) (by decide) (by decide) (by decide) (by decide) (VD m d)]
  unfold VD
  rw [held_rest, Function.update_of_ne (StableHlo.devRef_ne_of_ne (by decide)), Function.update_of_ne (StableHlo.devRef_ne_of_ne (by decide)), Function.update_self]
  rfl

/-! ## The main program -/

abbrev FIN (d : Dev nD) : sProp 𝕄 := held (SparseCore.T d : Thread nD τ) (ucRefs τ sig) (VI m d)

/-- A TensorCore call of the main program. -/
abbrev tcCall (p : Fin 2) : Prog (TpuEff nD τ sig (Elt F) (SparseCore.Sig (ΛP (F := F)) 2) .tc) PUnit :=
  Prog.lift (.customCall (SparseCore.inner (Pipeline.entry p)) ())

theorem main_eq (d : Dev nD) : main (F := F) d
    = StableHlo.seq pre >>= fun _ => (K (F := F)).run d 0 >>= fun _ => StableHlo.seq mid >>= fun _ => (K (F := F)).run d 1 >>= fun _ =>
      StableHlo.seq mid2 >>= fun _ => tcCall 0 >>= fun _ => StableHlo.seq mid3 >>= fun _ => tcCall 1 >>= fun _ => StableHlo.seq post >>= fun _ => pure ⟨⟩ := by
  simp only [main, StableHlo.seq, bind_assoc, pure_bind]

theorem pre_sub : (pre : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.reshape_bufs_sub ..⟩
theorem mid_sub : (mid : List (HloOp τ sig (Elt F))).Forall fun op => op.bufs ⊆ StableHlo.tcRefs τ sig :=
  ⟨StableHlo.reshape_bufs_sub .., StableHlo.reshape_bufs_sub ..⟩
theorem mid2_sub : (mid2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩
theorem mid3_sub : (mid3 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩
theorem post_sub : (post : List (HloOp τ sig (Elt F))).Forall fun op => op.bufs ⊆ StableHlo.tcRefs τ sig :=
  StableHlo.binary_bufs_sub ..
theorem pre_fresh : ∀ op ∈ (pre : List (HloOp τ sig (Elt F))), op.fresh = ∅ := by
  simp only [List.mem_cons, List.not_mem_nil, or_false, forall_eq_or_imp, forall_eq]; exact ⟨rfl, rfl, rfl, rfl, rfl, rfl, rfl, rfl, rfl, rfl, rfl, rfl, rfl, rfl, rfl, rfl, rfl, rfl⟩
theorem mid_fresh : ∀ op ∈ (mid : List (HloOp τ sig (Elt F))), op.fresh = ∅ := by
  simp only [List.mem_cons, List.not_mem_nil, or_false, forall_eq_or_imp, forall_eq]; exact ⟨rfl, rfl⟩
theorem mid2_fresh : ∀ op ∈ (mid2 : List (HloOp τ sig (Elt F))), op.fresh = ∅ := by
  simp only [List.mem_cons, List.not_mem_nil, or_false, forall_eq_or_imp, forall_eq]; exact ⟨rfl, rfl, rfl, rfl, rfl, rfl, rfl, rfl, rfl, rfl, rfl, rfl, rfl⟩
theorem mid3_fresh : ∀ op ∈ (mid3 : List (HloOp τ sig (Elt F))), op.fresh = ∅ := by
  simp only [List.mem_cons, List.not_mem_nil, or_false, forall_eq_or_imp, forall_eq]; exact ⟨rfl, rfl, rfl, rfl, rfl, rfl, rfl, rfl, rfl, rfl, rfl, rfl⟩
theorem post_fresh : ∀ op ∈ (post : List (HloOp τ sig (Elt F))), op.fresh = ∅ := by
  simp only [List.mem_cons, List.not_mem_nil, or_false, forall_eq_or_imp, forall_eq]; exact rfl

theorem hops (l : List (HloOp τ sig (Elt F))) (h : l.Forall fun op => op.bufs ⊆ StableHlo.tcRefs τ sig) : ∀ op ∈ l, op.bufs ⊆ ucRefs τ sig :=
  fun op hop => Pipeline.sub_ucRefs op (List.forall_iff_forall_mem.mp h op hop)

variable [∀ e, Nonempty (Elt F e)]

/-! ## The TensorCore calls -/

def step2 : Pipeline.RegionSeg (pcfgs (F := F)) Region2.adm (Region2.pdats fun c b => VE m c (dr b)) none defs₀ 𝒱₀
    (K (F := F)).L (K (F := F)).lev 0 :=
  Region2.reg (fun c b => VE m c (dr b)) (fun c b => VF m c (dr b)) (fun c => Function.update_self ..)
    (fun c b hb => Function.update_of_ne (StableHlo.devRef_ne_of_ne hb) ..)
theorem step2_pre (d : Dev nD) : (step2 m).pre d = iprop(held (SparseCore.T d : Thread nD τ) (ucRefs τ sig) (VE m d) ∗ Region2.owe (F := F) d) := by
  rw [← Pipeline.unscopedBufs_held d (VE m d)]; rfl
theorem step2_post (d : Dev nD) : (step2 m).post d = iprop(held (SparseCore.T d : Thread nD τ) (ucRefs τ sig) (VF m d) ∗ Region2.owe (F := F) d) := by
  rw [← Pipeline.unscopedBufs_held d (VF m d)]; rfl

theorem wp_call2 (d : Dev nD) {α : Type} (k : Prog (TpuEff nD τ sig (Elt F) (SparseCore.Sig (ΛP (F := F)) 2) .tc) α) (Q : α → sProp 𝕄) :
    iprop((iprop(boundary (SparseCore.T d : Thread nD τ) ∗ held (SparseCore.T d : Thread nD τ) (ucRefs τ sig) (VF m d) ∗ Region2.owe (F := F) d)
          -∗ wp frame (wpE ((K (F := F)).defs (D (F := F))) 𝒱 (SparseCore.T d) none) Set.univ k Q)
        ∗ boundary (SparseCore.T d : Thread nD τ) ∗ held (SparseCore.T d : Thread nD τ) (ucRefs τ sig) (VE m d) ∗ Region2.owe (F := F) d
        ∗ levAts (K (F := F)).L (K (F := F)).lev
        ∗ Pipeline.cellsGhost cfgs (EP (F := F)) 0 d ∗ Pipeline.toksInit cfgs (EP (F := F)) 0 d)
      ⊢ wp frame (wpE ((K (F := F)).defs (D (F := F))) 𝒱 (SparseCore.T d) none) Set.univ (tcCall 0 >>= fun _ => k) Q := by
  have h := Pipeline.RegionSeg.wp (pcfgs (F := F)) Region2.adm (Region2.pdats fun c b => VE m c (dr b)) none cellOf_inj (EP (F := F)) defs₀ 𝒱₀
    (K (F := F)).L (K (F := F)).lev
    (step2 m) d none (fun u h => absurd h (Option.not_mem_none u)) .ret
    (fun _ => wp frame (wpE ((K (F := F)).defs (D (F := F))) 𝒱 (SparseCore.T d) none) Set.univ k Q)
  rw [step2_pre, step2_post] at h
  have e : tcCall (F := F) 0 = SparseCore.liftProg (Q := 2) (.op (.customCall (Pipeline.entry 0) ()) .ret) := rfl
  have h' := (K (F := F)).wp_liftProg (D (F := F)) 𝒱 (SparseCore.T d) Set.univ none (.op (.customCall (Pipeline.entry 0) ()) .ret)
    (fun _ => wp frame (wpE ((K (F := F)).defs (D (F := F))) 𝒱 (SparseCore.T d) none) Set.univ k Q)
  rw [wp_bind, e]
  iintro ⟨Hk, Hb, Hh, HO, Hl, Hg, Ht⟩
  iapply h'
  iapply h
  isplitl [Hk]
  · iintro ⟨Hb, Hh, HO⟩
    rw [wp_ret]
    imodintro
    iapply Hk
    isplitl [Hb]; · iexact Hb
    isplitl [Hh]
    · iexact Hh
    iexact HO
  isplitl [Hb]; · iexact Hb
  isplitl [Hh HO]
  · isplitl [Hh]
    · iexact Hh
    iexact HO
  isplitl [Hl]; · iexact Hl
  isplitl [Hg]; · iexact Hg
  iexact Ht

def step3 : Pipeline.RegionSeg (pcfgs (F := F)) Region2.adm (Region3.pdats fun c b => VG m c (dr b)) none defs₀ 𝒱₀
    (K (F := F)).L (K (F := F)).lev 1 :=
  Region3.reg (fun c b => VG m c (dr b)) (fun c b => VH m c (dr b)) (fun c => Function.update_self ..)
    (fun c b hb => Function.update_of_ne (StableHlo.devRef_ne_of_ne hb) ..)
theorem step3_pre (d : Dev nD) : (step3 m).pre d = iprop(held (SparseCore.T d : Thread nD τ) (ucRefs τ sig) (VG m d) ∗ Region3.owe (F := F) d) := by
  rw [← Pipeline.unscopedBufs_held d (VG m d)]; rfl
theorem step3_post (d : Dev nD) : (step3 m).post d = iprop(held (SparseCore.T d : Thread nD τ) (ucRefs τ sig) (VH m d) ∗ Region3.owe (F := F) d) := by
  rw [← Pipeline.unscopedBufs_held d (VH m d)]; rfl

theorem wp_call3 (d : Dev nD) {α : Type} (k : Prog (TpuEff nD τ sig (Elt F) (SparseCore.Sig (ΛP (F := F)) 2) .tc) α) (Q : α → sProp 𝕄) :
    iprop((iprop(boundary (SparseCore.T d : Thread nD τ) ∗ held (SparseCore.T d : Thread nD τ) (ucRefs τ sig) (VH m d) ∗ Region3.owe (F := F) d)
          -∗ wp frame (wpE ((K (F := F)).defs (D (F := F))) 𝒱 (SparseCore.T d) none) Set.univ k Q)
        ∗ boundary (SparseCore.T d : Thread nD τ) ∗ held (SparseCore.T d : Thread nD τ) (ucRefs τ sig) (VG m d) ∗ Region3.owe (F := F) d
        ∗ levAts (K (F := F)).L (K (F := F)).lev
        ∗ Pipeline.cellsGhost cfgs (EP (F := F)) 1 d ∗ Pipeline.toksInit cfgs (EP (F := F)) 1 d)
      ⊢ wp frame (wpE ((K (F := F)).defs (D (F := F))) 𝒱 (SparseCore.T d) none) Set.univ (tcCall 1 >>= fun _ => k) Q := by
  have h := Pipeline.RegionSeg.wp (pcfgs (F := F)) Region2.adm (Region3.pdats fun c b => VG m c (dr b)) none cellOf_inj (EP (F := F)) defs₀ 𝒱₀
    (K (F := F)).L (K (F := F)).lev
    (step3 m) d none (fun u h => absurd h (Option.not_mem_none u)) .ret
    (fun _ => wp frame (wpE ((K (F := F)).defs (D (F := F))) 𝒱 (SparseCore.T d) none) Set.univ k Q)
  rw [step3_pre, step3_post] at h
  have e : tcCall (F := F) 1 = SparseCore.liftProg (Q := 2) (.op (.customCall (Pipeline.entry 1) ()) .ret) := rfl
  have h' := (K (F := F)).wp_liftProg (D (F := F)) 𝒱 (SparseCore.T d) Set.univ none (.op (.customCall (Pipeline.entry 1) ()) .ret)
    (fun _ => wp frame (wpE ((K (F := F)).defs (D (F := F))) 𝒱 (SparseCore.T d) none) Set.univ k Q)
  rw [wp_bind, e]
  iintro ⟨Hk, Hb, Hh, HO, Hl, Hg, Ht⟩
  iapply h'
  iapply h
  isplitl [Hk]
  · iintro ⟨Hb, Hh, HO⟩
    rw [wp_ret]
    imodintro
    iapply Hk
    isplitl [Hb]; · iexact Hb
    isplitl [Hh]
    · iexact Hh
    iexact HO
  isplitl [Hb]; · iexact Hb
  isplitl [Hh HO]
  · isplitl [Hh]
    · iexact Hh
    iexact HO
  isplitl [Hl]; · iexact Hl
  isplitl [Hg]; · iexact Hg
  iexact Ht

theorem G_split (d : Dev nD) : (G d : sProp 𝕄)
    ⊢ iprop(Pipeline.cellsGhost cfgs (EP (F := F)) 0 d ∗ Pipeline.toksInit cfgs (EP (F := F)) 0 d
        ∗ Pipeline.cellsGhost cfgs (EP (F := F)) 1 d ∗ Pipeline.toksInit cfgs (EP (F := F)) 1 d) := by
  have h : ∀ Φ : Fin 2 → sProp 𝕄, bigSep Finset.univ Φ = iprop(Φ 0 ∗ Φ 1) := fun Φ =>
    bigSep_univ_eq_bigSepL [(0 : Fin 2), 1] (by decide) (by decide) Φ
  unfold G
  rw [h, h]
  iintro ⟨⟨H0, H1⟩, H2, H3⟩
  isplitl [H0]; · iexact H0
  isplitl [H2]; · iexact H2
  isplitl [H1]; · iexact H1
  iexact H3

/-- When both gather calls are over the TensorCore owes nothing. -/
theorem tcSt_two (d : Dev nD) : ∃ R : sProp 𝕄, (K (F := F)).tcSt EH d 2 = iprop(Region2.owe (F := F) d ∗ R) :=
  ⟨_, by unfold SparseCore.Cfg.tcSt; rw [(K (F := F)).Otc_end d (n := 2) (le_refl 2)]; rfl⟩

theorem hmain (κ : GSem nD τ sig → ℕ) (d : Dev nD) :
    iprop((K (F := F)).ctx EH (P (vals m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [main_eq, show unscopedBufs d (fun b => m ((SparseCore.T d : Thread nD τ).loc b)) = (held (SparseCore.T d : Thread nD τ) (ucRefs τ sig) (launchContents m d) : sProp 𝕄)
    from Pipeline.unscopedBufs_held d (launchContents m d)]
  iintro ⟨#Hctx, Hst, ⟨Hb, Hh, Hts, -⟩, HG⟩
  iapply (StableHlo.wp_seq 𝒱 none Set.univ d (ucRefs τ sig) _ pre (hops _ pre_sub) pre_fresh (launchContents m d)) $$ [Hb Hh]
  · isplitl [Hb] <;> iassumption
  iintro ⟨Hb, Hh⟩
  ihave Hh' := (Entails.of_eq (held_three d main_v15 main_v13 main_v16 (by decide) (by decide) (by decide) (by decide) (by decide) (by decide) (after pre (launchContents m d)))) $$ Hh
  icases Hh' with ⟨H3, Hr⟩
  rw [wp_bind]
  iapply ((K (F := F)).wp_run (D (F := F)) 𝒱 (EH := EH) (P := P (vals m)) κ d 0) $$ [Hst H3 Hr Hb Hts HG]
  isplitr; · iexact Hctx
  isplitl [Hst]; · iexact Hst
  isplitl [H3]
  · rw [st0_eq]
    iexact H3
  iintro ⟨Hst, Hdn⟩
  ihave Hh := (Entails.of_eq (held_call0 m d)) $$ [Hdn Hr]
  · isplitl [Hdn]
    · iexact Hdn
    iexact Hr
  iapply (StableHlo.wp_seq 𝒱 none Set.univ d (ucRefs τ sig) _ mid (hops _ mid_sub) mid_fresh (VB m d)) $$ [Hb Hh]
  · isplitl [Hb] <;> iassumption
  iintro ⟨Hb, Hh⟩
  ihave Hh' := (Entails.of_eq (held_three d main_v18 main_v14 main_v19 (by decide) (by decide) (by decide) (by decide) (by decide) (by decide) (after mid (VB m d)))) $$ Hh
  icases Hh' with ⟨H3, Hr⟩
  rw [wp_bind]
  iapply ((K (F := F)).wp_run (D (F := F)) 𝒱 (EH := EH) (P := P (vals m)) κ d 1) $$ [Hst H3 Hr Hb Hts HG]
  isplitr; · iexact Hctx
  isplitl [Hst]; · iexact Hst
  isplitl [H3]
  · rw [st1_eq]
    iexact H3
  iintro ⟨Hst, Hdn⟩
  ihave Hh := (Entails.of_eq (held_call1 m d)) $$ [Hdn Hr]
  · isplitl [Hdn]
    · iexact Hdn
    iexact Hr
  iapply (StableHlo.wp_seq 𝒱 none Set.univ d (ucRefs τ sig) _ mid2 (hops _ mid2_sub) mid2_fresh (VD m d)) $$ [Hb Hh]
  · isplitl [Hb] <;> iassumption
  iintro ⟨Hb, Hh⟩
  obtain ⟨R, hR⟩ := tcSt_two (F := F) d
  ihave Hst' := (Entails.of_eq (show (K (F := F)).tcSt EH d ((1 : Fin 2).val + 1) = _ from hR)) $$ Hst
  icases Hst' with ⟨HO, Hst⟩
  unfold SparseCore.Cfg.ctx
  icases Hctx with ⟨#Hl, -⟩
  ihave HG' := (G_split (F := F) d) $$ HG
  icases HG' with ⟨Hg0, Ht0, Hg1, Ht1⟩
  iapply (wp_call2 m d _ _)
  isplitr [Hb Hh HO Hg0 Ht0]
  swap
  · isplitl [Hb]; · iexact Hb
    isplitl [Hh]; · iexact Hh
    isplitl [HO]; · iexact HO
    isplitr; · iexact Hl
    isplitl [Hg0]; · iexact Hg0
    iexact Ht0
  iintro ⟨Hb, Hh, HO⟩
  iapply (StableHlo.wp_seq 𝒱 none Set.univ d (ucRefs τ sig) _ mid3 (hops _ mid3_sub) mid3_fresh (VF m d)) $$ [Hb Hh]
  · isplitl [Hb] <;> iassumption
  iintro ⟨Hb, Hh⟩
  iapply (wp_call3 m d _ _)
  isplitr [Hb Hh HO Hg1 Ht1]
  swap
  · isplitl [Hb]; · iexact Hb
    isplitl [Hh]; · iexact Hh
    isplitl [HO]; · iexact HO
    isplitr; · iexact Hl
    isplitl [Hg1]; · iexact Hg1
    iexact Ht1
  iintro ⟨Hb, Hh, HO⟩
  iapply (StableHlo.wp_seq 𝒱 none Set.univ d (ucRefs τ sig) _ post (hops _ post_sub) post_fresh (VH m d)) $$ [Hb Hh]
  · isplitl [Hb] <;> iassumption
  iintro ⟨Hb, Hh⟩
  rw [wp_pure]
  imodintro
  isplitl [Hst HO]
  · rw [hR]
    isplitl [HO]; · iexact HO
    iexact Hst
  isplitl [Hh]; · iexact Hh
  isplitl [Hb] <;> iassumption

def fq (d : Dev nD) (s' : Phys nD τ sig (Elt F)) : Prop := ∀ b ∈ ucRefs τ sig, s'.mem.mem (d, b) = VI m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) (ucRefs τ sig)) $$ [HSI H]
  · isplitl [HSI]; · iexact HSI
    iexact H
  ipureintro
  exact h

/-! ## The run -/

def QC : PUnit × MemSt nD τ sig (Elt F) → Prop := fun r => (∀ c : Dev nD, ∀ b ∈ ucRefs τ sig, r.2.mem (c, b) = VI m c b) ∧ r.2.sem = fun _ => 0

/-- From lists of rows in range: every execution ends with the arrays as worked out above and every counter at zero. -/
theorem run_main (hv : InRange (vals m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (vals m)) (A := ∅) facts v₀
    (fun q hq => match q with | 0 => nomatch hq | 1 => nomatch hq)
    (fun q _ => tileObl (vals m) hv q)
    (fun q _ => SparseCore.Cfg.VecSplit.of_plain (vecSplit (vals m) q))
    m ρ main (fun d => G d) (FIN m) (u₀ (F := F)) (sep_elim_left.trans (hu₀ (vals m))) (hmain m ρ) (fq m) (hfin m) (QC m) (fun _ h hz => ⟨h, hz⟩)

end Cert.Proof.Main

end
-- ==== Proof.Algebra.lean ====
/-
  The mathematics of one query's attention over its sixteen neighbours, written twice over the extended reals: as the
  kernel computes it, with the weight products folded beforehand, and as the reference writes it. On finite inputs the
  two agree.
-/
module

public import Idealize.ShloMosaic.Lib.Pointwise

@[expose] public section

noncomputable section

namespace Cert.Proof.Algebra

open Idealize.ShloMosaic

/-! ## Finite extended reals -/

/-- The value is a real number. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem lift1 {α : Type} (f : α → EReal) (h : ∀ a, IsReal (f a)) : ∃ g : α → ℝ, f = fun a => (g a : EReal) := by
  choose g hg using h
  exact ⟨g, funext hg⟩

theorem lift2 {α β : Type} (f : α → β → EReal) (h : ∀ a b, IsReal (f a b)) :
    ∃ g : α → β → ℝ, f = fun a b => (g a b : EReal) := by
  choose g hg using h
  exact ⟨g, funext fun a => funext fun b => hg a b⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.relu {x : EReal} (hx : IsReal x) : IsReal (max x 0) := by
  obtain ⟨a, rfl⟩ := hx; exact ⟨max a 0, (coe_max a 0).symm⟩

theorem IsReal.sum {ι : Type} (s : Finset ι) {f : ι → EReal} (h : ∀ i, IsReal (f i)) : IsReal (∑ i ∈ s, f i) := by
  obtain ⟨g, rfl⟩ := lift1 f h
  exact ⟨_, (coe_sum s g).symm⟩

/-- The greatest of sixteen real numbers, from minus infinity, is a real number. -/
theorem IsReal.fold_max {f : Fin 16 → EReal} (h : ∀ i, IsReal (f i)) : IsReal (Finset.univ.fold max ⊥ f) := by
  classical
  have key : ∀ s : Finset (Fin 16), s = ∅ ∨ IsReal (s.fold max ⊥ f) := fun s => by
    induction s using Finset.induction_on with
    | empty => exact Or.inl rfl
    | insert a s ha ih =>
      refine Or.inr ?_
      rw [Finset.fold_insert ha]
      rcases ih with rfl | ⟨r, hr⟩
      · rw [Finset.fold_empty, max_eq_left bot_le]; exact h a
      · obtain ⟨b, hb⟩ := h a
        rw [hr, hb]; exact ⟨max b r, (coe_max b r).symm⟩
  exact (key Finset.univ).resolve_left (Finset.univ_nonempty.ne_empty)

/-! ## The two formulas -/

/-- The weights of the block. -/
structure Weights where
  fc1 : Fin 64 → Fin 256 → EReal
  fc1b : Fin 256 → EReal
  fc2 : Fin 256 → Fin 64 → EReal
  fc2b : Fin 64 → EReal
  d1 : Fin 3 → Fin 256 → EReal
  d1b : Fin 256 → EReal
  d2 : Fin 256 → Fin 256 → EReal
  d2b : Fin 256 → EReal
  g1 : Fin 256 → Fin 256 → EReal
  g1b : Fin 256 → EReal
  g2 : Fin 256 → Fin 256 → EReal
  g2b : Fin 256 → EReal
  wk : Fin 256 → Fin 256 → EReal
  wv : Fin 256 → Fin 256 → EReal

/-- Every weight is a real number. -/
structure Weights.Finite (w : Weights) : Prop where
  fc1 : ∀ i j, IsReal (w.fc1 i j)
  fc1b : ∀ i, IsReal (w.fc1b i)
  d1 : ∀ i j, IsReal (w.d1 i j)
  d1b : ∀ i, IsReal (w.d1b i)
  d2 : ∀ i j, IsReal (w.d2 i j)
  d2b : ∀ i, IsReal (w.d2b i)
  g1 : ∀ i j, IsReal (w.g1 i j)
  g1b : ∀ i, IsReal (w.g1b i)
  g2 : ∀ i j, IsReal (w.g2 i j)
  g2b : ∀ i, IsReal (w.g2b i)
  wk : ∀ i j, IsReal (w.wk i j)
  wv : ∀ i j, IsReal (w.wv i j)

/-- What one query reads: its features, its position, its query row, and its neighbours' features and positions. -/
structure Query where
  h : Fin 64 → EReal
  p : Fin 3 → EReal
  q : Fin 256 → EReal
  hn : Fin 16 → Fin 64 → EReal
  pn : Fin 16 → Fin 3 → EReal

/-- Everything read is a real number. -/
structure Query.Finite (z : Query) : Prop where
  p : ∀ i, IsReal (z.p i)
  q : ∀ i, IsReal (z.q i)
  hn : ∀ j i, IsReal (z.hn j i)
  pn : ∀ j i, IsReal (z.pn j i)

/-- The weights as the kernel folds them. -/
structure Folded where
  mkg : Fin 64 → Fin 256 → EReal
  cc : Fin 256 → EReal
  mv : Fin 64 → Fin 256 → EReal
  cv : Fin 256 → EReal
  d1 : Fin 3 → Fin 256 → EReal
  d1b : Fin 256 → EReal
  d2 : Fin 256 → Fin 256 → EReal
  d2b : Fin 256 → EReal
  d2g : Fin 256 → Fin 256 → EReal
  g2 : Fin 256 → Fin 256 → EReal
  g2b : Fin 256 → EReal
  fc2 : Fin 256 → Fin 64 → EReal
  fc2b : Fin 64 → EReal

/-- The first layer of the position encoding, of one neighbour. -/
def hidden (d1 : Fin 3 → Fin 256 → EReal) (d1b : Fin 256 → EReal) (z : Query) (j : Fin 16) (c : Fin 256) : EReal :=
  max (∑ x : Fin 3, (z.p x - z.pn j x) * d1 x c + d1b c) 0

/-- The position encoding of one neighbour. -/
def posEnc (d1 : Fin 3 → Fin 256 → EReal) (d1b : Fin 256 → EReal) (d2 : Fin 256 → Fin 256 → EReal) (d2b : Fin 256 → EReal)
    (z : Query) (j : Fin 16) (c : Fin 256) : EReal :=
  ∑ a : Fin 256, hidden d1 d1b z j a * d2 a c + d2b c

/-- The kernel's logit. -/
def logitK (w : Folded) (z : Query) (j : Fin 16) (c : Fin 256) : EReal :=
  ∑ x : Fin 256, max (z.q x - (∑ i : Fin 64, z.hn j i * w.mkg i x) + (∑ a : Fin 256, hidden w.d1 w.d1b z j a * w.d2g a x) + w.cc x) 0
    * w.g2 x c + w.g2b c

/-- The kernel's value row. -/
def valueK (w : Folded) (z : Query) (j : Fin 16) (c : Fin 256) : EReal :=
  (∑ i : Fin 64, z.hn j i * w.mv i c + w.cv c) + posEnc w.d1 w.d1b w.d2 w.d2b z j c

/-- The kernel's output row. -/
def outK (w : Folded) (z : Query) (k : Fin 64) : EReal :=
  (∑ c : Fin 256, Ideal.div
      (∑ j : Fin 16, Ideal.exp (logitK w z j c - Finset.univ.fold max ⊥ fun j' : Fin 16 => logitK w z j' c) * valueK w z j c)
      (∑ j : Fin 16, Ideal.exp (logitK w z j c - Finset.univ.fold max ⊥ fun j' : Fin 16 => logitK w z j' c)) * w.fc2 c k
    + w.fc2b k) + z.h k

/-- A neighbour's features after the first layer. -/
def featR (w : Weights) (z : Query) (j : Fin 16) (a : Fin 256) : EReal := ∑ i : Fin 64, z.hn j i * w.fc1 i a + w.fc1b a

/-- The reference's logit. -/
def logitR (w : Weights) (z : Query) (j : Fin 16) (c : Fin 256) : EReal :=
  Ideal.div (∑ x : Fin 256, max (z.q x + (∑ b : Fin 256, (posEnc w.d1 w.d1b w.d2 w.d2b z j b - ∑ a : Fin 256, featR w z j a * w.wk a b) * w.g1 b x) + w.g1b x) 0
    * w.g2 x c + w.g2b c) ((16 : ℝ) : EReal)

/-- The reference's value row. -/
def valueR (w : Weights) (z : Query) (j : Fin 16) (c : Fin 256) : EReal :=
  (∑ a : Fin 256, featR w z j a * w.wv a c) + posEnc w.d1 w.d1b w.d2 w.d2b z j c

/-- The reference's output row. -/
def outR (w : Weights) (z : Query) (k : Fin 64) : EReal :=
  (∑ c : Fin 256, (∑ j : Fin 16, Ideal.div
      (Ideal.exp (logitR w z j c - Finset.univ.fold max ⊥ fun j' : Fin 16 => logitR w z j' c))
      (∑ j : Fin 16, Ideal.exp (logitR w z j c - Finset.univ.fold max ⊥ fun j' : Fin 16 => logitR w z j' c)) * valueR w z j c) * w.fc2 c k
    + w.fc2b k) + z.h k

/-- How the kernel folds the weights. -/
def fold (w : Weights) : Folded where
  mkg i x := ∑ a : Fin 256, w.fc1 i a * ∑ b : Fin 256, w.wk a b * w.g1 b x
  cc x := (∑ b : Fin 256, w.d2b b * w.g1 b x) - ((∑ a : Fin 256, w.fc1b a * ∑ b : Fin 256, w.wk a b * w.g1 b x) - w.g1b x)
  mv i c := ∑ a : Fin 256, w.fc1 i a * w.wv a c
  cv c := ∑ a : Fin 256, w.fc1b a * w.wv a c
  d1 := w.d1
  d1b := w.d1b
  d2 := w.d2
  d2b := w.d2b
  d2g a x := ∑ b : Fin 256, w.d2 a b * w.g1 b x
  g2 x c := w.g2 x c * ((1 / 16 : ℝ) : EReal)
  g2b c := w.g2b c * ((1 / 16 : ℝ) : EReal)
  fc2 := w.fc2
  fc2b := w.fc2b

/-! ## They agree -/

/-- A row times a matrix times a column, bracketed either way. -/
theorem sum_assoc {m n : Nat} (u : Fin m → ℝ) (M : Fin m → Fin n → ℝ) (v : Fin n → ℝ) :
    ∑ b, (∑ a, u a * M a b) * v b = ∑ a, u a * ∑ b, M a b * v b := by
  simp only [Finset.sum_mul, Finset.mul_sum]
  rw [Finset.sum_comm]
  exact Finset.sum_congr rfl fun _ _ => Finset.sum_congr rfl fun _ _ => mul_assoc _ _ _

/-- The logits before the second layer, over the reals. -/
theorem pre_real (qx γx : ℝ) (h : Fin 64 → ℝ) (t f : Fin 256 → ℝ) (F : Fin 64 → Fin 256 → ℝ) (W D : Fin 256 → Fin 256 → ℝ)
    (d g : Fin 256 → ℝ) :
    qx - (∑ i, h i * ∑ a, F i a * ∑ b, W a b * g b) + (∑ a, t a * ∑ b, D a b * g b)
        + ((∑ b, d b * g b) - ((∑ a, f a * ∑ b, W a b * g b) - γx))
      = qx + (∑ b, ((∑ a, t a * D a b + d b) - ∑ a, (∑ i, h i * F i a + f a) * W a b) * g b) + γx := by
  have e1 : ∑ b, ((∑ a, t a * D a b + d b) - ∑ a, (∑ i, h i * F i a + f a) * W a b) * g b
      = (∑ a, t a * ∑ b, D a b * g b) + (∑ b, d b * g b) - ((∑ i, h i * ∑ a, F i a * ∑ b, W a b * g b) + ∑ a, f a * ∑ b, W a b * g b) := by
    rw [← sum_assoc t D g, ← sum_assoc h F]
    have e2 : (∑ a, (∑ i, h i * F i a) * ∑ b, W a b * g b) + ∑ a, f a * ∑ b, W a b * g b
        = ∑ b, (∑ a, (∑ i, h i * F i a + f a) * W a b) * g b := by
      rw [sum_assoc (fun a => ∑ i, h i * F i a + f a) W g, ← Finset.sum_add_distrib]
      exact Finset.sum_congr rfl fun _ _ => (add_mul _ _ _).symm
    rw [e2, ← Finset.sum_add_distrib, ← Finset.sum_sub_distrib]
    exact Finset.sum_congr rfl fun _ _ => by ring
  rw [e1]; ring

theorem hidden_real {d1 : Fin 3 → Fin 256 → EReal} {d1b : Fin 256 → EReal} (h1 : ∀ i j, IsReal (d1 i j)) (h2 : ∀ i, IsReal (d1b i))
    {z : Query} (hz : z.Finite) (j : Fin 16) (c : Fin 256) : IsReal (hidden d1 d1b z j c) :=
  IsReal.relu ((IsReal.sum _ fun x => ((hz.p x).sub (hz.pn j x)).mul (h1 x c)).add (h2 c))

/-- The logits before the second layer agree. -/
theorem pre_eq {w : Weights} (hw : w.Finite) {z : Query} (hz : z.Finite) (j : Fin 16) (x : Fin 256) :
    z.q x - (∑ i : Fin 64, z.hn j i * (fold w).mkg i x) + (∑ a : Fin 256, hidden w.d1 w.d1b z j a * (fold w).d2g a x) + (fold w).cc x
      = z.q x + (∑ b : Fin 256, (posEnc w.d1 w.d1b w.d2 w.d2b z j b - ∑ a : Fin 256, featR w z j a * w.wk a b) * w.g1 b x) + w.g1b x := by
  obtain ⟨t, ht⟩ := lift1 (fun a => hidden w.d1 w.d1b z j a) fun a => hidden_real hw.d1 hw.d1b hz j a
  obtain ⟨q, hq⟩ := hz.q x
  obtain ⟨γ, hγ⟩ := hw.g1b x
  obtain ⟨h, hh⟩ := lift1 (fun i => z.hn j i) fun i => hz.hn j i
  obtain ⟨F, hF⟩ := lift2 w.fc1 hw.fc1
  obtain ⟨f, hf⟩ := lift1 w.fc1b hw.fc1b
  obtain ⟨W, hW⟩ := lift2 w.wk hw.wk
  obtain ⟨D, hD⟩ := lift2 w.d2 hw.d2
  obtain ⟨d, hd⟩ := lift1 w.d2b hw.d2b
  obtain ⟨g, hg⟩ := lift1 (fun b => w.g1 b x) fun b => hw.g1 b x
  have et : ∀ a, hidden w.d1 w.d1b z j a = t a := fun a => congrFun ht a
  have eh : ∀ i, z.hn j i = h i := fun i => congrFun hh i
  have eg : ∀ b, w.g1 b x = g b := fun b => congrFun hg b
  simp only [fold, posEnc, featR, et, eh, eg, hq, hγ, hF, hf, hW, hD, hd]
  simp only [← EReal.coe_mul, ← coe_sum, ← EReal.coe_add, ← EReal.coe_sub]
  exact congrArg _ (pre_real q γ h t f F W D d g)

theorem logit_real {w : Weights} (hw : w.Finite) {z : Query} (hz : z.Finite) (j : Fin 16) (c : Fin 256) : IsReal (logitR w z j c) := by
  unfold logitR
  rw [Ideal.div_coe (by norm_num)]
  refine IsReal.mul (IsReal.add (IsReal.sum _ fun x => IsReal.mul (IsReal.relu ?_) (hw.g2 x c)) (hw.g2b c)) ⟨_, rfl⟩
  refine ((hz.q x).add (IsReal.sum _ fun b => IsReal.mul (IsReal.sub ?_ ?_) (hw.g1 b x))).add (hw.g1b x)
  · exact (IsReal.sum _ fun a => (hidden_real hw.d1 hw.d1b hz j a).mul (hw.d2 a b)).add (hw.d2b b)
  · exact IsReal.sum _ fun a => ((IsReal.sum _ fun i => (hz.hn j i).mul (hw.fc1 i a)).add (hw.fc1b a)).mul (hw.wk a b)

/-- The logits agree. -/
theorem logit_eq {w : Weights} (hw : w.Finite) {z : Query} (hz : z.Finite) (j : Fin 16) (c : Fin 256) :
    logitK (fold w) z j c = logitR w z j c := by
  unfold logitK logitR
  rw [Ideal.div_coe (by norm_num)]
  have e : ∀ x : Fin 256, max (z.q x - (∑ i : Fin 64, z.hn j i * (fold w).mkg i x) + (∑ a : Fin 256, hidden (fold w).d1 (fold w).d1b z j a * (fold w).d2g a x) + (fold w).cc x) 0
      = max (z.q x + (∑ b : Fin 256, (posEnc w.d1 w.d1b w.d2 w.d2b z j b - ∑ a : Fin 256, featR w z j a * w.wk a b) * w.g1 b x) + w.g1b x) 0 :=
    fun x => congrArg (max · 0) (pre_eq hw hz j x)
  have hr : ∀ x : Fin 256, IsReal (max (z.q x + (∑ b : Fin 256, (posEnc w.d1 w.d1b w.d2 w.d2b z j b - ∑ a : Fin 256, featR w z j a * w.wk a b) * w.g1 b x) + w.g1b x) 0) := fun x => by
    refine IsReal.relu (((hz.q x).add (IsReal.sum _ fun b => IsReal.mul (IsReal.sub ?_ ?_) (hw.g1 b x))).add (hw.g1b x))
    · exact (IsReal.sum _ fun a => (hidden_real hw.d1 hw.d1b hz j a).mul (hw.d2 a b)).add (hw.d2b b)
    · exact IsReal.sum _ fun a => ((IsReal.sum _ fun i => (hz.hn j i).mul (hw.fc1 i a)).add (hw.fc1b a)).mul (hw.wk a b)
  simp only [e]
  obtain ⟨T, hT⟩ := lift1 _ hr
  obtain ⟨G, hG⟩ := lift1 (fun x => w.g2 x c) fun x => hw.g2 x c
  obtain ⟨b, hb⟩ := hw.g2b c
  have eT := fun x => congrFun hT x
  have eG : ∀ x, w.g2 x c = G x := fun x => congrFun hG x
  simp only [fold, eT, eG, hb]
  simp only [← EReal.coe_mul, ← coe_sum, ← EReal.coe_add]
  refine congrArg _ ?_
  rw [add_mul, Finset.sum_mul]
  exact congrArg (· + _) (Finset.sum_congr rfl fun _ _ => (mul_assoc _ _ _).symm)

/-- The value rows agree. -/
theorem value_eq {w : Weights} (hw : w.Finite) {z : Query} (hz : z.Finite) (j : Fin 16) (c : Fin 256) :
    valueK (fold w) z j c = valueR w z j c := by
  unfold valueK valueR
  refine congrArg (· + posEnc w.d1 w.d1b w.d2 w.d2b z j c) ?_
  obtain ⟨h, hh⟩ := lift1 (fun i => z.hn j i) fun i => hz.hn j i
  obtain ⟨F, hF⟩ := lift2 w.fc1 hw.fc1
  obtain ⟨f, hf⟩ := lift1 w.fc1b hw.fc1b
  obtain ⟨v, hv⟩ := lift1 (fun a => w.wv a c) fun a => hw.wv a c
  have eh : ∀ i, z.hn j i = h i := fun i => congrFun hh i
  have ev : ∀ a, w.wv a c = v a := fun a => congrFun hv a
  simp only [fold, featR, eh, ev, hF, hf]
  simp only [← EReal.coe_mul, ← coe_sum, ← EReal.coe_add]
  refine congrArg _ ?_
  rw [← sum_assoc h F v, ← Finset.sum_add_distrib]
  exact Finset.sum_congr rfl fun _ _ => (add_mul _ _ _).symm

theorem value_real {w : Weights} (hw : w.Finite) {z : Query} (hz : z.Finite) (j : Fin 16) (c : Fin 256) : IsReal (valueR w z j c) := by
  refine IsReal.add (IsReal.sum _ fun a => ((IsReal.sum _ fun i => (hz.hn j i).mul (hw.fc1 i a)).add (hw.fc1b a)).mul (hw.wv a c)) ?_
  exact (IsReal.sum _ fun a => (hidden_real hw.d1 hw.d1b hz j a).mul (hw.d2 a c)).add (hw.d2b c)

/-- A weighted mean: the weights divided one by one, or their weighted sum divided once. -/
theorem mean_eq (s v : Fin 16 → EReal) (M : EReal) (hs : ∀ j, IsReal (s j)) (hv : ∀ j, IsReal (v j)) (hM : IsReal M) :
    Ideal.div (∑ j : Fin 16, Ideal.exp (s j - M) * v j) (∑ j : Fin 16, Ideal.exp (s j - M))
      = ∑ j : Fin 16, Ideal.div (Ideal.exp (s j - M)) (∑ j : Fin 16, Ideal.exp (s j - M)) * v j := by
  obtain ⟨s, rfl⟩ := lift1 s hs
  obtain ⟨v, rfl⟩ := lift1 v hv
  obtain ⟨M, rfl⟩ := hM
  simp only [← EReal.coe_sub, Ideal.exp_coe, ← EReal.coe_mul, ← coe_sum]
  have hpos : (0 : ℝ) < ∑ j : Fin 16, Real.exp (s j - M) := Finset.sum_pos (fun j _ => Real.exp_pos _) Finset.univ_nonempty
  simp only [Ideal.div_coe hpos.ne', ← EReal.coe_mul, ← coe_sum]
  refine congrArg _ ?_
  rw [Finset.sum_mul]
  exact Finset.sum_congr rfl fun _ _ => by ring

/-- THE TWO FORMULAS AGREE on finite inputs. -/
theorem out_eq {w : Weights} (hw : w.Finite) {z : Query} (hz : z.Finite) (k : Fin 64) : outK (fold w) z k = outR w z k := by
  unfold outK outR
  refine congrArg (fun y => y + w.fc2b k + z.h k) (Finset.sum_congr rfl fun c _ => congrArg (· * w.fc2 c k) ?_)
  simp only [logit_eq hw hz, value_eq hw hz]
  exact mean_eq _ _ _ (fun j => logit_real hw hz j c) (fun j => value_real hw hz j c) (IsReal.fold_max fun j => logit_real hw hz j c)

end Cert.Proof.Algebra

end
-- ==== Proof.Pay.lean ====
/-
  The attention kernel's block result, read at an element: the formula of `Algebra`, over the rows the block holds.
-/
module

public import proofs.«01_k».proof.Proof.Algebra
public import proofs.«01_k».proof.Proof.Region2
public import proofs.«01_k».proof.Proof.Region3
public import Idealize.ShloMosaic.Lib.Pipeline.Value

@[expose] public section

noncomputable section

namespace Cert.Proof.Pay

open Cert.KernelIdeal Cert.KernelIdeal.Gen Cert.Proof.Algebra

open Idealize.ShloMosaic

/-- The folded weights, as the call's operands hold them. -/
def foldedOf (x3 : S64x256.Idx → EReal) (x4 : S1x256.Idx → EReal) (x5 : S64x256.Idx → EReal) (x6 : S1x256.Idx → EReal)
    (x7 : S3x256.Idx → EReal) (x8 : S1x256.Idx → EReal) (x9 : S256x256.Idx → EReal) (x10 : S1x256.Idx → EReal)
    (x11 x12 : S256x256.Idx → EReal) (x13 : S1x256.Idx → EReal) (x14 : S256x64.Idx → EReal) (x15 : S1x64.Idx → EReal) : Folded where
  mkg i c := x3 (ix2 i c)
  cc c := x4 (ix2 (0 : Fin 1) c)
  mv i c := x5 (ix2 i c)
  cv c := x6 (ix2 (0 : Fin 1) c)
  d1 i c := x7 (ix2 i c)
  d1b c := x8 (ix2 (0 : Fin 1) c)
  d2 i c := x9 (ix2 i c)
  d2b c := x10 (ix2 (0 : Fin 1) c)
  d2g i c := x11 (ix2 i c)
  g2 i c := x12 (ix2 i c)
  g2b c := x13 (ix2 (0 : Fin 1) c)
  fc2 i c := x14 (ix2 i c)
  fc2b c := x15 (ix2 (0 : Fin 1) c)

/-- Row `r`'s query, out of the gathered rows, the query rows and the table rows. -/
def queryOf {R : Nat} (x0 : (⟨3, ![16, R, 128]⟩ : Shape).Idx → EReal) (x1 : (⟨3, ![1, R, 256]⟩ : Shape).Idx → EReal)
    (x2 : (⟨3, ![1, R, 128]⟩ : Shape).Idx → EReal) (r : Fin R) : Query where
  h i := x2 (ix3 (0 : Fin 1) r (⟨i.val, by omega⟩ : Fin 128))
  p i := x2 (ix3 (0 : Fin 1) r (⟨64 + i.val, by omega⟩ : Fin 128))
  q c := x1 (ix3 (0 : Fin 1) r c)
  hn j i := x0 (ix3 j r (⟨i.val, by omega⟩ : Fin 128))
  pn j i := x0 (ix3 j r (⟨64 + i.val, by omega⟩ : Fin 128))

/-- The word of minus infinity. -/
theorem ofBits_bot : Ideal.ofBits FTy.f32 0xFF800000#32 = ⊥ := by
  simp [Ideal.ofBits, Ideal.ieee]

/-- The stored payload at an element. -/
theorem stored_apply (x0 : Vec Ideal S16x256x128 .f32) (x1 : Vec Ideal S1x256x256 .f32) (x2 : Vec Ideal S1x256x128 .f32)
    (x3 : Vec Ideal S64x256 .f32) (x4 : Vec Ideal S1x256 .f32) (x5 : Vec Ideal S64x256 .f32) (x6 : Vec Ideal S1x256 .f32)
    (x7 : Vec Ideal S3x256 .f32) (x8 : Vec Ideal S1x256 .f32) (x9 : Vec Ideal S256x256 .f32) (x10 : Vec Ideal S1x256 .f32)
    (x11 x12 : Vec Ideal S256x256 .f32) (x13 : Vec Ideal S1x256 .f32) (x14 : Vec Ideal S256x64 .f32) (x15 : Vec Ideal S1x64 .f32)
    (r : Fin 256) (k : Fin 64) :
    k2_pay1 (k2_pay6 x2) (k2_pay9 (k2_pay4 x0 x3) (k2_pay5 x0 x5 x6) (k2_pay7 x0 x2 x7 x8) (k2_pay8 x0 x2 x7 x8 x9) x10 x11 x1 x4 x12 x13) x14 x15
        (ix3 (0 : Fin 1) r k)
      = outK (foldedOf x3 x4 x5 x6 x7 x8 x9 x10 x11 x12 x13 x14 x15) (queryOf x0 x1 x2 r) k := by
  unfold outK logitK valueK posEnc Algebra.hidden foldedOf queryOf
  pointwise [k2_pay1, k2_pay2, k2_pay3, k2_pay4, k2_pay5, k2_pay6, k2_pay7, k2_pay8, k2_pay9, ofBits_bot]

/-- What the first call leaves in its block, at an element. -/
theorem out2_apply (x0 : Vec Ideal S16x256x128 .f32) (x1 : Vec Ideal S1x256x256 .f32) (x2 : Vec Ideal S1x256x128 .f32)
    (x3 : Vec Ideal S64x256 .f32) (x4 : Vec Ideal S1x256 .f32) (x5 : Vec Ideal S64x256 .f32) (x6 : Vec Ideal S1x256 .f32)
    (x7 : Vec Ideal S3x256 .f32) (x8 : Vec Ideal S1x256 .f32) (x9 : Vec Ideal S256x256 .f32) (x10 : Vec Ideal S1x256 .f32)
    (x11 x12 : Vec Ideal S256x256 .f32) (x13 : Vec Ideal S1x256 .f32) (x14 : Vec Ideal S256x64 .f32) (x15 : Vec Ideal S1x64 .f32)
    (r : Fin 256) (k : Fin 64) :
    Region2.out2_16 x0 x1 x2 x3 x4 x5 x6 x7 x8 x9 x10 x11 x12 x13 x14 x15 (ix3 (0 : Fin 1) r k)
      = outK (foldedOf x3 x4 x5 x6 x7 x8 x9 x10 x11 x12 x13 x14 x15) (queryOf x0 x1 x2 r) k := by
  unfold Region2.out2_16
  have z3 : (![0, 0, 0] : Fin 3 → Nat) = fun _ => 0 := by decide
  have z2 : (![0, 0] : Fin 2 → Nat) = fun _ => 0 := by decide
  rw [View.canon_unit_zero z3]
  rw [View.ld_unit_zero (S := S16x256x128) z3, View.ld_unit_zero (S := S1x256x256) z3, View.ld_unit_zero (S := S1x256x128) z3,
    View.ld_unit_zero (S := S64x256) z2, View.ld_unit_zero (S := S64x256) z2, View.ld_unit_zero (S := S1x256) z2,
    View.ld_unit_zero (S := S1x256) z2, View.ld_unit_zero (S := S3x256) z2, View.ld_unit_zero (S := S1x256) z2,
    View.ld_unit_zero (S := S256x256) z2, View.ld_unit_zero (S := S1x256) z2, View.ld_unit_zero (S := S256x256) z2,
    View.ld_unit_zero (S := S256x256) z2, View.ld_unit_zero (S := S1x256) z2, View.ld_unit_zero (S := S256x64) z2,
    View.ld_unit_zero (S := S1x64) z2]
  exact stored_apply x0 x1 x2 x3 x4 x5 x6 x7 x8 x9 x10 x11 x12 x13 x14 x15 r k

/-- What the second call leaves in its block, at an element: the same function. -/
theorem out3_apply (x0 : Vec Ideal S16x256x128 .f32) (x1 : Vec Ideal S1x256x256 .f32) (x2 : Vec Ideal S1x256x128 .f32)
    (x3 : Vec Ideal S64x256 .f32) (x4 : Vec Ideal S1x256 .f32) (x5 : Vec Ideal S64x256 .f32) (x6 : Vec Ideal S1x256 .f32)
    (x7 : Vec Ideal S3x256 .f32) (x8 : Vec Ideal S1x256 .f32) (x9 : Vec Ideal S256x256 .f32) (x10 : Vec Ideal S1x256 .f32)
    (x11 x12 : Vec Ideal S256x256 .f32) (x13 : Vec Ideal S1x256 .f32) (x14 : Vec Ideal S256x64 .f32) (x15 : Vec Ideal S1x64 .f32)
    (r : Fin 256) (k : Fin 64) :
    Region3.out3_16 x0 x1 x2 x3 x4 x5 x6 x7 x8 x9 x10 x11 x12 x13 x14 x15 (ix3 (0 : Fin 1) r k)
      = outK (foldedOf x3 x4 x5 x6 x7 x8 x9 x10 x11 x12 x13 x14 x15) (queryOf x0 x1 x2 r) k :=
  out2_apply x0 x1 x2 x3 x4 x5 x6 x7 x8 x9 x10 x11 x12 x13 x14 x15 r k

end Cert.Proof.Pay

end
-- ==== Proof.Result.lean ====
/-
  What the two attention calls leave in their result arrays, at every element: the formula of `Algebra` over the arrays the
  call finds.
-/
module

public import proofs.«01_k».proof.Proof.Pay
public import Idealize.ShloMosaic.Lib.Pipeline.ValueKit

@[expose] public section

noncomputable section

namespace Cert.Proof.Result

open Cert.KernelIdeal Cert.KernelIdeal.Gen Cert.Proof.Algebra Cert.Proof.Pay

open Idealize.ShloMosaic
open Idealize.ShloMosaic.Pipeline (Dat)

variable (V : (c : Dev nD) → (b : Ref sig .tc) → Buf (Elt Ideal) ((c.tc : Thread nD τ).loc b))

/-! ## The first call -/

/-- Where each blocked window's block starts, in block units. -/
theorem idx2 : ∀ t : Fin grid2.N,
    (win2_0.index t 0 = 0 ∧ win2_0.index t 1 = t.val ∧ win2_0.index t 2 = 0)
    ∧ (win2_1.index t 0 = 0 ∧ win2_1.index t 1 = t.val ∧ win2_1.index t 2 = 0)
    ∧ (win2_2.index t 0 = 0 ∧ win2_2.index t 1 = t.val ∧ win2_2.index t 2 = 0)
    ∧ (win2_16.index t 0 = 0 ∧ win2_16.index t 1 = t.val ∧ win2_16.index t 2 = 0) := by decide +kernel

theorem whole2_3 (c : Dev nD) (t : Fin cfg2.N) : Region2.iblk V c 3 t = V c main_v1 := funext fun y => by
  have h : ∀ (t : Fin grid2.N) (a : Fin 2), win2_3.index t a = 0 := by decide +kernel
  blk_ext [Region2.iblk, h t _]
theorem whole2_4 (c : Dev nD) (t : Fin cfg2.N) : Region2.iblk V c 4 t = V c main_v27 := funext fun y => by
  have h : ∀ (t : Fin grid2.N) (a : Fin 2), win2_4.index t a = 0 := by decide +kernel
  blk_ext [Region2.iblk, h t _]
theorem whole2_5 (c : Dev nD) (t : Fin cfg2.N) : Region2.iblk V c 5 t = V c main_v2 := funext fun y => by
  have h : ∀ (t : Fin grid2.N) (a : Fin 2), win2_5.index t a = 0 := by decide +kernel
  blk_ext [Region2.iblk, h t _]
theorem whole2_6 (c : Dev nD) (t : Fin cfg2.N) : Region2.iblk V c 6 t = V c main_v28 := funext fun y => by
  have h : ∀ (t : Fin grid2.N) (a : Fin 2), win2_6.index t a = 0 := by decide +kernel
  blk_ext [Region2.iblk, h t _]
theorem whole2_7 (c : Dev nD) (t : Fin cfg2.N) : Region2.iblk V c 7 t = V c main_arg10 := funext fun y => by
  have h : ∀ (t : Fin grid2.N) (a : Fin 2), win2_7.index t a = 0 := by decide +kernel
  blk_ext [Region2.iblk, h t _]
theorem whole2_8 (c : Dev nD) (t : Fin cfg2.N) : Region2.iblk V c 8 t = V c main_v29 := funext fun y => by
  have h : ∀ (t : Fin grid2.N) (a : Fin 2), win2_8.index t a = 0 := by decide +kernel
  blk_ext [Region2.iblk, h t _]
theorem whole2_9 (c : Dev nD) (t : Fin cfg2.N) : Region2.iblk V c 9 t = V c main_arg12 := funext fun y => by
  have h : ∀ (t : Fin grid2.N) (a : Fin 2), win2_9.index t a = 0 := by decide +kernel
  blk_ext [Region2.iblk, h t _]
theorem whole2_10 (c : Dev nD) (t : Fin cfg2.N) : Region2.iblk V c 10 t = V c main_v30 := funext fun y => by
  have h : ∀ (t : Fin grid2.N) (a : Fin 2), win2_10.index t a = 0 := by decide +kernel
  blk_ext [Region2.iblk, h t _]
theorem whole2_11 (c : Dev nD) (t : Fin cfg2.N) : Region2.iblk V c 11 t = V c main_v4 := funext fun y => by
  have h : ∀ (t : Fin grid2.N) (a : Fin 2), win2_11.index t a = 0 := by decide +kernel
  blk_ext [Region2.iblk, h t _]
theorem whole2_12 (c : Dev nD) (t : Fin cfg2.N) : Region2.iblk V c 12 t = V c main_v10 := funext fun y => by
  have h : ∀ (t : Fin grid2.N) (a : Fin 2), win2_12.index t a = 0 := by decide +kernel
  blk_ext [Region2.iblk, h t _]
theorem whole2_13 (c : Dev nD) (t : Fin cfg2.N) : Region2.iblk V c 13 t = V c main_v31 := funext fun y => by
  have h : ∀ (t : Fin grid2.N) (a : Fin 2), win2_13.index t a = 0 := by decide +kernel
  blk_ext [Region2.iblk, h t _]
theorem whole2_14 (c : Dev nD) (t : Fin cfg2.N) : Region2.iblk V c 14 t = V c main_arg8 := funext fun y => by
  have h : ∀ (t : Fin grid2.N) (a : Fin 2), win2_14.index t a = 0 := by decide +kernel
  blk_ext [Region2.iblk, h t _]
theorem whole2_15 (c : Dev nD) (t : Fin cfg2.N) : Region2.iblk V c 15 t = V c main_v32 := funext fun y => by
  have h : ∀ (t : Fin grid2.N) (a : Fin 2), win2_15.index t a = 0 := by decide +kernel
  blk_ext [Region2.iblk, h t _]
theorem rows2_0 (c : Dev nD) (t : Fin cfg2.N) (j : Fin 16) (r : Fin 256) (i : Fin 128) (n : Fin 2048) (h : n.val = t.val * 256 + r.val) :
    Region2.iblk V c 0 t (ix3 j r i) = V c main_v17 (ix3 j n i) := by
  obtain ⟨h0, h1, h2⟩ := (idx2 t).1
  blk_ext [Region2.iblk, h0, h1, h2, h]
theorem rows2_1 (c : Dev nD) (t : Fin cfg2.N) (r : Fin 256) (i : Fin 256) (n : Fin 2048) (h : n.val = t.val * 256 + r.val) :
    Region2.iblk V c 1 t (ix3 (0 : Fin 1) r i) = V c main_arg0 (ix3 (0 : Fin 1) n i) := by
  obtain ⟨h0, h1, h2⟩ := (idx2 t).2.1
  blk_ext [Region2.iblk, h0, h1, h2, h]
theorem rows2_2 (c : Dev nD) (t : Fin cfg2.N) (r : Fin 256) (i : Fin 128) (n : Fin 2048) (h : n.val = t.val * 256 + r.val) :
    Region2.iblk V c 2 t (ix3 (0 : Fin 1) r i) = V c main_arg2 (ix3 (0 : Fin 1) n i) := by
  obtain ⟨h0, h1, h2⟩ := (idx2 t).2.2.1
  blk_ext [Region2.iblk, h0, h1, h2, h]

theorem query2 (c : Dev nD) (t : Fin cfg2.N) (r : Fin 256) (n : Fin 2048) (h : n.val = t.val * 256 + r.val) :
    queryOf (R := 256) (Region2.iblk V c 0 t) (Region2.iblk V c 1 t) (Region2.iblk V c 2 t) r = queryOf (R := 2048) (V c main_v17) (V c main_arg0) (V c main_arg2) n := by
  unfold queryOf
  simp only [rows2_0 V c t _ r _ n h, rows2_1 V c t r _ n h, rows2_2 V c t r _ n h]

/-- The first call's result array. -/
theorem result2 (c : Dev nD) : Region2.result V c = fun x : S1x2048x64.Idx =>
    outK (foldedOf (V c main_v1) (V c main_v27) (V c main_v2) (V c main_v28) (V c main_arg10) (V c main_v29) (V c main_arg12) (V c main_v30) (V c main_v4) (V c main_v10) (V c main_v31) (V c main_arg8) (V c main_v32))
      (queryOf (R := 2048) (V c main_v17) (V c main_arg0) (V c main_arg2) (x 1)) (x 2) := by
  unfold Region2.result
  refine (Region2.dats V c).arrAt_eq_of_covers 16 _ (by decide +kernel) fun t hf y => ?_
  blk_simp
  rw [Region2.after2_16]
  obtain ⟨h0, h1, h2⟩ := (idx2 t).2.2.2
  obtain ⟨r, k, rfl⟩ : ∃ (r : Fin 256) (k : Fin 64), y = ix3 (0 : Fin 1) r k :=
    ⟨y 1, y 2, by rw [eq_ix3 y]; congr 1; exact Subsingleton.elim (α := Fin 1) _ _⟩
  have ek : (win2_16.blk t).view.emb (ix3 (0 : Fin 1) r k) 2 = k := Fin.ext (by blk_simp [h2])
  have er : ((win2_16.blk t).view.emb (ix3 (0 : Fin 1) r k) 1).val = t.val * 256 + r.val := by blk_simp [h1]
  refine (out2_apply (Region2.iblk V c 0 t) (Region2.iblk V c 1 t) (Region2.iblk V c 2 t) (Region2.iblk V c 3 t) (Region2.iblk V c 4 t) (Region2.iblk V c 5 t) (Region2.iblk V c 6 t) (Region2.iblk V c 7 t) (Region2.iblk V c 8 t) (Region2.iblk V c 9 t) (Region2.iblk V c 10 t) (Region2.iblk V c 11 t) (Region2.iblk V c 12 t) (Region2.iblk V c 13 t) (Region2.iblk V c 14 t) (Region2.iblk V c 15 t) r k).trans ?_
  rw [query2 V c t r _ er, ek, whole2_3, whole2_4, whole2_5, whole2_6, whole2_7, whole2_8, whole2_9, whole2_10, whole2_11, whole2_12, whole2_13, whole2_14, whole2_15]

/-! ## The second call -/

/-- Where each blocked window's block starts, in block units. -/
theorem idx3 : ∀ t : Fin grid3.N,
    (win3_0.index t 0 = 0 ∧ win3_0.index t 1 = t.val ∧ win3_0.index t 2 = 0)
    ∧ (win3_1.index t 0 = 0 ∧ win3_1.index t 1 = t.val ∧ win3_1.index t 2 = 0)
    ∧ (win3_2.index t 0 = 0 ∧ win3_2.index t 1 = t.val ∧ win3_2.index t 2 = 0)
    ∧ (win3_16.index t 0 = 0 ∧ win3_16.index t 1 = t.val ∧ win3_16.index t 2 = 0) := by decide +kernel

theorem whole3_3 (c : Dev nD) (t : Fin cfg3.N) : Region3.iblk V c 3 t = V c main_v1 := funext fun y => by
  have h : ∀ (t : Fin grid3.N) (a : Fin 2), win3_3.index t a = 0 := by decide +kernel
  blk_ext [Region3.iblk, h t _]
theorem whole3_4 (c : Dev nD) (t : Fin cfg3.N) : Region3.iblk V c 4 t = V c main_v40 := funext fun y => by
  have h : ∀ (t : Fin grid3.N) (a : Fin 2), win3_4.index t a = 0 := by decide +kernel
  blk_ext [Region3.iblk, h t _]
theorem whole3_5 (c : Dev nD) (t : Fin cfg3.N) : Region3.iblk V c 5 t = V c main_v2 := funext fun y => by
  have h : ∀ (t : Fin grid3.N) (a : Fin 2), win3_5.index t a = 0 := by decide +kernel
  blk_ext [Region3.iblk, h t _]
theorem whole3_6 (c : Dev nD) (t : Fin cfg3.N) : Region3.iblk V c 6 t = V c main_v41 := funext fun y => by
  have h : ∀ (t : Fin grid3.N) (a : Fin 2), win3_6.index t a = 0 := by decide +kernel
  blk_ext [Region3.iblk, h t _]
theorem whole3_7 (c : Dev nD) (t : Fin cfg3.N) : Region3.iblk V c 7 t = V c main_arg10 := funext fun y => by
  have h : ∀ (t : Fin grid3.N) (a : Fin 2), win3_7.index t a = 0 := by decide +kernel
  blk_ext [Region3.iblk, h t _]
theorem whole3_8 (c : Dev nD) (t : Fin cfg3.N) : Region3.iblk V c 8 t = V c main_v42 := funext fun y => by
  have h : ∀ (t : Fin grid3.N) (a : Fin 2), win3_8.index t a = 0 := by decide +kernel
  blk_ext [Region3.iblk, h t _]
theorem whole3_9 (c : Dev nD) (t : Fin cfg3.N) : Region3.iblk V c 9 t = V c main_arg12 := funext fun y => by
  have h : ∀ (t : Fin grid3.N) (a : Fin 2), win3_9.index t a = 0 := by decide +kernel
  blk_ext [Region3.iblk, h t _]
theorem whole3_10 (c : Dev nD) (t : Fin cfg3.N) : Region3.iblk V c 10 t = V c main_v43 := funext fun y => by
  have h : ∀ (t : Fin grid3.N) (a : Fin 2), win3_10.index t a = 0 := by decide +kernel
  blk_ext [Region3.iblk, h t _]
theorem whole3_11 (c : Dev nD) (t : Fin cfg3.N) : Region3.iblk V c 11 t = V c main_v4 := funext fun y => by
  have h : ∀ (t : Fin grid3.N) (a : Fin 2), win3_11.index t a = 0 := by decide +kernel
  blk_ext [Region3.iblk, h t _]
theorem whole3_12 (c : Dev nD) (t : Fin cfg3.N) : Region3.iblk V c 12 t = V c main_v10 := funext fun y => by
  have h : ∀ (t : Fin grid3.N) (a : Fin 2), win3_12.index t a = 0 := by decide +kernel
  blk_ext [Region3.iblk, h t _]
theorem whole3_13 (c : Dev nD) (t : Fin cfg3.N) : Region3.iblk V c 13 t = V c main_v44 := funext fun y => by
  have h : ∀ (t : Fin grid3.N) (a : Fin 2), win3_13.index t a = 0 := by decide +kernel
  blk_ext [Region3.iblk, h t _]
theorem whole3_14 (c : Dev nD) (t : Fin cfg3.N) : Region3.iblk V c 14 t = V c main_arg8 := funext fun y => by
  have h : ∀ (t : Fin grid3.N) (a : Fin 2), win3_14.index t a = 0 := by decide +kernel
  blk_ext [Region3.iblk, h t _]
theorem whole3_15 (c : Dev nD) (t : Fin cfg3.N) : Region3.iblk V c 15 t = V c main_v45 := funext fun y => by
  have h : ∀ (t : Fin grid3.N) (a : Fin 2), win3_15.index t a = 0 := by decide +kernel
  blk_ext [Region3.iblk, h t _]
theorem rows3_0 (c : Dev nD) (t : Fin cfg3.N) (j : Fin 16) (r : Fin 256) (i : Fin 128) (n : Fin 2048) (h : n.val = t.val * 256 + r.val) :
    Region3.iblk V c 0 t (ix3 j r i) = V c main_v20 (ix3 j n i) := by
  obtain ⟨h0, h1, h2⟩ := (idx3 t).1
  blk_ext [Region3.iblk, h0, h1, h2, h]
theorem rows3_1 (c : Dev nD) (t : Fin cfg3.N) (r : Fin 256) (i : Fin 256) (n : Fin 2048) (h : n.val = t.val * 256 + r.val) :
    Region3.iblk V c 1 t (ix3 (0 : Fin 1) r i) = V c main_arg1 (ix3 (0 : Fin 1) n i) := by
  obtain ⟨h0, h1, h2⟩ := (idx3 t).2.1
  blk_ext [Region3.iblk, h0, h1, h2, h]
theorem rows3_2 (c : Dev nD) (t : Fin cfg3.N) (r : Fin 256) (i : Fin 128) (n : Fin 2048) (h : n.val = t.val * 256 + r.val) :
    Region3.iblk V c 2 t (ix3 (0 : Fin 1) r i) = V c main_arg3 (ix3 (0 : Fin 1) n i) := by
  obtain ⟨h0, h1, h2⟩ := (idx3 t).2.2.1
  blk_ext [Region3.iblk, h0, h1, h2, h]

theorem query3 (c : Dev nD) (t : Fin cfg3.N) (r : Fin 256) (n : Fin 2048) (h : n.val = t.val * 256 + r.val) :
    queryOf (R := 256) (Region3.iblk V c 0 t) (Region3.iblk V c 1 t) (Region3.iblk V c 2 t) r = queryOf (R := 2048) (V c main_v20) (V c main_arg1) (V c main_arg3) n := by
  unfold queryOf
  simp only [rows3_0 V c t _ r _ n h, rows3_1 V c t r _ n h, rows3_2 V c t r _ n h]

/-- The second call's result array. -/
theorem result3 (c : Dev nD) : Region3.result V c = fun x : S1x2048x64.Idx =>
    outK (foldedOf (V c main_v1) (V c main_v40) (V c main_v2) (V c main_v41) (V c main_arg10) (V c main_v42) (V c main_arg12) (V c main_v43) (V c main_v4) (V c main_v10) (V c main_v44) (V c main_arg8) (V c main_v45))
      (queryOf (R := 2048) (V c main_v20) (V c main_arg1) (V c main_arg3) (x 1)) (x 2) := by
  unfold Region3.result
  refine (Region3.dats V c).arrAt_eq_of_covers 16 _ (by decide +kernel) fun t hf y => ?_
  blk_simp
  rw [Region3.after3_16]
  obtain ⟨h0, h1, h2⟩ := (idx3 t).2.2.2
  obtain ⟨r, k, rfl⟩ : ∃ (r : Fin 256) (k : Fin 64), y = ix3 (0 : Fin 1) r k :=
    ⟨y 1, y 2, by rw [eq_ix3 y]; congr 1; exact Subsingleton.elim (α := Fin 1) _ _⟩
  have ek : (win3_16.blk t).view.emb (ix3 (0 : Fin 1) r k) 2 = k := Fin.ext (by blk_simp [h2])
  have er : ((win3_16.blk t).view.emb (ix3 (0 : Fin 1) r k) 1).val = t.val * 256 + r.val := by blk_simp [h1]
  refine (out3_apply (Region3.iblk V c 0 t) (Region3.iblk V c 1 t) (Region3.iblk V c 2 t) (Region3.iblk V c 3 t) (Region3.iblk V c 4 t) (Region3.iblk V c 5 t) (Region3.iblk V c 6 t) (Region3.iblk V c 7 t) (Region3.iblk V c 8 t) (Region3.iblk V c 9 t) (Region3.iblk V c 10 t) (Region3.iblk V c 11 t) (Region3.iblk V c 12 t) (Region3.iblk V c 13 t) (Region3.iblk V c 14 t) (Region3.iblk V c 15 t) r k).trans ?_
  rw [query3 V c t r _ er, ek, whole3_3, whole3_4, whole3_5, whole3_6, whole3_7, whole3_8, whole3_9, whole3_10, whole3_11, whole3_12, whole3_13, whole3_14, whole3_15]

end Cert.Proof.Result

end
-- ==== Proof.Value.lean ====
/-
  The gathered rows in closed form, as the kernel's reshapes and calls leave them and as the reference's gather reads
  them.
-/
module

public import proofs.«01_k».proof.Proof.Rows
public import proofs.«01_k».proof.Proof.Gen.ReferenceIdeal
public import Idealize.ShloMosaic.Lib.Pointwise

@[expose] public section

noncomputable section

namespace Cert.Proof.Value

open Cert.KernelIdeal Cert.KernelIdeal.Gen Cert.Proof.Rows

open Idealize.ShloMosaic

variable {F : FTy → Type} [FloatOps F]

/-- Row `(b, n)` of the result is the table's row that word `(b, n)` of the list names. -/
def wanted (tb : S1x2048x128.Idx → Elt F .f32) (ix : S16x2048.Idx → BitVec 32) : S16x2048x128.Idx → Elt F .f32 :=
  fun x => tb (ix3 (0 : Fin 1) (Fin.ofNat 2048 (ix (ix2 (x 0) (x 1))).toNat) (x 2))

theorem table_recast (tb : S1x2048x128.Idx → Elt F .f32) (h : S1x2048x128.ShapeCasts S2048x128) (a : Fin 2048) (b : Fin 128) :
    shapeCast S2048x128 tb h (ix2 a b) = tb (ix3 (0 : Fin 1) a b) := by
  refine congrArg tb (Shape.reshapeEquiv_eq_of_vals _ _ _ _ _ (rowMajor_val3 _ 262144 128 rfl rfl) (rowMajor_val2 _ 128 rfl) ?_)
  simp only [ix3_0, ix3_1, ix3_2, ix2_0, ix2_1, Fin.val_zero, Nat.zero_mul, Nat.zero_add]

/-- The kernel's result: the rows gathered by the flat list, recast to the list's two axes. -/
theorem kernel_rows (tb : S1x2048x128.Idx → Elt F .f32) (ix : S16x2048.Idx → BitVec 32) (h1 : S1x2048x128.ShapeCasts S2048x128)
    (h2 : S16x2048.ShapeCasts S32768) (h3 : S32768x128.ShapeCasts S16x2048x128) :
    shapeCast S16x2048x128 (rowsOf (F := F) (shapeCast S2048x128 tb h1) (shapeCast S32768 ix h2)) h3 = wanted tb ix := by
  funext x
  have hb : (x 0).val * 2048 + (x 1).val < 32768 := by
    have h0 : (x 0).val < 16 := (x 0).isLt
    have h1 : (x 1).val < 2048 := (x 1).isLt
    omega
  have e : Shape.reshapeEquiv h3 x = ix2 (⟨(x 0).val * 2048 + (x 1).val, hb⟩ : Fin 32768) (x 2) :=
    Shape.reshapeEquiv_eq_of_vals _ _ _ _ _ (rowMajor_val2 _ 128 rfl) (rowMajor_val3 _ 262144 128 rfl rfl) (by
      show ((x 0).val * 2048 + (x 1).val) * 128 + (x 2).val = (x 0).val * 262144 + (x 1).val * 128 + (x 2).val
      omega)
  have e' : shapeCast S32768 ix h2 (ix1 (⟨(x 0).val * 2048 + (x 1).val, hb⟩ : Fin 32768)) = ix (ix2 (x 0) (x 1)) :=
    congrArg ix (Shape.reshapeEquiv_eq_of_vals _ _ _ _ _ (rowMajor_val2 _ 2048 rfl) (rowMajor_val1 _) rfl)
  show rowsOf (F := F) (shapeCast S2048x128 tb h1) (shapeCast S32768 ix h2) (Shape.reshapeEquiv h3 x) = _
  rw [e]
  show shapeCast S2048x128 tb h1 (ix2 (Fin.ofNat 2048 (shapeCast S32768 ix h2 (ix1 (⟨(x 0).val * 2048 + (x 1).val, hb⟩ : Fin 32768))).toNat) (x 2)) = _
  rw [e']
  exact (table_recast tb h1 _ _).trans rfl

/-- The axes of a gather of whole rows, one for each word of a two-axis list. -/
abbrev rowsDims (N C R B : Nat) (wf : GatherDims.WF ⟨2, ![N, C]⟩ ⟨3, ![R, B, 1]⟩ ⟨3, ![R, B, C]⟩ [2] [0] [] [0] [] 2 ![1, C]) :
    GatherDims ⟨2, ![N, C]⟩ ⟨3, ![R, B, 1]⟩ ⟨3, ![R, B, C]⟩ where
  offsetDims := [2]
  collapsedSliceDims := [0]
  operandBatchingDims := []
  startIndicesBatchingDims := []
  startIndexMap := [0]
  indexVectorDim := 2
  sliceSizes := ![1, C]
  wf := wf

/-- Such a gather read at an element: the row is the word, read signed and clamped into the table. -/
theorem gather_rows_apply {N C R B w : Nat} {α : Type} (hN : 0 < N)
    (wf : GatherDims.WF ⟨2, ![N, C]⟩ ⟨3, ![R, B, 1]⟩ ⟨3, ![R, B, C]⟩ [2] [0] [] [0] [] 2 ![1, C])
    (x : (⟨2, ![N, C]⟩ : Shape).Idx → α) (idx : IVec ⟨3, ![R, B, 1]⟩ w) (a : Fin R) (b : Fin B) (c : Fin C) :
    Host.gather (rowsDims N C R B wf) x idx (ix3 a b c)
      = x (ix2 ⟨min (idx (ix3 a b (0 : Fin 1))).toInt.toNat (N - 1), by omega⟩ c) := by
  unfold Host.gather
  congr 1
  funext k
  refine Fin.ext ?_
  show (rowsDims N C R B wf).start (ix3 a b c) idx k + (rowsDims N C R B wf).batchCoord (ix3 a b c) k + (rowsDims N C R B wf).offCoord (ix3 a b c) k = _
  rw [GatherDims.batchCoord_eq_zero _ _ _ List.not_mem_nil]
  have h01 : k = 0 ∨ k = 1 := by
    match k with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R B wf).startIndexMap from List.mem_singleton.mpr rfl)]
    have hsi : (rowsDims N C R B wf).siIdx (ix3 a b c) ⟨List.idxOf (0 : Fin 2) (rowsDims N C R B wf).startIndexMap, List.idxOf_lt_length_iff.2 (List.mem_singleton.mpr rfl)⟩
        = ix3 a b (0 : Fin 1) := by
      funext q; refine Fin.ext ?_
      match q with
      | ⟨0, _⟩ => rfl
      | ⟨1, _⟩ => rfl
      | ⟨2, _⟩ => rfl
    rw [hsi]
    rfl
  · unfold GatherDims.start GatherDims.offCoord
    rw [dif_neg (show ¬ (1 : Fin 2) ∈ (rowsDims N C R B wf).startIndexMap from by simp),
      dif_pos (show (1 : Fin 2) ∈ (rowsDims N C R B wf).sKept from (GatherDims.mem_sKept _ _).mpr ⟨by simp, by simp⟩)]
    simp only [Nat.zero_add]
    rfl

/-- A word in range, read signed, is its own value. -/
theorem toInt_in_range (v : BitVec 32) (h : v.toNat < 2048) : v.toInt.toNat = v.toNat := by
  rw [BitVec.toInt_eq_toNat_cond, if_pos (by omega)]; rfl

/-- In the reference's list a negative word counts from the table's end; a word in range is itself. -/
theorem slt_in_range (v : BitVec 32) (h : v.toNat < 2048) : IntOp.cmpi .slt v 0#32 = 0#1 := by
  have e : v.slt 0#32 = false := by
    rw [BitVec.slt_eq_decide, BitVec.toInt_eq_toNat_cond, if_pos (by omega)]; simp
  simp only [IntOp.cmpi, e]; rfl

/-- The reference's list, one row of sixteen words for each query, with a negative word counting from the table's end. -/
def starts (ix : IVec S16x2048 32) : IVec Cert.ReferenceIdeal.S2048x16x1 32 :=
  broadcastInDim Cert.ReferenceIdeal.S2048x16x1 ![0, 1] Cert.ReferenceIdeal.Gen.bcast_S2048x16_S2048x16x1_0_1
    (select (cmpi .slt (transpose Cert.ReferenceIdeal.S2048x16 [1, 0] ix Cert.ReferenceIdeal.Gen.transposes_S16x2048_S2048x16_1_0)
        (broadcastInDim Cert.ReferenceIdeal.S2048x16 ![] Cert.ReferenceIdeal.Gen.bcast_S_S2048x16 (constantI Cert.ReferenceIdeal.S_ 32 0#32)))
      (addi (transpose Cert.ReferenceIdeal.S2048x16 [1, 0] ix Cert.ReferenceIdeal.Gen.transposes_S16x2048_S2048x16_1_0)
        (broadcastInDim Cert.ReferenceIdeal.S2048x16 ![] Cert.ReferenceIdeal.Gen.bcast_S_S2048x16 (constantI Cert.ReferenceIdeal.S_ 32 2048#32)))
      (transpose Cert.ReferenceIdeal.S2048x16 [1, 0] ix Cert.ReferenceIdeal.Gen.transposes_S16x2048_S2048x16_1_0))

/-- The reference's list at an element: the word itself, being no negative one. -/
theorem starts_apply (ix : IVec S16x2048 32) (h : ∀ x, (ix x).toNat < 2048) (n : Fin 2048) (j : Fin 16) :
    starts ix (ix3 n j (0 : Fin 1)) = ix (ix2 j n) := by
  have e : ∀ v w : BitVec 32, v.toNat < 2048 → (if IntOp.cmpi .slt v 0#32 = 1#1 then w else v) = v := fun v w hv => by
    rw [slt_in_range _ hv]; rfl
  unfold starts
  pointwise
  exact e _ _ (h _)

/-- The table's row that word `(j, n)` names. -/
def row (ix : IVec S16x2048 32) (j : Fin 16) (n : Fin 2048) : Fin 2048 := Fin.ofNat 2048 (ix (ix2 j n)).toNat

theorem start_row (ix : IVec S16x2048 32) (h : ∀ x, (ix x).toNat < 2048) (n : Fin 2048) (j : Fin 16) {k : Fin 2048}
    (hk : k.val = min (starts ix (ix3 n j (0 : Fin 1))).toInt.toNat (2048 - 1)) : k = row ix j n := by
  have hv := h (ix2 j n)
  refine Fin.ext (hk.trans ?_)
  show _ = (ix (ix2 j n)).toNat % 2048
  rw [starts_apply ix h, toInt_in_range _ hv, Nat.mod_eq_of_lt hv]
  omega

/-- The reference's gather of whole rows, at an element. -/
theorem gather256_apply {α : Type} (ix : IVec S16x2048 32) (h : ∀ x, (ix x).toNat < 2048) (x : Cert.ReferenceIdeal.S2048x256.Idx → α)
    (n : Fin 2048) (j : Fin 16) (c : Fin 256) :
    Host.gather Cert.ReferenceIdeal.gather_S2048x256_S2048x16x1_S2048x16x256_2_0_n_n_0_2_1256 x (starts ix) (ix3 n j c) = x (ix2 (row ix j n) c) :=
  (gather_rows_apply (by decide) _ _ _ n j c).trans (congrArg (fun k => x (ix2 k c)) (start_row ix h n j rfl))

/-- The reference's gather of positions, at an element. -/
theorem gather3_apply {α : Type} (ix : IVec S16x2048 32) (h : ∀ x, (ix x).toNat < 2048) (x : Cert.ReferenceIdeal.S2048x3.Idx → α)
    (n : Fin 2048) (j : Fin 16) (c : Fin 3) :
    Host.gather Cert.ReferenceIdeal.gather_S2048x3_S2048x16x1_S2048x16x3_2_0_n_n_0_2_13 x (starts ix) (ix3 n j c) = x (ix2 (row ix j n) c) :=
  (gather_rows_apply (by decide) _ _ _ n j c).trans (congrArg (fun k => x (ix2 k c)) (start_row ix h n j rfl))

end Cert.Proof.Value

end
-- ==== Proof.Ref.lean ====
/-
  The reference's result, read at an element: the formula of `Algebra`, over the rows of the table that the list names.
-/
module

public import proofs.«01_k».proof.Proof.Pay
public import proofs.«01_k».proof.Proof.Value

@[expose] public section

noncomputable section

namespace Cert.Proof.Ref

open Cert.ReferenceIdeal Cert.ReferenceIdeal.Gen Cert.Proof.Algebra Cert.Proof.Pay Cert.Proof.Value

open Idealize.ShloMosaic

/-- The weights, as the arguments hold them. -/
def weightsOf (a6 : S64x256.Idx → EReal) (a7 : S256.Idx → EReal) (a8 : S256x64.Idx → EReal) (a9 : S64.Idx → EReal)
    (a10 : S3x256.Idx → EReal) (a11 : S256.Idx → EReal) (a12 : S256x256.Idx → EReal) (a13 : S256.Idx → EReal)
    (a14 : S256x256.Idx → EReal) (a15 : S256.Idx → EReal) (a16 : S256x256.Idx → EReal) (a17 : S256.Idx → EReal)
    (a18 a19 : S256x256.Idx → EReal) : Weights where
  fc1 i j := a6 (ix2 i j)
  fc1b i := a7 (ix1 i)
  fc2 i j := a8 (ix2 i j)
  fc2b i := a9 (ix1 i)
  d1 i j := a10 (ix2 i j)
  d1b i := a11 (ix1 i)
  d2 i j := a12 (ix2 i j)
  d2b i := a13 (ix1 i)
  g1 i j := a14 (ix2 i j)
  g1b i := a15 (ix1 i)
  g2 i j := a16 (ix2 i j)
  g2b i := a17 (ix1 i)
  wk i j := a18 (ix2 i j)
  wv i j := a19 (ix2 i j)

/-- The query of row `n`: its own rows, and the rows of the table that its words name. -/
abbrev query (q : S1x2048x256.Idx → EReal) (tb : S1x2048x128.Idx → EReal) (ix : IVec S16x2048 32) (n : Fin 2048) : Query :=
  queryOf (R := 2048) (wanted (F := Ideal) tb ix) q tb n

variable (q : FVec Ideal S1x2048x256 .f32) (tb : FVec Ideal S1x2048x128 .f32) (ix : IVec S16x2048 32)
  (a6 : FVec Ideal S64x256 .f32) (a7 : FVec Ideal S256 .f32) (a8 : FVec Ideal S256x64 .f32) (a9 : FVec Ideal S64 .f32)
  (a10 : FVec Ideal S3x256 .f32) (a11 : FVec Ideal S256 .f32) (a12 : FVec Ideal S256x256 .f32) (a13 : FVec Ideal S256 .f32)
  (a14 : FVec Ideal S256x256 .f32) (a15 : FVec Ideal S256 .f32) (a16 : FVec Ideal S256x256 .f32) (a17 : FVec Ideal S256 .f32)
  (a18 a19 : FVec Ideal S256x256 .f32)

/-! ## The reference's stages -/

def feats : FVec Ideal S2048x64 .f32 := extractStridedSlice S2048x64 ![0, 0] (shapeCast S2048x128 tb shapeCasts_S1x2048x128_S2048x128) slices_S2048x128_S2048x64_0_0
def poss : FVec Ideal S2048x3 .f32 := extractStridedSlice S2048x3 ![0, 64] (shapeCast S2048x128 tb shapeCasts_S1x2048x128_S2048x128) slices_S2048x128_S2048x3_0_64
def layer1 : FVec Ideal S2048x256 .f32 :=
  addf (Host.dotGeneral dot_S2048x64_S64x256_S2048x256_1_0_0_1_n_n none (feats tb) a6) (broadcastInDim S2048x256 ![0, 1] bcast_S1x256_S2048x256_0_1 (broadcastInDim S1x256 ![1] bcast_S256_S1x256_1 a7))
def projected (w : FVec Ideal S256x256 .f32) : FVec Ideal S2048x16x256 .f32 :=
  Host.gather gather_S2048x256_S2048x16x1_S2048x16x256_2_0_n_n_0_2_1256 (Host.dotGeneral dot_S2048x256_S256x256_S2048x256_1_0_0_1_n_n none (layer1 tb a6 a7) w) (starts ix)
def perQuery (b : FVec Ideal S256 .f32) : FVec Ideal S2048x16x256 .f32 :=
  broadcastInDim S2048x16x256 ![0, 1, 2] bcast_S1x1x256_S2048x16x256_0_1_2 (broadcastInDim S1x1x256 ![2] bcast_S256_S1x1x256_2 b)
def perRow (b : FVec Ideal S2048x256 .f32) : FVec Ideal S2048x16x256 .f32 :=
  broadcastInDim S2048x16x256 ![0, 1, 2] bcast_S2048x1x256_S2048x16x256_0_1_2 (broadcastInDim S2048x1x256 ![0, 2] bcast_S2048x256_S2048x1x256_0_2 b)
def relu (x : FVec Ideal S2048x16x256 .f32) : FVec Ideal S2048x16x256 .f32 :=
  maximumf x (broadcastInDim S2048x16x256 ![] bcast_S_S2048x16x256 (constant (F := Ideal) S_ .f32 0x00000000#32))
def times (x : FVec Ideal S2048x16x256 .f32) (w : FVec Ideal S256x256 .f32) : FVec Ideal S2048x16x256 .f32 :=
  Host.dotGeneral dot_S2048x16x256_S256x256_S2048x16x256_2_0_01_1_n_n none x w
def firstLayer : FVec Ideal S2048x16x256 .f32 :=
  relu (addf (Host.dotGeneral dot_S2048x16x3_S3x256_S2048x16x256_2_0_01_1_n_n none (subf (broadcastInDim S2048x16x3 ![0, 1, 2] bcast_S2048x1x3_S2048x16x3_0_1_2 (broadcastInDim S2048x1x3 ![0, 2] bcast_S2048x3_S2048x1x3_0_2 (poss tb))) (Host.gather gather_S2048x3_S2048x16x1_S2048x16x3_2_0_n_n_0_2_13 (poss tb) (starts ix))) a10) (perQuery a11))
def encoding : FVec Ideal S2048x16x256 .f32 := addf (times (firstLayer tb ix a10 a11) a12) (perQuery a13)
def logits : FVec Ideal S2048x16x256 .f32 :=
  Host.divf (addf (times (relu (addf (addf (perRow (shapeCast S2048x256 q shapeCasts_S1x2048x256_S2048x256)) (times (subf (encoding tb ix a10 a11 a12 a13) (projected tb ix a6 a7 a18)) a14)) (perQuery a15))) a16) (perQuery a17))
    (broadcastInDim S2048x16x256 ![] bcast_S_S2048x16x256 (constant (F := Ideal) S_ .f32 0x41800000#32))
def expo (l : FVec Ideal S2048x16x256 .f32) : FVec Ideal S2048x16x256 .f32 :=
  Host.exp (subf l (perRow (maximumf (broadcastInDim S2048x256 ![] bcast_S_S2048x256 (constant (F := Ideal) S_ .f32 0xFF800000#32)) (Host.reduce FloatOps.maximumf l (constant (F := Ideal) S_ .f32 0xFF800000#32) reducesTo_S2048x16x256_S2048x256_d1 h_S_))))
def soft (e : FVec Ideal S2048x16x256 .f32) : FVec Ideal S2048x16x256 .f32 :=
  Host.divf e (perRow (Host.reduceAdd e (constant (F := Ideal) S_ .f32 0x00000000#32) reducesTo_S2048x16x256_S2048x256_d1 h_S_))
def attended : FVec Ideal S2048x256 .f32 :=
  Host.reduceAdd (mulf (soft (expo (logits q tb ix a6 a7 a10 a11 a12 a13 a14 a15 a16 a17 a18))) (addf (projected tb ix a6 a7 a19) (encoding tb ix a10 a11 a12 a13)))
    (constant (F := Ideal) S_ .f32 0x00000000#32) reducesTo_S2048x16x256_S2048x256_d1 h_S_
/-- One batch of the reference's result. -/
def batch : FVec Ideal S1x2048x64 .f32 :=
  broadcastInDim S1x2048x64 ![1, 2] bcast_S2048x64_S1x2048x64_1_2 (addf (addf (Host.dotGeneral dot_S2048x256_S256x64_S2048x64_1_0_0_1_n_n none (attended q tb ix a6 a7 a10 a11 a12 a13 a14 a15 a16 a17 a18 a19) a8)
    (broadcastInDim S2048x64 ![0, 1] bcast_S1x64_S2048x64_0_1 (broadcastInDim S1x64 ![1] bcast_S64_S1x64_1 a9))) (feats tb))

/-! ## Read at an element -/

theorem feats_apply (n : Fin 2048) (i : Fin 64) : feats tb (ix2 n i) = tb (ix3 (0 : Fin 1) n (⟨i.val, by omega⟩ : Fin 128)) := by
  pointwise [feats]
theorem poss_apply (n : Fin 2048) (i : Fin 3) : poss tb (ix2 n i) = tb (ix3 (0 : Fin 1) n (⟨64 + i.val, by omega⟩ : Fin 128)) := by
  pointwise [poss]
theorem layer1_apply (n : Fin 2048) (c : Fin 256) : layer1 tb a6 a7 (ix2 n c) = ∑ i : Fin 64, tb (ix3 (0 : Fin 1) n (⟨i.val, by omega⟩ : Fin 128)) * a6 (ix2 i c) + a7 (ix1 c) := by
  pointwise [layer1, feats_apply]
theorem perQuery_apply (b : FVec Ideal S256 .f32) (n : Fin 2048) (j : Fin 16) (c : Fin 256) : perQuery b (ix3 n j c) = b (ix1 c) := by
  pointwise [perQuery]
theorem perRow_apply (b : FVec Ideal S2048x256 .f32) (n : Fin 2048) (j : Fin 16) (c : Fin 256) : perRow b (ix3 n j c) = b (ix2 n c) := by
  pointwise [perRow]
theorem relu_apply (x : FVec Ideal S2048x16x256 .f32) (n : Fin 2048) (j : Fin 16) (c : Fin 256) : relu x (ix3 n j c) = max (x (ix3 n j c)) (0 : EReal) := by
  pointwise [relu]
theorem times_apply (x : FVec Ideal S2048x16x256 .f32) (w : FVec Ideal S256x256 .f32) (n : Fin 2048) (j : Fin 16) (c : Fin 256) :
    times x w (ix3 n j c) = ∑ a : Fin 256, x (ix3 n j a) * w (ix2 a c) := by
  pointwise [times]

/-- The word of sixteen. -/
theorem ofBits_16 : Ideal.ofBits FTy.f32 0x41800000#32 = ((16 : ℝ) : EReal) := by
  simp [Ideal.ofBits, Ideal.ieee, -EReal.coe_mul]; norm_num

theorem query_hn (n : Fin 2048) (j : Fin 16) (i : Fin 64) :
    (query q tb ix n).hn j i = tb (ix3 (0 : Fin 1) (row ix j n) (⟨i.val, by omega⟩ : Fin 128)) := rfl
theorem query_pn (n : Fin 2048) (j : Fin 16) (i : Fin 3) :
    (query q tb ix n).pn j i = tb (ix3 (0 : Fin 1) (row ix j n) (⟨64 + i.val, by omega⟩ : Fin 128)) := rfl
theorem query_h (n : Fin 2048) (i : Fin 64) : (query q tb ix n).h i = tb (ix3 (0 : Fin 1) n (⟨i.val, by omega⟩ : Fin 128)) := rfl
theorem query_p (n : Fin 2048) (i : Fin 3) : (query q tb ix n).p i = tb (ix3 (0 : Fin 1) n (⟨64 + i.val, by omega⟩ : Fin 128)) := rfl
theorem query_q (n : Fin 2048) (c : Fin 256) : (query q tb ix n).q c = q (ix3 (0 : Fin 1) n c) := rfl

/-- The greatest over the middle axis, at an element. -/
theorem max_apply {A B C : Nat} (h : (⟨3, ![A, B, C]⟩ : Shape).ReducesTo [1] (⟨2, ![A, C]⟩ : Shape)) (l : FVec Ideal (⟨3, ![A, B, C]⟩ : Shape) .f32) {u : Shape}
    (c0 : FVec Ideal u .f32) (hu : 0 < u.numel) (n : Fin A) (c : Fin C) :
    Host.reduce FloatOps.maximumf l c0 h hu (ix2 n c)
      = Finset.univ.fold max (c0 (Shape.Idx.first hu)) fun j' : Fin B => l (ix3 n j' c) := by
  rw [Host.reduce_eq_fold]
  exact (Shape.ReducesTo.fold_fiber_r3_a1 h (ix2 n c) (FloatOps.maximumf (F := Ideal) (φ := .f32)) _ l).trans rfl

theorem maximumf_at {s : Shape} (a b : FVec Ideal s .f32) (i : s.Idx) : maximumf a b i = max (a i : EReal) (b i) := rfl
theorem exp_sub_at {s : Shape} (a b : FVec Ideal s .f32) (i : s.Idx) : Host.exp (subf a b) i = Ideal.exp ((a i : EReal) - b i) := rfl
theorem splat_at {s : Shape} (h : S_.BroadcastsInDim s ![]) (w : BitVec 32) (i : s.Idx) :
    broadcastInDim s ![] h (constant (F := Ideal) S_ .f32 w) i = Ideal.ofBits FTy.f32 w := rfl
theorem constant_at (w : BitVec 32) (i : S_.Idx) : constant (F := Ideal) S_ .f32 w i = Ideal.ofBits FTy.f32 w := rfl

theorem expo_apply (l : FVec Ideal S2048x16x256 .f32) (n : Fin 2048) (j : Fin 16) (c : Fin 256) :
    expo l (ix3 n j c) = Ideal.exp (l (ix3 n j c) - Finset.univ.fold max ⊥ fun j' : Fin 16 => l (ix3 n j' c)) := by
  unfold expo
  rw [exp_sub_at, perRow_apply, maximumf_at, splat_at, ofBits_bot, max_eq_right bot_le, max_apply, constant_at, ofBits_bot]

theorem soft_apply (e : FVec Ideal S2048x16x256 .f32) (n : Fin 2048) (j : Fin 16) (c : Fin 256) :
    soft e (ix3 n j c) = Ideal.div (e (ix3 n j c)) (∑ j' : Fin 16, e (ix3 n j' c)) := by
  pointwise [soft, perRow_apply]

section
variable (h : ∀ x, (ix x).toNat < 2048)
include h

theorem projected_apply (w : FVec Ideal S256x256 .f32) (n : Fin 2048) (j : Fin 16) (c : Fin 256) :
    projected tb ix a6 a7 w (ix3 n j c) = ∑ a : Fin 256, (∑ i : Fin 64, (query q tb ix n).hn j i * a6 (ix2 i a) + a7 (ix1 a)) * w (ix2 a c) := by
  unfold projected
  rw [gather256_apply ix h]
  pointwise [layer1_apply]
  simp only [query_hn]

theorem firstLayer_apply (n : Fin 2048) (j : Fin 16) (c : Fin 256) :
    firstLayer tb ix a10 a11 (ix3 n j c) = hidden (fun i j => a10 (ix2 i j)) (fun i => a11 (ix1 i)) (query q tb ix n) j c := by
  unfold firstLayer
  rw [relu_apply]
  pointwise [perQuery_apply, gather3_apply ix h, poss_apply]
  simp only [Algebra.hidden, query_p, query_pn]

theorem encoding_apply (n : Fin 2048) (j : Fin 16) (c : Fin 256) :
    encoding tb ix a10 a11 a12 a13 (ix3 n j c)
      = posEnc (fun i j => a10 (ix2 i j)) (fun i => a11 (ix1 i)) (fun i j => a12 (ix2 i j)) (fun i => a13 (ix1 i)) (query q tb ix n) j c := by
  unfold encoding
  show times _ _ _ + perQuery _ _ = _
  rw [times_apply, perQuery_apply]
  simp only [firstLayer_apply q tb ix a10 a11 h]
  rfl

theorem logits_apply (n : Fin 2048) (j : Fin 16) (c : Fin 256) :
    logits q tb ix a6 a7 a10 a11 a12 a13 a14 a15 a16 a17 a18 (ix3 n j c) = logitR (weightsOf a6 a7 a8 a9 a10 a11 a12 a13 a14 a15 a16 a17 a18 a19) (query q tb ix n) j c := by
  unfold logits
  pointwise [times_apply, perQuery_apply, perRow_apply, relu_apply, encoding_apply q tb ix a10 a11 a12 a13 h, projected_apply q tb ix a6 a7 h]
  rw [ofBits_16]
  rfl

theorem attended_apply (n : Fin 2048) (c : Fin 256) :
    attended q tb ix a6 a7 a10 a11 a12 a13 a14 a15 a16 a17 a18 a19 (ix2 n c)
      = ∑ j : Fin 16, Ideal.div
          (Ideal.exp (logitR (weightsOf a6 a7 a8 a9 a10 a11 a12 a13 a14 a15 a16 a17 a18 a19) (query q tb ix n) j c - Finset.univ.fold max ⊥ fun j' : Fin 16 => logitR (weightsOf a6 a7 a8 a9 a10 a11 a12 a13 a14 a15 a16 a17 a18 a19) (query q tb ix n) j' c))
          (∑ j : Fin 16, Ideal.exp (logitR (weightsOf a6 a7 a8 a9 a10 a11 a12 a13 a14 a15 a16 a17 a18 a19) (query q tb ix n) j c - Finset.univ.fold max ⊥ fun j' : Fin 16 => logitR (weightsOf a6 a7 a8 a9 a10 a11 a12 a13 a14 a15 a16 a17 a18 a19) (query q tb ix n) j' c))
        * valueR (weightsOf a6 a7 a8 a9 a10 a11 a12 a13 a14 a15 a16 a17 a18 a19) (query q tb ix n) j c := by
  have e : ∀ j : Fin 16, expo (logits q tb ix a6 a7 a10 a11 a12 a13 a14 a15 a16 a17 a18) (ix3 n j c)
      = Ideal.exp (logitR (weightsOf a6 a7 a8 a9 a10 a11 a12 a13 a14 a15 a16 a17 a18 a19) (query q tb ix n) j c - Finset.univ.fold max ⊥ fun j' : Fin 16 => logitR (weightsOf a6 a7 a8 a9 a10 a11 a12 a13 a14 a15 a16 a17 a18 a19) (query q tb ix n) j' c) := fun j => by
    rw [expo_apply]
    simp only [logits_apply q tb ix a6 a7 a8 a9 a10 a11 a12 a13 a14 a15 a16 a17 a18 a19 h]
  unfold attended
  generalize expo (logits q tb ix a6 a7 a10 a11 a12 a13 a14 a15 a16 a17 a18) = E at e ⊢
  pointwise [soft_apply, projected_apply q tb ix a6 a7 h, encoding_apply q tb ix a10 a11 a12 a13 h]
  simp only [e]
  rfl

theorem batch_apply (n : Fin 2048) (k : Fin 64) :
    batch q tb ix a6 a7 a8 a9 a10 a11 a12 a13 a14 a15 a16 a17 a18 a19 (ix3 (0 : Fin 1) n k) = outR (weightsOf a6 a7 a8 a9 a10 a11 a12 a13 a14 a15 a16 a17 a18 a19) (query q tb ix n) k := by
  unfold batch
  have e := attended_apply q tb ix a6 a7 a8 a9 a10 a11 a12 a13 a14 a15 a16 a17 a18 a19 h n
  generalize attended q tb ix a6 a7 a10 a11 a12 a13 a14 a15 a16 a17 a18 a19 = E at e ⊢
  pointwise [feats_apply]
  simp only [e]
  rfl

end

end Cert.Proof.Ref

end
-- ==== Proof.Final.lean ====
/-
  What the program leaves in its arrays, in terms of its arguments: every argument unchanged, and the result's two halves
  the attention calls' results over the gathered rows and the folded weights.
-/
module

public import proofs.«01_k».proof.Proof.Main
public import proofs.«01_k».proof.Proof.Result
public import proofs.«01_k».proof.Proof.Ref
public import Idealize.ShloMosaic.Lib.IdealHost

@[expose] public section

noncomputable section

namespace Cert.Proof.Final

open Cert.KernelIdeal Cert.KernelIdeal.Gen Cert.Proof.Chunks Cert.Proof.Rows Cert.Proof.Launch Cert.Proof.Main Cert.Proof.Value Cert.Proof.Algebra Cert.Proof.Pay
open Cert.Proof.Ref (weightsOf query)

open Idealize.ShloMosaic
open Idealize.ShloMosaic.StableHlo (launchContents after)

section Any
variable {F : FTy → Type} [FloatOps F] (m : (ℓ : Loc nD τ sig) → Buf (Elt F) ℓ) (d : Dev nD)

/-! ## The arguments, unchanged -/

theorem VI_arg0 : VI m d (dr main_arg0) = m (tcLoc d main_arg0) := by unfold VI VH VG VF VE VD VC VB VA; after_results; rfl
theorem VI_arg1 : VI m d (dr main_arg1) = m (tcLoc d main_arg1) := by unfold VI VH VG VF VE VD VC VB VA; after_results; rfl
theorem VI_arg2 : VI m d (dr main_arg2) = m (tcLoc d main_arg2) := by unfold VI VH VG VF VE VD VC VB VA; after_results; rfl
theorem VI_arg3 : VI m d (dr main_arg3) = m (tcLoc d main_arg3) := by unfold VI VH VG VF VE VD VC VB VA; after_results; rfl
theorem VI_arg4 : VI m d (dr main_arg4) = m (tcLoc d main_arg4) := by unfold VI VH VG VF VE VD VC VB VA; after_results; rfl
theorem VI_arg5 : VI m d (dr main_arg5) = m (tcLoc d main_arg5) := by unfold VI VH VG VF VE VD VC VB VA; after_results; rfl
theorem VI_arg6 : VI m d (dr main_arg6) = m (tcLoc d main_arg6) := by unfold VI VH VG VF VE VD VC VB VA; after_results; rfl
theorem VI_arg7 : VI m d (dr main_arg7) = m (tcLoc d main_arg7) := by unfold VI VH VG VF VE VD VC VB VA; after_results; rfl
theorem VI_arg8 : VI m d (dr main_arg8) = m (tcLoc d main_arg8) := by unfold VI VH VG VF VE VD VC VB VA; after_results; rfl
theorem VI_arg9 : VI m d (dr main_arg9) = m (tcLoc d main_arg9) := by unfold VI VH VG VF VE VD VC VB VA; after_results; rfl
theorem VI_arg10 : VI m d (dr main_arg10) = m (tcLoc d main_arg10) := by unfold VI VH VG VF VE VD VC VB VA; after_results; rfl
theorem VI_arg11 : VI m d (dr main_arg11) = m (tcLoc d main_arg11) := by unfold VI VH VG VF VE VD VC VB VA; after_results; rfl
theorem VI_arg12 : VI m d (dr main_arg12) = m (tcLoc d main_arg12) := by unfold VI VH VG VF VE VD VC VB VA; after_results; rfl
theorem VI_arg13 : VI m d (dr main_arg13) = m (tcLoc d main_arg13) := by unfold VI VH VG VF VE VD VC VB VA; after_results; rfl
theorem VI_arg14 : VI m d (dr main_arg14) = m (tcLoc d main_arg14) := by unfold VI VH VG VF VE VD VC VB VA; after_results; rfl
theorem VI_arg15 : VI m d (dr main_arg15) = m (tcLoc d main_arg15) := by unfold VI VH VG VF VE VD VC VB VA; after_results; rfl
theorem VI_arg16 : VI m d (dr main_arg16) = m (tcLoc d main_arg16) := by unfold VI VH VG VF VE VD VC VB VA; after_results; rfl
theorem VI_arg17 : VI m d (dr main_arg17) = m (tcLoc d main_arg17) := by unfold VI VH VG VF VE VD VC VB VA; after_results; rfl
theorem VI_arg18 : VI m d (dr main_arg18) = m (tcLoc d main_arg18) := by unfold VI VH VG VF VE VD VC VB VA; after_results; rfl
theorem VI_arg19 : VI m d (dr main_arg19) = m (tcLoc d main_arg19) := by unfold VI VH VG VF VE VD VC VB VA; after_results; rfl

/-! ## The lists and tables the gather calls find -/

theorem VA_v13 : VA m d (dr main_v13) = shapeCast S32768 (m (tcLoc d main_arg4)) shapeCasts_S16x2048_S32768 := by
  unfold VA; after_results; rfl
theorem VA_v15 : VA m d (dr main_v15) = shapeCast S2048x128 (m (tcLoc d main_arg2)) shapeCasts_S1x2048x128_S2048x128 := by
  unfold VA; after_results; rfl
theorem VC_v14 : VC m d (dr main_v14) = shapeCast S32768 (m (tcLoc d main_arg5)) shapeCasts_S16x2048_S32768 := by
  unfold VC VB VA; after_results; rfl
theorem VC_v18 : VC m d (dr main_v18) = shapeCast S2048x128 (m (tcLoc d main_arg3)) shapeCasts_S1x2048x128_S2048x128 := by
  unfold VC VB VA; after_results; rfl

/-- Lists whose words are rows of the table, as the program's arguments hold them, are so as the calls find them. -/
theorem inRange (h4 : ∀ d x, ((m (tcLoc d main_arg4) : S16x2048.Idx → Elt F .i32) x).toNat < 2048)
    (h5 : ∀ d x, ((m (tcLoc d main_arg5) : S16x2048.Idx → Elt F .i32) x).toNat < 2048) : InRange (vals m) := by
  refine ⟨fun d x => ?_, fun d x => ?_⟩
  · show (VA m d (dr main_v13) x : BitVec 32).toNat < 2048
    rw [VA_v13]; exact h4 d _
  · show (VC m d (dr main_v14) x : BitVec 32).toNat < 2048
    rw [VC_v14]; exact h5 d _

/-! ## What the attention calls find -/

theorem VE_v17 : VE m d (dr main_v17) = wanted (F := F) (m (tcLoc d main_arg2)) (m (tcLoc d main_arg4)) := by
  have e1 : VE m d (dr main_v17) = VD m d (dr main_v17) := by unfold VE; after_results
  have e2 : VD m d (dr main_v17) = VC m d (dr main_v17) := Function.update_of_ne (by decide) _ _
  have e3 : VC m d (dr main_v17) = shapeCast S16x2048x128 (VB m d (dr main_v16)) shapeCasts_S32768x128_S16x2048x128 := by
    unfold VC; after_results; rfl
  have e4 : VB m d (dr main_v16) = rowsOf (VA m d (dr main_v15)) (VA m d (dr main_v13)) := Function.update_self _ _ _
  rw [e1, e2, e3, e4, VA_v13, VA_v15]
  exact kernel_rows (F := F) _ _ _ _ _
theorem VG_v20 : VG m d (dr main_v20) = wanted (F := F) (m (tcLoc d main_arg3)) (m (tcLoc d main_arg5)) := by
  have e1 : VG m d (dr main_v20) = VF m d (dr main_v20) := by unfold VG; after_results
  have e2 : VF m d (dr main_v20) = VE m d (dr main_v20) := Function.update_of_ne (by decide) _ _
  have e3 : VE m d (dr main_v20) = shapeCast S16x2048x128 (VD m d (dr main_v19)) shapeCasts_S32768x128_S16x2048x128 := by
    unfold VE; after_results; rfl
  have e4 : VD m d (dr main_v19) = rowsOf (VC m d (dr main_v18)) (VC m d (dr main_v14)) := Function.update_self _ _ _
  rw [e1, e2, e3, e4, VC_v14, VC_v18]
  exact kernel_rows (F := F) _ _ _ _ _
theorem VE_v1 : VE m d (dr main_v1) = Host.dotGeneral dot_S64x256_S256x256_S64x256_1_0_0_1_n_n none (m (tcLoc d main_arg6)) (Host.dotGeneral dot_S256x256_S256x256_S256x256_1_0_0_1_n_n none (m (tcLoc d main_arg18)) (m (tcLoc d main_arg14))) := by
  unfold VE VD VC VB VA; after_results; rfl
theorem VE_v2 : VE m d (dr main_v2) = Host.dotGeneral dot_S64x256_S256x256_S64x256_1_0_0_1_n_n none (m (tcLoc d main_arg6)) (m (tcLoc d main_arg19)) := by
  unfold VE VD VC VB VA; after_results; rfl
theorem VE_v4 : VE m d (dr main_v4) = Host.dotGeneral dot_S256x256_S256x256_S256x256_1_0_0_1_n_n none (m (tcLoc d main_arg12)) (m (tcLoc d main_arg14)) := by
  unfold VE VD VC VB VA; after_results; rfl
theorem VE_v10 : VE m d (dr main_v10) = mulf (m (tcLoc d main_arg16)) (broadcastInDim S256x256 ![] bcast_S_S256x256 (constant S_ .f32 0x3D800000#32)) := by
  unfold VE VD VC VB VA; after_results; rfl
theorem VE_v27 : VE m d (dr main_v27) = shapeCast S1x256 (subf (Host.dotGeneral dot_S256_S256x256_S256_0_0_n_1_n_n none (m (tcLoc d main_arg13)) (m (tcLoc d main_arg14))) (subf (Host.dotGeneral dot_S256_S256x256_S256_0_0_n_1_n_n none (m (tcLoc d main_arg7)) (Host.dotGeneral dot_S256x256_S256x256_S256x256_1_0_0_1_n_n none (m (tcLoc d main_arg18)) (m (tcLoc d main_arg14)))) (m (tcLoc d main_arg15)))) shapeCasts_S256_S1x256 := by
  unfold VE VD VC VB VA; after_results; rfl
theorem VE_v28 : VE m d (dr main_v28) = shapeCast S1x256 (Host.dotGeneral dot_S256_S256x256_S256_0_0_n_1_n_n none (m (tcLoc d main_arg7)) (m (tcLoc d main_arg19))) shapeCasts_S256_S1x256 := by
  unfold VE VD VC VB VA; after_results; rfl
theorem VE_v29 : VE m d (dr main_v29) = shapeCast S1x256 (m (tcLoc d main_arg11)) shapeCasts_S256_S1x256 := by
  unfold VE VD VC VB VA; after_results; rfl
theorem VE_v30 : VE m d (dr main_v30) = shapeCast S1x256 (m (tcLoc d main_arg13)) shapeCasts_S256_S1x256 := by
  unfold VE VD VC VB VA; after_results; rfl
theorem VE_v31 : VE m d (dr main_v31) = shapeCast S1x256 (mulf (m (tcLoc d main_arg17)) (broadcastInDim S256 ![] bcast_S_S256 (constant S_ .f32 0x3D800000#32))) shapeCasts_S256_S1x256 := by
  unfold VE VD VC VB VA; after_results; rfl
theorem VE_v32 : VE m d (dr main_v32) = shapeCast S1x64 (m (tcLoc d main_arg9)) shapeCasts_S64_S1x64 := by
  unfold VE VD VC VB VA; after_results; rfl
theorem VE_arg0 : VE m d (dr main_arg0) = (m (tcLoc d main_arg0)) := by
  unfold VE VD VC VB VA; after_results; rfl
theorem VE_arg2 : VE m d (dr main_arg2) = (m (tcLoc d main_arg2)) := by
  unfold VE VD VC VB VA; after_results; rfl
theorem VE_arg8 : VE m d (dr main_arg8) = (m (tcLoc d main_arg8)) := by
  unfold VE VD VC VB VA; after_results; rfl
theorem VE_arg10 : VE m d (dr main_arg10) = (m (tcLoc d main_arg10)) := by
  unfold VE VD VC VB VA; after_results; rfl
theorem VE_arg12 : VE m d (dr main_arg12) = (m (tcLoc d main_arg12)) := by
  unfold VE VD VC VB VA; after_results; rfl
theorem VG_v1 : VG m d (dr main_v1) = Host.dotGeneral dot_S64x256_S256x256_S64x256_1_0_0_1_n_n none (m (tcLoc d main_arg6)) (Host.dotGeneral dot_S256x256_S256x256_S256x256_1_0_0_1_n_n none (m (tcLoc d main_arg18)) (m (tcLoc d main_arg14))) := by
  unfold VG VF VE VD VC VB VA; after_results; rfl
theorem VG_v2 : VG m d (dr main_v2) = Host.dotGeneral dot_S64x256_S256x256_S64x256_1_0_0_1_n_n none (m (tcLoc d main_arg6)) (m (tcLoc d main_arg19)) := by
  unfold VG VF VE VD VC VB VA; after_results; rfl
theorem VG_v4 : VG m d (dr main_v4) = Host.dotGeneral dot_S256x256_S256x256_S256x256_1_0_0_1_n_n none (m (tcLoc d main_arg12)) (m (tcLoc d main_arg14)) := by
  unfold VG VF VE VD VC VB VA; after_results; rfl
theorem VG_v10 : VG m d (dr main_v10) = mulf (m (tcLoc d main_arg16)) (broadcastInDim S256x256 ![] bcast_S_S256x256 (constant S_ .f32 0x3D800000#32)) := by
  unfold VG VF VE VD VC VB VA; after_results; rfl
theorem VG_v40 : VG m d (dr main_v40) = shapeCast S1x256 (subf (Host.dotGeneral dot_S256_S256x256_S256_0_0_n_1_n_n none (m (tcLoc d main_arg13)) (m (tcLoc d main_arg14))) (subf (Host.dotGeneral dot_S256_S256x256_S256_0_0_n_1_n_n none (m (tcLoc d main_arg7)) (Host.dotGeneral dot_S256x256_S256x256_S256x256_1_0_0_1_n_n none (m (tcLoc d main_arg18)) (m (tcLoc d main_arg14)))) (m (tcLoc d main_arg15)))) shapeCasts_S256_S1x256 := by
  unfold VG VF VE VD VC VB VA; after_results; rfl
theorem VG_v41 : VG m d (dr main_v41) = shapeCast S1x256 (Host.dotGeneral dot_S256_S256x256_S256_0_0_n_1_n_n none (m (tcLoc d main_arg7)) (m (tcLoc d main_arg19))) shapeCasts_S256_S1x256 := by
  unfold VG VF VE VD VC VB VA; after_results; rfl
theorem VG_v42 : VG m d (dr main_v42) = shapeCast S1x256 (m (tcLoc d main_arg11)) shapeCasts_S256_S1x256 := by
  unfold VG VF VE VD VC VB VA; after_results; rfl
theorem VG_v43 : VG m d (dr main_v43) = shapeCast S1x256 (m (tcLoc d main_arg13)) shapeCasts_S256_S1x256 := by
  unfold VG VF VE VD VC VB VA; after_results; rfl
theorem VG_v44 : VG m d (dr main_v44) = shapeCast S1x256 (mulf (m (tcLoc d main_arg17)) (broadcastInDim S256 ![] bcast_S_S256 (constant S_ .f32 0x3D800000#32))) shapeCasts_S256_S1x256 := by
  unfold VG VF VE VD VC VB VA; after_results; rfl
theorem VG_v45 : VG m d (dr main_v45) = shapeCast S1x64 (m (tcLoc d main_arg9)) shapeCasts_S64_S1x64 := by
  unfold VG VF VE VD VC VB VA; after_results; rfl
theorem VG_arg1 : VG m d (dr main_arg1) = (m (tcLoc d main_arg1)) := by
  unfold VG VF VE VD VC VB VA; after_results; rfl
theorem VG_arg3 : VG m d (dr main_arg3) = (m (tcLoc d main_arg3)) := by
  unfold VG VF VE VD VC VB VA; after_results; rfl
theorem VG_arg8 : VG m d (dr main_arg8) = (m (tcLoc d main_arg8)) := by
  unfold VG VF VE VD VC VB VA; after_results; rfl
theorem VG_arg10 : VG m d (dr main_arg10) = (m (tcLoc d main_arg10)) := by
  unfold VG VF VE VD VC VB VA; after_results; rfl
theorem VG_arg12 : VG m d (dr main_arg12) = (m (tcLoc d main_arg12)) := by
  unfold VG VF VE VD VC VB VA; after_results; rfl

/-- The result: the attention calls' results, one after the other. -/
theorem VI_v47 : VI m d (dr main_v47) = concatenate S2x2048x64 0
    [⟨S1x2048x64, Region2.result (fun c b => VE m c (dr b)) d⟩, ⟨S1x2048x64, Region3.result (fun c b => VG m c (dr b)) d⟩] concatenates_S1x2048x64_S1x2048x64_S2x2048x64_d0 := by
  have e1 : VH m d (dr main_v33) = VG m d (dr main_v33) := Function.update_of_ne (by decide) _ _
  have e2 : VG m d (dr main_v33) = VF m d (dr main_v33) := by unfold VG; after_results
  have e3 : VF m d (dr main_v33) = Region2.result (fun c b => VE m c (dr b)) d := Function.update_self _ _ _
  have e : VH m d (dr main_v33) = Region2.result (fun c b => VE m c (dr b)) d := e1.trans (e2.trans e3)
  have e' : VH m d (dr main_v46) = Region3.result (fun c b => VG m c (dr b)) d := Function.update_self _ _ _
  rw [← e, ← e']
  unfold VI; after_results

end Any

/-! ## At the idealized instance -/

/-- The arrays the host folds are the folded weights. -/
theorem folded (a6 : FVec Ideal S64x256 .f32) (a7 : FVec Ideal S256 .f32) (a8 : FVec Ideal S256x64 .f32) (a9 : FVec Ideal S64 .f32)
    (a10 : FVec Ideal S3x256 .f32) (a11 : FVec Ideal S256 .f32) (a12 : FVec Ideal S256x256 .f32) (a13 : FVec Ideal S256 .f32)
    (a14 : FVec Ideal S256x256 .f32) (a15 : FVec Ideal S256 .f32) (a16 : FVec Ideal S256x256 .f32) (a17 : FVec Ideal S256 .f32)
    (a18 a19 : FVec Ideal S256x256 .f32) :
    foldedOf (Host.dotGeneral dot_S64x256_S256x256_S64x256_1_0_0_1_n_n none a6 (Host.dotGeneral dot_S256x256_S256x256_S256x256_1_0_0_1_n_n none a18 a14)) (shapeCast S1x256 (subf (Host.dotGeneral dot_S256_S256x256_S256_0_0_n_1_n_n none a13 a14) (subf (Host.dotGeneral dot_S256_S256x256_S256_0_0_n_1_n_n none a7 (Host.dotGeneral dot_S256x256_S256x256_S256x256_1_0_0_1_n_n none a18 a14)) a15)) shapeCasts_S256_S1x256) (Host.dotGeneral dot_S64x256_S256x256_S64x256_1_0_0_1_n_n none a6 a19) (shapeCast S1x256 (Host.dotGeneral dot_S256_S256x256_S256_0_0_n_1_n_n none a7 a19) shapeCasts_S256_S1x256) a10 (shapeCast S1x256 a11 shapeCasts_S256_S1x256) a12 (shapeCast S1x256 a13 shapeCasts_S256_S1x256) (Host.dotGeneral dot_S256x256_S256x256_S256x256_1_0_0_1_n_n none a12 a14)
      (mulf a16 (broadcastInDim S256x256 ![] bcast_S_S256x256 (constant S_ .f32 0x3D800000#32))) (shapeCast S1x256 (mulf a17 (broadcastInDim S256 ![] bcast_S_S256 (constant S_ .f32 0x3D800000#32))) shapeCasts_S256_S1x256) a8 (shapeCast S1x64 a9 shapeCasts_S64_S1x64)
      = fold (weightsOf a6 a7 a8 a9 a10 a11 a12 a13 a14 a15 a16 a17 a18 a19) := by
  have e : Ideal.ofBits FTy.f32 0x3D800000#32 = ((1 / 16 : ℝ) : EReal) := by
    simp [Ideal.ofBits, Ideal.ieee, -EReal.coe_mul]; norm_num
  simp only [foldedOf, fold, weightsOf, Folded.mk.injEq]
  refine ⟨funext fun i => funext fun c => ?_, funext fun c => ?_, funext fun i => funext fun c => ?_, funext fun c => ?_, trivial,
    funext fun c => ?_, trivial, funext fun c => ?_, funext fun i => funext fun c => ?_, funext fun i => funext fun c => ?_, funext fun c => ?_, trivial, funext fun c => ?_⟩
  all_goals pointwise
  all_goals rw [e]

section Halves
variable (m : (ℓ : Loc nD τ sig) → Buf (Elt Ideal) ℓ) (d : Dev nD)

/-- The first attention call's result, from the arguments. -/
theorem half2 : Region2.result (fun c b => VE m c (dr b)) d = fun x : S1x2048x64.Idx =>
    outK (fold (weightsOf (m (tcLoc d main_arg6)) (m (tcLoc d main_arg7)) (m (tcLoc d main_arg8)) (m (tcLoc d main_arg9)) (m (tcLoc d main_arg10)) (m (tcLoc d main_arg11)) (m (tcLoc d main_arg12)) (m (tcLoc d main_arg13)) (m (tcLoc d main_arg14)) (m (tcLoc d main_arg15)) (m (tcLoc d main_arg16)) (m (tcLoc d main_arg17)) (m (tcLoc d main_arg18)) (m (tcLoc d main_arg19)))) (query (m (tcLoc d main_arg0)) (m (tcLoc d main_arg2)) (m (tcLoc d main_arg4)) (x 1)) (x 2) := by
  have hf : foldedOf (VE m d (dr main_v1)) (VE m d (dr main_v27)) (VE m d (dr main_v2)) (VE m d (dr main_v28)) (VE m d (dr main_arg10)) (VE m d (dr main_v29)) (VE m d (dr main_arg12)) (VE m d (dr main_v30)) (VE m d (dr main_v4)) (VE m d (dr main_v10)) (VE m d (dr main_v31)) (VE m d (dr main_arg8)) (VE m d (dr main_v32)) = fold (weightsOf (m (tcLoc d main_arg6)) (m (tcLoc d main_arg7)) (m (tcLoc d main_arg8)) (m (tcLoc d main_arg9)) (m (tcLoc d main_arg10)) (m (tcLoc d main_arg11)) (m (tcLoc d main_arg12)) (m (tcLoc d main_arg13)) (m (tcLoc d main_arg14)) (m (tcLoc d main_arg15)) (m (tcLoc d main_arg16)) (m (tcLoc d main_arg17)) (m (tcLoc d main_arg18)) (m (tcLoc d main_arg19))) := by
    rw [VE_v1, VE_v27, VE_v2, VE_v28, VE_arg10, VE_v29, VE_arg12, VE_v30, VE_v4, VE_v10, VE_v31, VE_arg8, VE_v32]
    exact folded _ _ _ _ _ _ _ _ _ _ _ _ _ _
  have hq : ∀ n : Fin 2048, queryOf (R := 2048) (VE m d (dr main_v17)) (VE m d (dr main_arg0)) (VE m d (dr main_arg2)) n = query (m (tcLoc d main_arg0)) (m (tcLoc d main_arg2)) (m (tcLoc d main_arg4)) n := fun n => by
    rw [VE_v17, VE_arg0, VE_arg2]
  refine (Result.result2 _ d).trans (funext fun x => ?_)
  exact congrFun (congrArg₂ outK hf (hq (x 1))) (x 2)

/-- The second attention call's result, from the arguments. -/
theorem half3 : Region3.result (fun c b => VG m c (dr b)) d = fun x : S1x2048x64.Idx =>
    outK (fold (weightsOf (m (tcLoc d main_arg6)) (m (tcLoc d main_arg7)) (m (tcLoc d main_arg8)) (m (tcLoc d main_arg9)) (m (tcLoc d main_arg10)) (m (tcLoc d main_arg11)) (m (tcLoc d main_arg12)) (m (tcLoc d main_arg13)) (m (tcLoc d main_arg14)) (m (tcLoc d main_arg15)) (m (tcLoc d main_arg16)) (m (tcLoc d main_arg17)) (m (tcLoc d main_arg18)) (m (tcLoc d main_arg19)))) (query (m (tcLoc d main_arg1)) (m (tcLoc d main_arg3)) (m (tcLoc d main_arg5)) (x 1)) (x 2) := by
  have hf : foldedOf (VG m d (dr main_v1)) (VG m d (dr main_v40)) (VG m d (dr main_v2)) (VG m d (dr main_v41)) (VG m d (dr main_arg10)) (VG m d (dr main_v42)) (VG m d (dr main_arg12)) (VG m d (dr main_v43)) (VG m d (dr main_v4)) (VG m d (dr main_v10)) (VG m d (dr main_v44)) (VG m d (dr main_arg8)) (VG m d (dr main_v45)) = fold (weightsOf (m (tcLoc d main_arg6)) (m (tcLoc d main_arg7)) (m (tcLoc d main_arg8)) (m (tcLoc d main_arg9)) (m (tcLoc d main_arg10)) (m (tcLoc d main_arg11)) (m (tcLoc d main_arg12)) (m (tcLoc d main_arg13)) (m (tcLoc d main_arg14)) (m (tcLoc d main_arg15)) (m (tcLoc d main_arg16)) (m (tcLoc d main_arg17)) (m (tcLoc d main_arg18)) (m (tcLoc d main_arg19))) := by
    rw [VG_v1, VG_v40, VG_v2, VG_v41, VG_arg10, VG_v42, VG_arg12, VG_v43, VG_v4, VG_v10, VG_v44, VG_arg8, VG_v45]
    exact folded _ _ _ _ _ _ _ _ _ _ _ _ _ _
  have hq : ∀ n : Fin 2048, queryOf (R := 2048) (VG m d (dr main_v20)) (VG m d (dr main_arg1)) (VG m d (dr main_arg3)) n = query (m (tcLoc d main_arg1)) (m (tcLoc d main_arg3)) (m (tcLoc d main_arg5)) n := fun n => by
    rw [VG_v20, VG_arg1, VG_arg3]
  refine (Result.result3 _ d).trans (funext fun x => ?_)
  exact congrFun (congrArg₂ outK hf (hq (x 1))) (x 2)

end Halves

end Cert.Proof.Final

end
-- ==== Proof.Finite.lean ====
/-
  The precondition of the value claim read back: every word of both lists is a row of the table, and every element of the
  queries, of the tables and of every weight but the last layer's is a real number.
-/
module

public import proofs.«01_k».proof.Proof.Algebra
public import proofs.«01_k».proof.Proof.Gen.Pre_finite_and_in_range
public import Idealize.ShloMosaic.Lib.ReduceAll

@[expose] public section

noncomputable section

namespace Cert.Proof.Finite

open Cert.Pre_finite_and_in_range Cert.Proof.Algebra

open Idealize.ShloMosaic

instance : Subsingleton S_.Idx := ⟨fun _ _ => funext fun k => k.elim0⟩

/-- A value whose magnitude is below infinity is a real number. -/
theorem isReal_of_lt (v : EReal) (h : max v (-v) < ⊤) : IsReal v := by
  induction v with
  | bot => simp at h
  | coe r => exact ⟨r, rfl⟩
  | top => simp at h

/-- An array all of whose magnitudes compare below infinity holds real numbers. -/
theorem isReal_of_all {s : Shape} {axes : List (Fin s.rank)} (x : FVec Ideal s .f32) (hb : S_.BroadcastsInDim s ![]) (hr : s.ReducesTo axes S_)
    (hu : 0 < S_.numel) (c : IVec S_ 1) (j : S_.Idx)
    (e : Host.reduce IntOp.andi (cmpf .olt (Host.absf x) (broadcastInDim s ![] hb (constant (F := Ideal) S_ .f32 0x7F800000#32))) c hr hu j = 1#1)
    (i : s.Idx) : IsReal (x i) := by
  have htop : Ideal.ofBits .f32 0x7F800000#32 = ⊤ := by simp [Ideal.ofBits, Ideal.ieee]
  have h : Ideal.cmp .olt (max (x i : EReal) (-(x i : EReal))) (Ideal.ofBits .f32 0x7F800000#32) = 1#1 :=
    Host.reduce_andi_all _ c hr hu j e i
  rw [htop] at h
  refine isReal_of_lt _ ?_
  by_contra hn
  simp [Ideal.cmp, hn] at h

/-- A list all of whose words compare from 0 up to 2048 holds rows of the table. -/
theorem row_of_all {s : Shape} {axes : List (Fin s.rank)} (x : IVec s 32) (hb : S_.BroadcastsInDim s ![]) (hr : s.ReducesTo axes S_) (hu : 0 < S_.numel)
    (c : IVec S_ 1) (j : S_.Idx)
    (e : Host.reduce IntOp.andi (andi (cmpi .sge x (broadcastInDim s ![] hb (constantI S_ 32 0#32))) (cmpi .slt x (broadcastInDim s ![] hb (constantI S_ 32 2048#32)))) c hr hu j = 1#1)
    (i : s.Idx) : (x i).toNat < 2048 := by
  have h : IntOp.andi (IntOp.cmpi .sge (x i) 0#32) (IntOp.cmpi .slt (x i) 2048#32) = 1#1 := Host.reduce_andi_all _ c hr hu j e i
  obtain ⟨h1, h2⟩ := IntOp.andi_eq_one.1 h
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h1 h2
  omega

/-- The precondition of the value claim, read back. -/
theorem of_pre (a0 a1 : FVec Ideal S1x2048x256 .f32) (a2 a3 : FVec Ideal S1x2048x128 .f32) (a4 a5 : IVec S16x2048 32)
    (a6 : FVec Ideal S64x256 .f32) (a7 : FVec Ideal S256 .f32) (a8 : FVec Ideal S256x64 .f32) (a9 : FVec Ideal S64 .f32)
    (a10 : FVec Ideal S3x256 .f32) (a11 : FVec Ideal S256 .f32) (a12 : FVec Ideal S256x256 .f32) (a13 : FVec Ideal S256 .f32)
    (a14 : FVec Ideal S256x256 .f32) (a15 : FVec Ideal S256 .f32) (a16 : FVec Ideal S256x256 .f32) (a17 : FVec Ideal S256 .f32)
    (a18 a19 : FVec Ideal S256x256 .f32)
    (h : fn (F := Ideal) a0 a1 a2 a3 a4 a5 a6 a7 a8 a9 a10 a11 a12 a13 a14 a15 a16 a17 a18 a19 = fun _ => 1#1) :
    (∀ i, (a4 i).toNat < 2048) ∧ (∀ i, (a5 i).toNat < 2048) ∧ (∀ i, IsReal (a0 i)) ∧ (∀ i, IsReal (a1 i)) ∧ (∀ i, IsReal (a2 i)) ∧ (∀ i, IsReal (a3 i))
      ∧ (∀ i, IsReal (a6 i)) ∧ (∀ i, IsReal (a7 i)) ∧ (∀ i, IsReal (a10 i)) ∧ (∀ i, IsReal (a11 i))
      ∧ (∀ i, IsReal (a12 i)) ∧ (∀ i, IsReal (a13 i)) ∧ (∀ i, IsReal (a14 i)) ∧ (∀ i, IsReal (a15 i)) ∧ (∀ i, IsReal (a16 i)) ∧ (∀ i, IsReal (a17 i))
      ∧ (∀ i, IsReal (a18 i)) ∧ (∀ i, IsReal (a19 i)) := by
  have e := congrFun h fun k => k.elim0
  simp only [fn, fn_part1, fn_part2, fn_part3, fn_part4, fn_part5] at e
  have split : ∀ (p q : IVec S_ 1) (j : S_.Idx), andi p q j = 1#1 → p j = 1#1 ∧ q j = 1#1 := fun p q j h => IntOp.andi_eq_one.1 h
  obtain ⟨e, h19⟩ := split _ _ _ e
  obtain ⟨e, h18⟩ := split _ _ _ e
  obtain ⟨e, h17⟩ := split _ _ _ e
  obtain ⟨e, h16⟩ := split _ _ _ e
  obtain ⟨e, h15⟩ := split _ _ _ e
  obtain ⟨e, h14⟩ := split _ _ _ e
  obtain ⟨e, h13⟩ := split _ _ _ e
  obtain ⟨e, h12⟩ := split _ _ _ e
  obtain ⟨e, h11⟩ := split _ _ _ e
  obtain ⟨e, h10⟩ := split _ _ _ e
  obtain ⟨e, h7⟩ := split _ _ _ e
  obtain ⟨e, h6⟩ := split _ _ _ e
  obtain ⟨e, h3⟩ := split _ _ _ e
  obtain ⟨e, h2⟩ := split _ _ _ e
  obtain ⟨e, h1⟩ := split _ _ _ e
  obtain ⟨e, h0⟩ := split _ _ _ e
  obtain ⟨h4, h5⟩ := split _ _ _ e
  exact ⟨row_of_all _ _ _ _ _ _ h4, row_of_all _ _ _ _ _ _ h5, isReal_of_all _ _ _ _ _ _ h0, isReal_of_all _ _ _ _ _ _ h1, isReal_of_all _ _ _ _ _ _ h2,
    isReal_of_all _ _ _ _ _ _ h3, isReal_of_all _ _ _ _ _ _ h6, isReal_of_all _ _ _ _ _ _ h7,
    isReal_of_all _ _ _ _ _ _ h10, isReal_of_all _ _ _ _ _ _ h11, isReal_of_all _ _ _ _ _ _ h12, isReal_of_all _ _ _ _ _ _ h13, isReal_of_all _ _ _ _ _ _ h14,
    isReal_of_all _ _ _ _ _ _ h15, isReal_of_all _ _ _ _ _ _ h16, isReal_of_all _ _ _ _ _ _ h17, isReal_of_all _ _ _ _ _ _ h18, isReal_of_all _ _ _ _ _ _ h19⟩

end Cert.Proof.Finite

end
-- ==== Proof.Same.lean ====
/-
  The two readings of the kernel are one text: over the same values, their body tables and their threads are equal, so a
  run of one is a run of the other.
-/
module

public import proofs.«01_k».proof.Defs
public import proofs.«01_k».proof.Proof.Gen.Kernel
public import proofs.«01_k».proof.Proof.Gen.KernelIdeal

@[expose] public section

set_option maxHeartbeats 4000000

noncomputable section

namespace Cert.Proof.Same

open Idealize.ShloMosaic Idealize.SL.Sem

variable {F : FTy → Type} [FloatOps F]

theorem gathers : ∀ (l : Fin 4) (a : Cert.Kernel.Λ₀.Args l) (c : Fin Cert.Kernel.τ.nSC) (s : Fin Cert.Kernel.τ.nSub),
    Cert.Kernel.defs₀ (F := F) (.scVector c s) l a = Cert.KernelIdeal.defs₀ (F := F) (.scVector c s) l a
  | 0, _, _, _ => rfl
  | 1, _, _, _ => rfl
  | 2, _, _, _ => rfl
  | 3, _, _, _ => rfl

theorem attention : ∀ (l : Fin 4) (a : Cert.Kernel.Λ₀.Args l),
    Cert.Kernel.defs₀ (F := F) .tc l a = Cert.KernelIdeal.defs₀ (F := F) .tc l a
  | 0, _ => rfl
  | 1, _ => rfl
  | 2, _ => rfl
  | 3, _ => rfl

theorem idle : ∀ (l : Fin 4) (a : Cert.Kernel.Λ₀.Args l) (c : Fin Cert.Kernel.τ.nSC),
    Cert.Kernel.defs₀ (F := F) (.scScalar c) l a = Cert.KernelIdeal.defs₀ (F := F) (.scScalar c) l a
  | 0, _, _ => rfl
  | 1, _, _ => rfl
  | 2, _, _ => rfl
  | 3, _, _ => rfl

/-- The kernels' bodies. -/
theorem bodies : Cert.Kernel.defs₀ (F := F) = Cert.KernelIdeal.defs₀ (F := F) := by
  funext p l a
  cases p with
  | tc => exact attention l a
  | scScalar c => exact idle l a c
  | scVector c s => exact gathers l a c s

/-- The body tables. -/
theorem tables : Cert.Kernel.defs (F := F) = Cert.KernelIdeal.defs (F := F) :=
  congrArg (fun b => (Cert.KernelIdeal.sc (F := F)).defs (Pipeline.defs (Cert.KernelIdeal.pcfgs (F := F)) b)) bodies

/-- The TensorCore's program. -/
theorem program : Cert.Kernel.main (F := F) = Cert.KernelIdeal.main (F := F) := rfl

/-- The threads. -/
theorem threads : Cert.Kernel.threads (F := F) = Cert.KernelIdeal.threads (F := F) :=
  congrArg (fun p => (Cert.KernelIdeal.sc (F := F)).threads p) program

end Cert.Proof.Same

end
-- ==== Proof.Claims.lean ====
/-
  The claims: the programs run and keep their arguments, and the kernel's result is the reference's.
-/
module

public import proofs.«01_k».proof.Defs
public import proofs.«01_k».proof.Proof.Gen.Kernel
public import proofs.«01_k».proof.Proof.Gen.Pre_indices_in_range
public import proofs.«01_k».proof.Proof.Gen.ReferenceIdeal.Run
public import proofs.«01_k».proof.Proof.Final
public import proofs.«01_k».proof.Proof.Finite
public import proofs.«01_k».proof.Proof.Same
public import Idealize.ShloMosaic.Lib.Quiescent

@[expose] public section

noncomputable section

namespace Cert.Proof.Claims

open Cert.KernelIdeal Cert.KernelIdeal.Gen Cert.Proof.Chunks Cert.Proof.Launch Cert.Proof.Main Cert.Proof.Algebra Cert.Proof.Final
open Cert.Proof.Ref (weightsOf query batch batch_apply)

open Idealize.ShloMosaic Idealize.SL.Sem

variable {F : FTy → Type} [FloatOps F]

/-- The precondition is all ones only when every word of both lists is a row of the table. -/
theorem rows_of_pre (a0 a1 : FVec F S1x2048x256 .f32) (a2 a3 : FVec F S1x2048x128 .f32) (a4 a5 : IVec S16x2048 32)
    (a6 : FVec F S64x256 .f32) (a7 : FVec F S256 .f32) (a8 : FVec F S256x64 .f32) (a9 : FVec F S64 .f32) (a10 : FVec F S3x256 .f32) (a11 : FVec F S256 .f32) (a12 : FVec F S256x256 .f32) (a13 : FVec F S256 .f32) (a14 : FVec F S256x256 .f32) (a15 : FVec F S256 .f32) (a16 : FVec F S256x256 .f32) (a17 : FVec F S256 .f32) (a18 : FVec F S256x256 .f32) (a19 : FVec F S256x256 .f32)
    (h : Cert.Pre_indices_in_range.fn (F := F) a0 a1 a2 a3 a4 a5 a6 a7 a8 a9 a10 a11 a12 a13 a14 a15 a16 a17 a18 a19 = fun _ => 1#1)
    (x : S16x2048.Idx) : (a4 x).toNat < 2048 ∧ (a5 x).toNat < 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h x
  simp only [Cert.Pre_indices_in_range.fn, andi, cmpi, broadcastInDim, constantI] at e
  have key : ∀ v w : BitVec 32, IntOp.andi (IntOp.andi (IntOp.andi (IntOp.cmpi .sge v 0#32) (IntOp.cmpi .slt v 2048#32)) (IntOp.cmpi .sge w 0#32)) (IntOp.cmpi .slt w 2048#32) = 1#1
      → v.toNat < 2048 ∧ w.toNat < 2048 := by
    intro v w e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  exact key _ _ e

/-- What the program's run leaves in its result and arguments, when both lists hold rows of the table. -/
theorem run_kernel [∀ e, Nonempty (Elt F e)] (m : (ℓ : Loc nD τ sig) → Buf (Elt F) ℓ) (ρ : Dev nD → PrngReg)
    (h : ∀ d x, ((m (tcLoc d main_arg4) : S16x2048.Idx → BitVec 32) x).toNat < 2048 ∧ ((m (tcLoc d main_arg5) : S16x2048.Idx → BitVec 32) x).toNat < 2048) :
    θ_run (Cert.KernelIdeal.defs (F := F)) (Cert.KernelIdeal.threads (F := F)) ⟨m, fun _ => 0, ρ⟩ fun r =>
      (∀ d : Dev nD, r.2.mem (tcLoc d main_v47) = VI m d (dr main_v47)
        ∧ r.2.mem (tcLoc d main_arg0) = m (tcLoc d main_arg0)
        ∧ r.2.mem (tcLoc d main_arg1) = m (tcLoc d main_arg1)
        ∧ r.2.mem (tcLoc d main_arg2) = m (tcLoc d main_arg2)
        ∧ r.2.mem (tcLoc d main_arg3) = m (tcLoc d main_arg3)
        ∧ r.2.mem (tcLoc d main_arg4) = m (tcLoc d main_arg4)
        ∧ r.2.mem (tcLoc d main_arg5) = m (tcLoc d main_arg5)
        ∧ r.2.mem (tcLoc d main_arg6) = m (tcLoc d main_arg6)
        ∧ r.2.mem (tcLoc d main_arg7) = m (tcLoc d main_arg7)
        ∧ r.2.mem (tcLoc d main_arg8) = m (tcLoc d main_arg8)
        ∧ r.2.mem (tcLoc d main_arg9) = m (tcLoc d main_arg9)
        ∧ r.2.mem (tcLoc d main_arg10) = m (tcLoc d main_arg10)
        ∧ r.2.mem (tcLoc d main_arg11) = m (tcLoc d main_arg11)
        ∧ r.2.mem (tcLoc d main_arg12) = m (tcLoc d main_arg12)
        ∧ r.2.mem (tcLoc d main_arg13) = m (tcLoc d main_arg13)
        ∧ r.2.mem (tcLoc d main_arg14) = m (tcLoc d main_arg14)
        ∧ r.2.mem (tcLoc d main_arg15) = m (tcLoc d main_arg15)
        ∧ r.2.mem (tcLoc d main_arg16) = m (tcLoc d main_arg16)
        ∧ r.2.mem (tcLoc d main_arg17) = m (tcLoc d main_arg17)
        ∧ r.2.mem (tcLoc d main_arg18) = m (tcLoc d main_arg18)
        ∧ r.2.mem (tcLoc d main_arg19) = m (tcLoc d main_arg19))
      ∧ r.2.sem = fun _ => 0 :=
  (θ_run Cert.KernelIdeal.defs _ _).mono (fun r hr => ⟨fun d =>
    ⟨hr.1 d _ (Pipeline.devRef_mem_ucRefs (by decide)),
      (hr.1 d _ (Pipeline.devRef_mem_ucRefs (by decide))).trans (VI_arg0 m d),
      (hr.1 d _ (Pipeline.devRef_mem_ucRefs (by decide))).trans (VI_arg1 m d),
      (hr.1 d _ (Pipeline.devRef_mem_ucRefs (by decide))).trans (VI_arg2 m d),
      (hr.1 d _ (Pipeline.devRef_mem_ucRefs (by decide))).trans (VI_arg3 m d),
      (hr.1 d _ (Pipeline.devRef_mem_ucRefs (by decide))).trans (VI_arg4 m d),
      (hr.1 d _ (Pipeline.devRef_mem_ucRefs (by decide))).trans (VI_arg5 m d),
      (hr.1 d _ (Pipeline.devRef_mem_ucRefs (by decide))).trans (VI_arg6 m d),
      (hr.1 d _ (Pipeline.devRef_mem_ucRefs (by decide))).trans (VI_arg7 m d),
      (hr.1 d _ (Pipeline.devRef_mem_ucRefs (by decide))).trans (VI_arg8 m d),
      (hr.1 d _ (Pipeline.devRef_mem_ucRefs (by decide))).trans (VI_arg9 m d),
      (hr.1 d _ (Pipeline.devRef_mem_ucRefs (by decide))).trans (VI_arg10 m d),
      (hr.1 d _ (Pipeline.devRef_mem_ucRefs (by decide))).trans (VI_arg11 m d),
      (hr.1 d _ (Pipeline.devRef_mem_ucRefs (by decide))).trans (VI_arg12 m d),
      (hr.1 d _ (Pipeline.devRef_mem_ucRefs (by decide))).trans (VI_arg13 m d),
      (hr.1 d _ (Pipeline.devRef_mem_ucRefs (by decide))).trans (VI_arg14 m d),
      (hr.1 d _ (Pipeline.devRef_mem_ucRefs (by decide))).trans (VI_arg15 m d),
      (hr.1 d _ (Pipeline.devRef_mem_ucRefs (by decide))).trans (VI_arg16 m d),
      (hr.1 d _ (Pipeline.devRef_mem_ucRefs (by decide))).trans (VI_arg17 m d),
      (hr.1 d _ (Pipeline.devRef_mem_ucRefs (by decide))).trans (VI_arg18 m d),
      (hr.1 d _ (Pipeline.devRef_mem_ucRefs (by decide))).trans (VI_arg19 m d)⟩, hr.2⟩)
    (run_main m ρ (inRange m (fun d x => (h d x).1) (fun d x => (h d x).2)))

set_option maxHeartbeats 4000000 in
/-- A run of the kernel over machine words is a run of its other reading over them. -/
theorem run_same (s) (Q) (h : θ_run (Cert.KernelIdeal.defs (F := F)) (Cert.KernelIdeal.threads (F := F)) s Q) :
    θ_run (Cert.Kernel.defs (F := F)) (Cert.Kernel.threads (F := F)) s Q := by
  rw [Same.tables, Same.threads]
  exact h

theorem frame_kernel : Cert.quiescent_Kernel := fun m ρ h => run_same _ _
  ((θ_run Cert.KernelIdeal.defs _ _).mono (fun _ hr => ⟨fun c => (hr.1 c).2, hr.2⟩)
    (run_kernel (F := Bits) m ρ fun d x => rows_of_pre _ _ _ _ _ _ _ _ _ _ _ _ _ _ _ _ _ _ _ _ (h d) x))

theorem frame_ideal : Cert.quiescent_KernelIdeal := fun m ρ h =>
  (θ_run Cert.KernelIdeal.defs _ _).mono (fun _ hr => ⟨fun c => (hr.1 c).2, hr.2⟩)
    (run_kernel (F := Ideal) m ρ fun d x => rows_of_pre _ _ _ _ _ _ _ _ _ _ _ _ _ _ _ _ _ _ _ _ (h d) x)

theorem frame_ideal_finite : Cert.quiescent_KernelIdeal_pre_finite_and_in_range := fun m ρ h =>
  (θ_run Cert.KernelIdeal.defs _ _).mono (fun _ hr => ⟨fun c => (hr.1 c).2, hr.2⟩)
    (run_kernel (F := Ideal) m ρ fun d x =>
      have f := Finite.of_pre _ _ _ _ _ _ _ _ _ _ _ _ _ _ _ _ _ _ _ _ (h d)
      ⟨f.1 x, f.2.1 x⟩)

theorem frame_reference : Cert.quiescent_ReferenceIdeal := fun m ρ _ => by
  have h := Cert.ReferenceIdeal.Value.run (F := Ideal) m ρ
  refine (θ_run _ _ _).mono ?_ h
  intro r hr
  exact ⟨fun c => (hr c).2, sem_eq_zero_of_no_sems (by decide) r.2⟩

theorem frame_reference_finite : Cert.quiescent_ReferenceIdeal_pre_finite_and_in_range := fun m ρ _ => frame_reference m ρ trivial

/-- One batch: the reference's result is the kernel's, over real numbers. -/
theorem batch_eq (q : S1x2048x256.Idx → EReal) (tb : S1x2048x128.Idx → EReal) (ix : S16x2048.Idx → BitVec 32)
    (a6 : S64x256.Idx → EReal) (a7 : S256.Idx → EReal) (a8 : S256x64.Idx → EReal) (a9 : S64.Idx → EReal) (a10 : S3x256.Idx → EReal) (a11 : S256.Idx → EReal) (a12 : S256x256.Idx → EReal) (a13 : S256.Idx → EReal) (a14 : S256x256.Idx → EReal) (a15 : S256.Idx → EReal) (a16 : S256x256.Idx → EReal) (a17 : S256.Idx → EReal) (a18 : S256x256.Idx → EReal) (a19 : S256x256.Idx → EReal)
    (hw : (weightsOf a6 a7 a8 a9 a10 a11 a12 a13 a14 a15 a16 a17 a18 a19).Finite)
    (hq : ∀ i, IsReal (q i)) (ht : ∀ i, IsReal (tb i)) (hi : ∀ x, (ix x).toNat < 2048) :
    batch q tb ix a6 a7 a8 a9 a10 a11 a12 a13 a14 a15 a16 a17 a18 a19
      = fun x : S1x2048x64.Idx => outK (fold (weightsOf a6 a7 a8 a9 a10 a11 a12 a13 a14 a15 a16 a17 a18 a19)) (query q tb ix (x 1)) (x 2) := by
  funext x
  obtain ⟨b, n, k, rfl⟩ : ∃ (b : Fin 1) (n : Fin 2048) (k : Fin 64), x = ix3 b n k := ⟨x 0, x 1, x 2, eq_ix3 x⟩
  obtain rfl : b = 0 := Subsingleton.elim _ _
  rw [batch_apply (h := hi)]
  have hz : (query q tb ix n).Finite :=
    ⟨fun i => by rw [Ref.query_p]; exact ht _, fun i => by rw [Ref.query_q]; exact hq _,
      fun j i => by rw [Ref.query_hn]; exact ht _, fun j i => by rw [Ref.query_pn]; exact ht _⟩
  exact (out_eq hw hz k).symm

/-- The two batches' results, one after the other. -/
def joined (a b : S1x2048x64.Idx → EReal) : S2x2048x64.Idx → EReal :=
  concatenate S2x2048x64 0 [⟨S1x2048x64, a⟩, ⟨S1x2048x64, b⟩] concatenates_S1x2048x64_S1x2048x64_S2x2048x64_d0

/-- One batch of the reference, of equal arguments. -/
theorem batch_congr {q q' : S1x2048x256.Idx → EReal} {tb tb' : S1x2048x128.Idx → EReal} {ix ix' : S16x2048.Idx → BitVec 32}
    {a6 a6' : S64x256.Idx → EReal} {a7 a7' : S256.Idx → EReal} {a8 a8' : S256x64.Idx → EReal} {a9 a9' : S64.Idx → EReal} {a10 a10' : S3x256.Idx → EReal} {a11 a11' : S256.Idx → EReal} {a12 a12' : S256x256.Idx → EReal} {a13 a13' : S256.Idx → EReal} {a14 a14' : S256x256.Idx → EReal} {a15 a15' : S256.Idx → EReal} {a16 a16' : S256x256.Idx → EReal} {a17 a17' : S256.Idx → EReal} {a18 a18' : S256x256.Idx → EReal} {a19 a19' : S256x256.Idx → EReal}
    (hq : q = q') (ht : tb = tb') (hi : ix = ix') (h6 : a6 = a6') (h7 : a7 = a7') (h8 : a8 = a8') (h9 : a9 = a9') (h10 : a10 = a10') (h11 : a11 = a11') (h12 : a12 = a12') (h13 : a13 = a13') (h14 : a14 = a14') (h15 : a15 = a15') (h16 : a16 = a16') (h17 : a17 = a17') (h18 : a18 = a18') (h19 : a19 = a19') :
    batch q tb ix a6 a7 a8 a9 a10 a11 a12 a13 a14 a15 a16 a17 a18 a19 = batch q' tb' ix' a6' a7' a8' a9' a10' a11' a12' a13' a14' a15' a16' a17' a18' a19' := by
  subst hq ht hi h6 h7 h8 h9 h10 h11 h12 h13 h14 h15 h16 h17 h18 h19; rfl

theorem algebraic : Cert.algebraic_KernelIdeal_ReferenceIdeal_pre_finite_and_in_range := by
  intro m ρ m' ρ' h hag
  refine ⟨fun c => VI m c (dr main_v47), (θ_run Cert.KernelIdeal.defs _ _).mono (fun _ hr => hr.1) (run_kernel (F := Ideal) m ρ fun d x =>
    have f := Finite.of_pre _ _ _ _ _ _ _ _ _ _ _ _ _ _ _ _ _ _ _ _ (h d)
    ⟨f.1 x, f.2.1 x⟩), ?_⟩
  have hrun := Cert.ReferenceIdeal.Value.run (F := Ideal) m' ρ'
  refine (θ_run _ _ _).mono ?_ hrun
  intro r hr' c
  refine ⟨(hr' c).1.trans ?_, (hr' c).2⟩
  obtain ⟨g0, g1, g2, g3, g4, g5, g6, g7, g8, g9, g10, g11, g12, g13, g14, g15, g16, g17, g18, g19⟩ := hag c
  obtain ⟨f4, f5, f0, f1, f2, f3, f6, f7, f10, f11, f12, f13, f14, f15, f16, f17, f18, f19⟩ := Finite.of_pre _ _ _ _ _ _ _ _ _ _ _ _ _ _ _ _ _ _ _ _ (h c)
  have hw : (weightsOf (m (tcLoc c main_arg6)) (m (tcLoc c main_arg7)) (m (tcLoc c main_arg8)) (m (tcLoc c main_arg9)) (m (tcLoc c main_arg10)) (m (tcLoc c main_arg11)) (m (tcLoc c main_arg12)) (m (tcLoc c main_arg13)) (m (tcLoc c main_arg14)) (m (tcLoc c main_arg15)) (m (tcLoc c main_arg16)) (m (tcLoc c main_arg17)) (m (tcLoc c main_arg18)) (m (tcLoc c main_arg19))).Finite :=
    ⟨fun _ _ => f6 _, fun _ => f7 _, fun _ _ => f10 _, fun _ => f11 _, fun _ _ => f12 _, fun _ => f13 _, fun _ _ => f14 _, fun _ => f15 _, fun _ _ => f16 _, fun _ => f17 _, fun _ _ => f18 _, fun _ _ => f19 _⟩
  have ek : VI m c (dr main_v47) = joined (batch (m (tcLoc c main_arg0)) (m (tcLoc c main_arg2)) (m (tcLoc c main_arg4)) (m (tcLoc c main_arg6)) (m (tcLoc c main_arg7)) (m (tcLoc c main_arg8)) (m (tcLoc c main_arg9)) (m (tcLoc c main_arg10)) (m (tcLoc c main_arg11)) (m (tcLoc c main_arg12)) (m (tcLoc c main_arg13)) (m (tcLoc c main_arg14)) (m (tcLoc c main_arg15)) (m (tcLoc c main_arg16)) (m (tcLoc c main_arg17)) (m (tcLoc c main_arg18)) (m (tcLoc c main_arg19)))
      (batch (m (tcLoc c main_arg1)) (m (tcLoc c main_arg3)) (m (tcLoc c main_arg5)) (m (tcLoc c main_arg6)) (m (tcLoc c main_arg7)) (m (tcLoc c main_arg8)) (m (tcLoc c main_arg9)) (m (tcLoc c main_arg10)) (m (tcLoc c main_arg11)) (m (tcLoc c main_arg12)) (m (tcLoc c main_arg13)) (m (tcLoc c main_arg14)) (m (tcLoc c main_arg15)) (m (tcLoc c main_arg16)) (m (tcLoc c main_arg17)) (m (tcLoc c main_arg18)) (m (tcLoc c main_arg19))) :=
    (VI_v47 m c).trans (congrArg₂ joined ((half2 m c).trans (batch_eq (hw := hw) (hq := f0) (ht := f2) (hi := f4)).symm)
      ((half3 m c).trans (batch_eq (hw := hw) (hq := f1) (ht := f3) (hi := f5)).symm))
  have e0 := batch_congr g0 g2 g4 g6 g7 g8 g9 g10 g11 g12 g13 g14 g15 g16 g17 g18 g19
  have e1 := batch_congr g1 g3 g5 g6 g7 g8 g9 g10 g11 g12 g13 g14 g15 g16 g17 g18 g19
  exact Eq.trans (by rfl) ((congrArg₂ joined e0 e1).trans ek.symm)

end Cert.Proof.Claims

end
-- ==== Proof.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_indices_in_range
public import proofs.«01_k».proof.Proof.Gen.Pre_finite_and_in_range
public import proofs.«01_k».proof.Proof.Claims

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_indices_in_range.Gen.facts,
  Cert.Pre_finite_and_in_range.Gen.facts, Claims.frame_kernel, Claims.frame_ideal, Claims.frame_ideal_finite, Claims.frame_reference,
  Claims.frame_reference_finite, trivial, Claims.algebraic⟩

end Cert.Proof

end
